-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S20000x4 : Shape := ⟨2, ![20000, 4]⟩
abbrev S20000 : Shape := ⟨1, ![20000]⟩
abbrev S_ : Shape := ⟨0, ![]⟩
abbrev S20000x2 : Shape := ⟨2, ![20000, 2]⟩

class Facts : Prop where
  bcast_S_S20000x4 : S_.BroadcastsInDim S20000x4 (![] : Fin 0 → Fin S20000x4.rank)
  slices_S20000x4_S20000x2_0_2 : S20000x4.Slices ![0, 2] S20000x2
  slices_S20000x4_S20000x2_0_0 : S20000x4.Slices ![0, 0] S20000x2
  bcast_S_S20000x2 : S_.BroadcastsInDim S20000x2 (![] : Fin 0 → Fin S20000x2.rank)
  bcast_S_S20000 : S_.BroadcastsInDim S20000 (![] : Fin 0 → Fin S20000.rank)
  reducesTo_S20000x4_S_d0_1 : S20000x4.ReducesTo [0, 1] S_
  h_S_ : 0 < S_.numel
  reducesTo_S20000x2_S_d0_1 : S20000x2.ReducesTo [0, 1] S_
  reducesTo_S20000_S_d0 : S20000.ReducesTo [0] S_

variable [Facts]

def fn_part1 {F : FTy → Type} [FloatOps F] (main_v14 : IVec S20000 1) (main_v15 : IVec S_ 1) (main_v16 : IVec S_ 1) : IVec S_ 1 :=
  let main_v17 : IVec S_ 1 := andi main_v15 main_v16
  let main_c_5 : IVec S_ 1 := constantI S_ 1 1#1
  let main_v18 : IVec S_ 1 := (fun x v => Host.reduce IntOp.andi x v reducesTo_S20000_S_d0 h_S_) main_v14 main_c_5
  let main_v19 : IVec S_ 1 := andi main_v17 main_v18
  main_v19

def fn {F : FTy → Type} [FloatOps F] (main_arg0 : FVec F S20000x4 .f32) (main_arg1 : IVec S20000 32) : IVec S_ 1 :=
  let main_cst : FVec F S_ .f32 := constant S_ .f32 0x00000000#32
  let main_v0 : FVec F S20000x4 .f32 := broadcastInDim S20000x4 ![] bcast_S_S20000x4 main_cst
  let main_v1 : IVec S20000x4 1 := cmpf .oge main_arg0 main_v0
  let main_cst_0 : FVec F S_ .f32 := constant S_ .f32 0x44480000#32
  let main_v2 : FVec F S20000x4 .f32 := broadcastInDim S20000x4 ![] bcast_S_S20000x4 main_cst_0
  let main_v3 : IVec S20000x4 1 := cmpf .ole main_arg0 main_v2
  let main_v4 : IVec S20000x4 1 := andi main_v1 main_v3
  let main_v5 : FVec F S20000x2 .f32 := (extractStridedSlice S20000x2 ![0, 2] · slices_S20000x4_S20000x2_0_2) main_arg0
  let main_v6 : FVec F S20000x2 .f32 := (extractStridedSlice S20000x2 ![0, 0] · slices_S20000x4_S20000x2_0_0) main_arg0
  let main_v7 : FVec F S20000x2 .f32 := subf main_v5 main_v6
  let main_cst_1 : FVec F S_ .f32 := constant S_ .f32 0x3F000000#32
  let main_v8 : FVec F S20000x2 .f32 := broadcastInDim S20000x2 ![] bcast_S_S20000x2 main_cst_1
  let main_v9 : IVec S20000x2 1 := cmpf .oge main_v7 main_v8
  let main_c : IVec S_ 32 := constantI S_ 32 0#32
  let main_v10 : IVec S20000 32 := broadcastInDim S20000 ![] bcast_S_S20000 main_c
  let main_v11 : IVec S20000 1 := cmpi .sge main_arg1 main_v10
  let main_c_2 : IVec S_ 32 := constantI S_ 32 1065353216#32
  let main_v12 : IVec S20000 32 := broadcastInDim S20000 ![] bcast_S_S20000 main_c_2
  let main_v13 : IVec S20000 1 := cmpi .slt main_arg1 main_v12
  let main_v14 : IVec S20000 1 := andi main_v11 main_v13
  let main_c_3 : IVec S_ 1 := constantI S_ 1 1#1
  let main_v15 : IVec S_ 1 := (fun x v => Host.reduce IntOp.andi x v reducesTo_S20000x4_S_d0_1 h_S_) main_v4 main_c_3
  let main_c_4 : IVec S_ 1 := constantI S_ 1 1#1
  let main_v16 : IVec S_ 1 := (fun x v => Host.reduce IntOp.andi x v reducesTo_S20000x2_S_d0_1 h_S_) main_v9 main_c_4
  fn_part1 (F := F) main_v14 main_v15 main_v16
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S20224 : Shape := ⟨1, ![20224]⟩
abbrev S500 : Shape := ⟨1, ![500]⟩
abbrev S1264 : Shape := ⟨1, ![1264]⟩
abbrev S16 : Shape := ⟨1, ![16]⟩
abbrev S256 : Shape := ⟨1, ![256]⟩
abbrev S100x5 : Shape := ⟨2, ![100, 5]⟩

abbrev nBuf : Table → Nat
  | .hbm => 28
  | .shared => 2
  | .local .scVector .vmem => 13
  | _ => 0

abbrev bufTy : (tb : Table) → Fin (nBuf tb) → BufTy
  | .hbm, ⟨0, _⟩ => ⟨S20000x4, .f32⟩
  | .hbm, ⟨1, _⟩ => ⟨S20000, .i32⟩
  | .hbm, ⟨2, _⟩ => ⟨S20000x1, .f32⟩
  | .hbm, ⟨3, _⟩ => ⟨S20000, .f32⟩
  | .hbm, ⟨4, _⟩ => ⟨S_, .i32⟩
  | .hbm, ⟨5, _⟩ => ⟨S_, .f32⟩
  | .hbm, ⟨6, _⟩ => ⟨S20224, .f32⟩
  | .hbm, ⟨7, _⟩ => ⟨S20000x1, .f32⟩
  | .hbm, ⟨8, _⟩ => ⟨S20000, .f32⟩
  | .hbm, ⟨9, _⟩ => ⟨S_, .i32⟩
  | .hbm, ⟨10, _⟩ => ⟨S_, .f32⟩
  | .hbm, ⟨11, _⟩ => ⟨S20224, .f32⟩
  | .hbm, ⟨12, _⟩ => ⟨S20000x1, .f32⟩
  | .hbm, ⟨13, _⟩ => ⟨S20000, .f32⟩
  | .hbm, ⟨14, _⟩ => ⟨S_, .i32⟩
  | .hbm, ⟨15, _⟩ => ⟨S_, .f32⟩
  | .hbm, ⟨16, _⟩ => ⟨S20224, .f32⟩
  | .hbm, ⟨17, _⟩ => ⟨S20000x1, .f32⟩
  | .hbm, ⟨18, _⟩ => ⟨S20000, .f32⟩
  | .hbm, ⟨19, _⟩ => ⟨S_, .i32⟩
  | .hbm, ⟨20, _⟩ => ⟨S_, .f32⟩
  | .hbm, ⟨21, _⟩ => ⟨S20224, .f32⟩
  | .hbm, ⟨22, _⟩ => ⟨S_, .i32⟩
  | .hbm, ⟨23, _⟩ => ⟨S_, .i32⟩
  | .hbm, ⟨24, _⟩ => ⟨S20224, .i32⟩
  | .hbm, ⟨25, _⟩ => ⟨S20224, .f32⟩
  | .hbm, ⟨26, _⟩ => ⟨S500, .f32⟩
  | .hbm, ⟨27, _⟩ => ⟨S100x5, .f32⟩
  | .shared, ⟨0, _⟩ => ⟨S256, .i32⟩
  | .shared, ⟨1, _⟩ => ⟨S256, .f32⟩
  | .local .scVector .vmem, ⟨0, _⟩ => ⟨S1264, .f32⟩
  | .local .scVector .vmem, ⟨1, _⟩ => ⟨S1264, .f32⟩
  | .local .scVector .vmem, ⟨2, _⟩ => ⟨S1264, .f32⟩
  | .local .scVector .vmem, ⟨3, _⟩ => ⟨S1264, .f32⟩
  | .local .scVector .vmem, ⟨4, _⟩ => ⟨S1264, .f32⟩
  | .local .scVector .vmem, ⟨5, _⟩ => ⟨S1264, .i32⟩
  | .local .scVector .vmem, ⟨6, _⟩ => ⟨S1264, .i32⟩
  | .local .scVector .vmem, ⟨7, _⟩ => ⟨S16, .i32⟩
  | .local .scVector .vmem, ⟨8, _⟩ => ⟨S256, .i32⟩
  | .local .scVector .vmem, ⟨9, _⟩ => ⟨S500, .f32⟩
  | .local .scVector .vmem, ⟨10, _⟩ => ⟨S1264, .f32⟩
  | .local .scVector .vmem, ⟨11, _⟩ => ⟨S16, .f32⟩
  | .local .scVector .vmem, ⟨12, _⟩ => ⟨S256, .f32⟩
  | _, _ => ⟨S20000x4, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 5 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call2_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call3_v0 : Ref sig .tc := ⟨.hbm, 20, rfl⟩
abbrev main_v11 : Ref sig .tc := ⟨.hbm, 21, rfl⟩
abbrev main_c_3 : Ref sig .tc := ⟨.hbm, 22, rfl⟩
abbrev main_call4_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v2_scv : Ref sig .scVector := ⟨.hbm, 6, rfl⟩
abbrev main_v5_scv : Ref sig .scVector := ⟨.hbm, 11, rfl⟩
abbrev main_v8_scv : Ref sig .scVector := ⟨.hbm, 16, rfl⟩
abbrev main_v11_scv : Ref sig .scVector := ⟨.hbm, 21, rfl⟩
abbrev main_v12_scv : Ref sig .scVector := ⟨.hbm, 24, rfl⟩
abbrev main_v13_scv : Ref sig .scVector := ⟨.hbm, 25, rfl⟩
abbrev main_v14_scv : Ref sig .scVector := ⟨.hbm, 26, rfl⟩
abbrev cc0_scratch10 : Ref sig .scVector := ⟨.shared, 0, rfl⟩
abbrev cc0_scratch14 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch11 : Ref sig .scVector := ⟨.vmem, 10, rfl⟩
abbrev cc0_scratch12 : Ref sig .scVector := ⟨.vmem, 11, rfl⟩
abbrev cc0_scratch13 : Ref sig .scVector := ⟨.vmem, 12, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c1264_i32 : BitVec 32 := 1264#32
  let v3 : BitVec 32 := Scalar.muli arg1 c1264_i32
  ![v3.toNat]
@[reducible] def k0_t1_loop : Scf.Loop 32 :=
  let c0_i32_1 : BitVec 32 := 0#32
  let c79_i32 : BitVec 32 := 79#32
  let v4 : BitVec 32 := Scalar.addi c0_i32_1 c79_i32
  let c1_i32 : BitVec 32 := 1#32
  ⟨c0_i32_1, v4, c1_i32⟩
def k0_off2 (k0_t1 : Fin k0_t1_loop.trips) : Fin 1 → Nat :=
  let c0_i32_1 : BitVec 32 := 0#32
  let c1_i32 : BitVec 32 := 1#32
  let arg24 : BitVec 32 := Scf.iv c0_i32_1 c1_i32 k0_t1
  let c16_i32_34 : BitVec 32 := 16#32
  let v48 : BitVec 32 := Scalar.muli arg24 c16_i32_34
  let v49 : Index := Scalar.indexCast v48
  ![v49.toNat]
@[reducible] def k0_t2_loop : Scf.Loop 32 :=
  let c0_i32_4 : BitVec 32 := 0#32
  let c30_i32 : BitVec 32 := 30#32
  let v5 : BitVec 32 := Scalar.addi c0_i32_4 c30_i32
  let c1_i32_5 : BitVec 32 := 1#32
  ⟨c0_i32_4, v5, c1_i32_5⟩
@[reducible] def k0_t3_loop : Scf.Loop 32 :=
  let c0_i32_36 : BitVec 32 := 0#32
  let c79_i32_37 : BitVec 32 := 79#32
  let v50 : BitVec 32 := Scalar.addi c0_i32_36 c79_i32_37
  let c1_i32_38 : BitVec 32 := 1#32
  ⟨c0_i32_36, v50, c1_i32_38⟩
def k0_off3 (k0_t3 : Fin k0_t3_loop.trips) : Fin 1 → Nat :=
  let c0_i32_36 : BitVec 32 := 0#32
  let c1_i32_38 : BitVec 32 := 1#32
  let arg27 : BitVec 32 := Scf.iv c0_i32_36 c1_i32_38 k0_t3
  let c16_i32_49 : BitVec 32 := 16#32
  let v68 : BitVec 32 := Scalar.muli arg27 c16_i32_49
  let v69 : Index := Scalar.indexCast v68
  ![v69.toNat]
def k0_off4 (i : grid0.Coords) : Fin 1 → Nat :=
  let arg1 : BitVec 32 := BitVec.ofNat 32 (i 1).val
  let c16_i32_43 : BitVec 32 := 16#32
  let v58 : BitVec 32 := Scalar.muli arg1 c16_i32_43
  ![v58.toNat]

def k0_chk1 (v60 : IVec S16 32) : Prop :=
  (∀ a x, ((![v60] : Fin 1 → IVec S16 32) a x).toNat < S256.size a)
theorem k0_idx1_inb : ∀ (v60 : IVec S16 32) (k0_hw1 : k0_chk1 v60), ∀ a x, ((![v60] : Fin 1 → IVec S16 32) a x).toNat < S256.size a := fun v60 k0_hw1 => k0_hw1
@[reducible] def k0_t4_loop : Scf.Loop 32 :=
  let c0_i32_9 : BitVec 32 := 0#32
  let c79_i32_10 : BitVec 32 := 79#32
  let v7 : BitVec 32 := Scalar.addi c0_i32_9 c79_i32_10
  let c1_i32_11 : BitVec 32 := 1#32
  ⟨c0_i32_9, v7, c1_i32_11⟩
def k0_off5 (k0_t4 : Fin k0_t4_loop.trips) : Fin 1 → Nat :=
  let c0_i32_9 : BitVec 32 := 0#32
  let c1_i32_11 : BitVec 32 := 1#32
  let arg24 : BitVec 32 := Scf.iv c0_i32_9 c1_i32_11 k0_t4
  let c16_i32_34 : BitVec 32 := 16#32
  let v48 : BitVec 32 := Scalar.muli arg24 c16_i32_34
  let v49 : Index := Scalar.indexCast v48
  ![v49.toNat]
def k0_off6 (i : grid0.Coords) : Fin 1 → Nat :=
  let arg1 : BitVec 32 := BitVec.ofNat 32 (i 1).val
  let c16_i32 : BitVec 32 := 16#32
  let v19 : BitVec 32 := Scalar.muli arg1 c16_i32
  ![v19.toNat]

def k0_chk2 (v21 : IVec S16 32) : Prop :=
  (∀ a x, ((![v21] : Fin 1 → IVec S16 32) a x).toNat < S256.size a)
theorem k0_idx2_inb : ∀ (v21 : IVec S16 32) (k0_hw2 : k0_chk2 v21), ∀ a x, ((![v21] : Fin 1 → IVec S16 32) a x).toNat < S256.size a := fun v21 k0_hw2 => k0_hw2

def k0_chk3 (v26 : IVec S16 32) : Prop :=
  (∀ a x, ((![v26] : Fin 1 → IVec S16 32) a x).toNat < S256.size a)
theorem k0_idx3_inb : ∀ (v26 : IVec S16 32) (k0_hw3 : k0_chk3 v26), ∀ a x, ((![v26] : Fin 1 → IVec S16 32) a x).toNat < S256.size a := fun v26 k0_hw3 => k0_hw3
@[reducible] def k0_t5_loop : Scf.Loop 32 :=
  let c0_i32_24 : BitVec 32 := 0#32
  let c79_i32_25 : BitVec 32 := 79#32
  let v39 : BitVec 32 := Scalar.addi c0_i32_24 c79_i32_25
  let c1_i32_26 : BitVec 32 := 1#32
  ⟨c0_i32_24, v39, c1_i32_26⟩
def k0_off7 (k0_t5 : Fin k0_t5_loop.trips) : Fin 1 → Nat :=
  let c0_i32_24 : BitVec 32 := 0#32
  let c1_i32_26 : BitVec 32 := 1#32
  let arg24 : BitVec 32 := Scf.iv c0_i32_24 c1_i32_26 k0_t5
  let c16_i32_34 : BitVec 32 := 16#32
  let v48 : BitVec 32 := Scalar.muli arg24 c16_i32_34
  let v49 : Index := Scalar.indexCast v48
  ![v49.toNat]
@[reducible] def k0_t6_loop : Scf.Loop 32 :=
  let c0_i32_28 : BitVec 32 := 0#32
  let c100_i32 : BitVec 32 := 100#32
  let v41 : BitVec 32 := Scalar.addi c0_i32_28 c100_i32
  let c1_i32_29 : BitVec 32 := 1#32
  ⟨c0_i32_28, v41, c1_i32_29⟩
@[reducible] def k0_t7_loop : Scf.Loop 32 :=
  let c0_i32_34 : BitVec 32 := 0#32
  let c79_i32_35 : BitVec 32 := 79#32
  let v49 : BitVec 32 := Scalar.addi c0_i32_34 c79_i32_35
  let c1_i32_36 : BitVec 32 := 1#32
  ⟨c0_i32_34, v49, c1_i32_36⟩
def k0_off8 (k0_t7 : Fin k0_t7_loop.trips) : Fin 1 → Nat :=
  let c0_i32_34 : BitVec 32 := 0#32
  let c1_i32_36 : BitVec 32 := 1#32
  let arg26 : BitVec 32 := Scf.iv c0_i32_34 c1_i32_36 k0_t7
  let c16_i32_78 : BitVec 32 := 16#32
  let v164 : BitVec 32 := Scalar.muli arg26 c16_i32_78
  let v165 : Index := Scalar.indexCast v164
  ![v165.toNat]

def k0_chk4 (v70 : IVec S16 32) : Prop :=
  (∀ a x, ((![v70] : Fin 1 → IVec S16 32) a x).toNat < S1264.size a) ∧
  (∀ a x, ((![v70] : Fin 1 → IVec S16 32) a x).toNat < S1264.size a) ∧
  (∀ a x, ((![v70] : Fin 1 → IVec S16 32) a x).toNat < S1264.size a) ∧
  (∀ a x, ((![v70] : Fin 1 → IVec S16 32) a x).toNat < S1264.size a) ∧
  (∀ a x, ((![v70] : Fin 1 → IVec S16 32) a x).toNat < S1264.size a)
theorem k0_idx4_inb : ∀ (v70 : IVec S16 32) (k0_hw4 : k0_chk4 v70), ∀ a x, ((![v70] : Fin 1 → IVec S16 32) a x).toNat < S1264.size a := fun v70 k0_hw4 => k0_hw4.1
theorem k0_idx5_inb : ∀ (v70 : IVec S16 32) (k0_hw4 : k0_chk4 v70), ∀ a x, ((![v70] : Fin 1 → IVec S16 32) a x).toNat < S1264.size a := fun v70 k0_hw4 => k0_hw4.2.1
theorem k0_idx6_inb : ∀ (v70 : IVec S16 32) (k0_hw4 : k0_chk4 v70), ∀ a x, ((![v70] : Fin 1 → IVec S16 32) a x).toNat < S1264.size a := fun v70 k0_hw4 => k0_hw4.2.2.1
theorem k0_idx7_inb : ∀ (v70 : IVec S16 32) (k0_hw4 : k0_chk4 v70), ∀ a x, ((![v70] : Fin 1 → IVec S16 32) a x).toNat < S1264.size a := fun v70 k0_hw4 => k0_hw4.2.2.2.1
theorem k0_idx8_inb : ∀ (v70 : IVec S16 32) (k0_hw4 : k0_chk4 v70), ∀ a x, ((![v70] : Fin 1 → IVec S16 32) a x).toNat < S1264.size a := fun v70 k0_hw4 => k0_hw4.2.2.2.2
def k0_off9 (i : grid0.Coords) : Fin 1 → Nat :=
  let arg1 : BitVec 32 := BitVec.ofNat 32 (i 1).val
  let c16_i32_48 : BitVec 32 := 16#32
  let v95 : BitVec 32 := Scalar.muli arg1 c16_i32_48
  ![v95.toNat]

def k0_chk5 (v98 : IVec S16 32) : Prop :=
  (∀ a x, ((![v98] : Fin 1 → IVec S16 32) a x).toNat < S256.size a)
theorem k0_idx9_inb : ∀ (v98 : IVec S16 32) (k0_hw5 : k0_chk5 v98), ∀ a x, ((![v98] : Fin 1 → IVec S16 32) a x).toNat < S256.size a := fun v98 k0_hw5 => k0_hw5

def k0_chk6 (v120 : IVec S16 32) : Prop :=
  (∀ a x, ((![v120] : Fin 1 → IVec S16 32) a x).toNat < S256.size a)
theorem k0_idx10_inb : ∀ (v120 : IVec S16 32) (k0_hw6 : k0_chk6 v120), ∀ a x, ((![v120] : Fin 1 → IVec S16 32) a x).toNat < S256.size a := fun v120 k0_hw6 => k0_hw6

def k0_chk7 (v125 : IVec S16 32) : Prop :=
  (∀ a x, ((![v125] : Fin 1 → IVec S16 32) a x).toNat < S256.size a)
theorem k0_idx11_inb : ∀ (v125 : IVec S16 32) (k0_hw7 : k0_chk7 v125), ∀ a x, ((![v125] : Fin 1 → IVec S16 32) a x).toNat < S256.size a := fun v125 k0_hw7 => k0_hw7

def k0_chk8 (v130 : IVec S16 32) : Prop :=
  (∀ a x, ((![v130] : Fin 1 → IVec S16 32) a x).toNat < S256.size a)
theorem k0_idx12_inb : ∀ (v130 : IVec S16 32) (k0_hw8 : k0_chk8 v130), ∀ a x, ((![v130] : Fin 1 → IVec S16 32) a x).toNat < S256.size a := fun v130 k0_hw8 => k0_hw8

def k0_chk9 (v135 : IVec S16 32) : Prop :=
  (∀ a x, ((![v135] : Fin 1 → IVec S16 32) a x).toNat < S256.size a)
theorem k0_idx13_inb : ∀ (v135 : IVec S16 32) (k0_hw9 : k0_chk9 v135), ∀ a x, ((![v135] : Fin 1 → IVec S16 32) a x).toNat < S256.size a := fun v135 k0_hw9 => k0_hw9
@[reducible] def k0_t8_loop : Scf.Loop 32 :=
  let c0_i32_65 : BitVec 32 := 0#32
  let c79_i32_66 : BitVec 32 := 79#32
  let v140 : BitVec 32 := Scalar.addi c0_i32_65 c79_i32_66
  let c1_i32_67 : BitVec 32 := 1#32
  ⟨c0_i32_65, v140, c1_i32_67⟩
def k0_off10 (k0_t8 : Fin k0_t8_loop.trips) : Fin 1 → Nat :=
  let c0_i32_65 : BitVec 32 := 0#32
  let c1_i32_67 : BitVec 32 := 1#32
  let arg26 : BitVec 32 := Scf.iv c0_i32_65 c1_i32_67 k0_t8
  let c16_i32_78 : BitVec 32 := 16#32
  let v164 : BitVec 32 := Scalar.muli arg26 c16_i32_78
  let v165 : Index := Scalar.indexCast v164
  ![v165.toNat]

def k0_chk10 (v149 : IVec S16 32) : Prop :=
  (∀ a x, ((![v149] : Fin 1 → IVec S16 32) a x).toNat < S256.size a)
theorem k0_idx14_inb : ∀ (v149 : IVec S16 32) (k0_hw10 : k0_chk10 v149), ∀ a x, ((![v149] : Fin 1 → IVec S16 32) a x).toNat < S256.size a := fun v149 k0_hw10 => k0_hw10

def k0_chk11 (v161 : IVec S16 32) : Prop :=
  (∀ a x, ((![v161] : Fin 1 → IVec S16 32) a x).toNat < S500.size a)
theorem k0_idx15_inb : ∀ (v161 : IVec S16 32) (k0_hw11 : k0_chk11 v161), ∀ a x, ((![v161] : Fin 1 → IVec S16 32) a x).toNat < S500.size a := fun v161 k0_hw11 => k0_hw11
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S2000 : Shape := ⟨1, ![2000]⟩
abbrev S_ : Shape := ⟨0, ![]⟩
abbrev S2000x1 : Shape := ⟨2, ![2000, 1]⟩
abbrev S2000x4 : Shape := ⟨2, ![2000, 4]⟩
abbrev S2000x5 : Shape := ⟨2, ![2000, 5]⟩
abbrev S100x5 : Shape := ⟨2, ![100, 5]⟩
abbrev S1x5 : Shape := ⟨2, ![1, 5]⟩
abbrev S1x1 : Shape := ⟨2, ![1, 1]⟩
abbrev S1 : Shape := ⟨1, ![1]⟩

abbrev nBuf : Space → Nat
  | .hbm => 145
  | .vmem => 0
  | .smem => 0
  | _ => 0

abbrev hbmTy0_0 (i : Nat) : BufTy := match i % 128 with
  | 0 => ⟨S20000x4, .f32⟩
  | 1 => ⟨S20000, .i32⟩
  | 2 => ⟨S20000, .f32⟩
  | 3 => ⟨S2000, .f32⟩
  | 4 => ⟨S2000, .i32⟩
  | 5 => ⟨S_, .i32⟩
  | 6 => ⟨S2000, .i32⟩
  | 7 => ⟨S2000, .i1⟩
  | 8 => ⟨S_, .i32⟩
  | 9 => ⟨S2000, .i32⟩
  | 10 => ⟨S2000, .i32⟩
  | 11 => ⟨S2000, .i32⟩
  | 12 => ⟨S2000x1, .i32⟩
  | 13 => ⟨S2000x4, .f32⟩
  | 14 => ⟨S2000x1, .f32⟩
  | 15 => ⟨S2000x5, .f32⟩
  | 16 => ⟨S2000, .i32⟩
  | 17 => ⟨S_, .f32⟩
  | 18 => ⟨S100x5, .f32⟩
  | 19 => ⟨S_, .i32⟩
  | 20 => ⟨S_, .i32⟩
  | 21 => ⟨S2000, .i32⟩
  | 22 => ⟨S2000x5, .f32⟩
  | 23 => ⟨S2000x4, .f32⟩
  | 24 => ⟨S_, .i32⟩
  | 25 => ⟨S_, .i32⟩
  | 26 => ⟨S2000, .f32⟩
  | 27 => ⟨S100x5, .f32⟩
  | 28 => ⟨S_, .i32⟩
  | 29 => ⟨S_, .i1⟩
  | 30 => ⟨S_, .i32⟩
  | 31 => ⟨S_, .i32⟩
  | 32 => ⟨S_, .f32⟩
  | 33 => ⟨S_, .f32⟩
  | 34 => ⟨S2000, .f32⟩
  | 35 => ⟨S2000, .i1⟩
  | 36 => ⟨S_, .i32⟩
  | 37 => ⟨S_, .i32⟩
  | 38 => ⟨S2000, .i32⟩
  | 39 => ⟨S2000, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S1x5, .f32⟩
  | 56 => ⟨S1x1, .f32⟩
  | 57 => ⟨S1, .f32⟩
  | 58 => ⟨S2000x1, .f32⟩
  | 59 => ⟨S2000, .f32⟩
  | 60 => ⟨S2000, .f32⟩
  | 61 => ⟨S2000, .f32⟩
  | 62 => ⟨S1x1, .f32⟩
  | 63 => ⟨S1, .f32⟩
  | 64 => ⟨S2000x1, .f32⟩
  | 65 => ⟨S2000, .f32⟩
  | 66 => ⟨S2000, .f32⟩
  | 67 => ⟨S2000, .f32⟩
  | 68 => ⟨S1x1, .f32⟩
  | 69 => ⟨S1, .f32⟩
  | 70 => ⟨S2000x1, .f32⟩
  | 71 => ⟨S2000, .f32⟩
  | 72 => ⟨S2000, .f32⟩
  | 73 => ⟨S2000, .f32⟩
  | 74 => ⟨S1x1, .f32⟩
  | 75 => ⟨S1, .f32⟩
  | 76 => ⟨S2000x1, .f32⟩
  | 77 => ⟨S2000, .f32⟩
  | 78 => ⟨S2000, .f32⟩
  | 79 => ⟨S2000, .f32⟩
  | 80 => ⟨S2000, .f32⟩
  | 81 => ⟨S_, .f32⟩
  | 82 => ⟨S2000, .f32⟩
  | 83 => ⟨S2000, .f32⟩
  | 84 => ⟨S2000, .f32⟩
  | 85 => ⟨S_, .f32⟩
  | 86 => ⟨S2000, .f32⟩
  | 87 => ⟨S2000, .f32⟩
  | 88 => ⟨S2000, .f32⟩
  | 89 => ⟨S1x1, .f32⟩
  | 90 => ⟨S1, .f32⟩
  | 91 => ⟨S1x1, .f32⟩
  | 92 => ⟨S1, .f32⟩
  | 93 => ⟨S1, .f32⟩
  | 94 => ⟨S1x1, .f32⟩
  | 95 => ⟨S1, .f32⟩
  | 96 => ⟨S1x1, .f32⟩
  | 97 => ⟨S1, .f32⟩
  | 98 => ⟨S1, .f32⟩
  | 99 => ⟨S1, .f32⟩
  | 100 => ⟨S2000x1, .f32⟩
  | 101 => ⟨S2000, .f32⟩
  | 102 => ⟨S2000x1, .f32⟩
  | 103 => ⟨S2000, .f32⟩
  | 104 => ⟨S2000, .f32⟩
  | 105 => ⟨S2000x1, .f32⟩
  | 106 => ⟨S2000, .f32⟩
  | 107 => ⟨S2000x1, .f32⟩
  | 108 => ⟨S2000, .f32⟩
  | 109 => ⟨S2000, .f32⟩
  | 110 => ⟨S2000, .f32⟩
  | 111 => ⟨S2000, .f32⟩
  | 112 => ⟨S2000, .f32⟩
  | 113 => ⟨S2000, .f32⟩
  | 114 => ⟨S_, .f32⟩
  | 115 => ⟨S2000, .f32⟩
  | 116 => ⟨S2000, .f32⟩
  | 117 => ⟨S2000, .f32⟩
  | 118 => ⟨S_, .f32⟩
  | 119 => ⟨S2000, .f32⟩
  | 120 => ⟨S2000, .i1⟩
  | 121 => ⟨S2000, .i32⟩
  | 122 => ⟨S2000, .i1⟩
  | 123 => ⟨S2000, .i1⟩
  | 124 => ⟨S_, .f32⟩
  | 125 => ⟨S_, .f32⟩
  | 126 => ⟨S2000, .f32⟩
  | 127 => ⟨S2000, .f32⟩
  | _ => ⟨S20000x4, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S100x5, .f32⟩
  | 15 => ⟨S_, .i32⟩
  | 16 => ⟨S_, .i32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c_1 : Ref sig .tc := ⟨.hbm, 19, rfl⟩
abbrev main_c_2 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev main_v12_6 : Ref sig .tc := ⟨.hbm, 27, rfl⟩
abbrev main_while0c_c_9 : Ref sig .tc := ⟨.hbm, 28, rfl⟩
abbrev main_while0c_v13 : Ref sig .tc := ⟨.hbm, 29, rfl⟩
abbrev main_while0b_c_9 : Ref sig .tc := ⟨.hbm, 30, rfl⟩
abbrev main_while0b_v13 : Ref sig .tc := ⟨.hbm, 31, rfl⟩
abbrev main_while0b_cst_10 : Ref sig .tc := ⟨.hbm, 32, rfl⟩
abbrev main_while0b_v14 : Ref sig .tc := ⟨.hbm, 33, rfl⟩
abbrev main_while0b_v15 : Ref sig .tc := ⟨.hbm, 34, rfl⟩
abbrev main_while0b_v16 : Ref sig .tc := ⟨.hbm, 35, rfl⟩
abbrev main_while0b_c_11 : Ref sig .tc := ⟨.hbm, 36, rfl⟩
abbrev main_while0b_call0_v0 : Ref sig .tc := ⟨.hbm, 37, rfl⟩
abbrev main_while0b_call0_v1 : Ref sig .tc := ⟨.hbm, 38, rfl⟩
abbrev main_while0b_v17 : Ref sig .tc := ⟨.hbm, 39, rfl⟩
abbrev main_while0b_c_12 : Ref sig .tc := ⟨.hbm, 40, rfl⟩
abbrev main_while0b_v18 : Ref sig .tc := ⟨.hbm, 41, rfl⟩
abbrev main_while0b_c_13 : Ref sig .tc := ⟨.hbm, 42, rfl⟩
abbrev main_while0b_v19 : Ref sig .tc := ⟨.hbm, 43, rfl⟩
abbrev main_while0b_c_14 : Ref sig .tc := ⟨.hbm, 44, rfl⟩
abbrev main_while0b_v20 : Ref sig .tc := ⟨.hbm, 45, rfl⟩
abbrev main_while0b_v21 : Ref sig .tc := ⟨.hbm, 46, rfl⟩
abbrev main_while0b_c_15 : Ref sig .tc := ⟨.hbm, 47, rfl⟩
abbrev main_while0b_c_16 : Ref sig .tc := ⟨.hbm, 48, rfl⟩
abbrev main_while0b_v22 : Ref sig .tc := ⟨.hbm, 49, rfl⟩
abbrev main_while0b_c_17 : Ref sig .tc := ⟨.hbm, 50, rfl⟩
abbrev main_while0b_c_18 : Ref sig .tc := ⟨.hbm, 51, rfl⟩
abbrev main_while0b_v23 : Ref sig .tc := ⟨.hbm, 52, rfl⟩
abbrev main_while0b_c_19 : Ref sig .tc := ⟨.hbm, 53, rfl⟩
abbrev main_while0b_v24 : Ref sig .tc := ⟨.hbm, 54, rfl⟩
abbrev main_while0b_v25 : Ref sig .tc := ⟨.hbm, 55, rfl⟩
abbrev main_while0b_v26 : Ref sig .tc := ⟨.hbm, 56, rfl⟩
abbrev main_while0b_v27 : Ref sig .tc := ⟨.hbm, 57, rfl⟩
abbrev main_while0b_v28 : Ref sig .tc := ⟨.hbm, 58, rfl⟩
abbrev main_while0b_v29 : Ref sig .tc := ⟨.hbm, 59, rfl⟩
abbrev main_while0b_v30 : Ref sig .tc := ⟨.hbm, 60, rfl⟩
abbrev main_while0b_v31 : Ref sig .tc := ⟨.hbm, 61, rfl⟩
abbrev main_while0b_v32 : Ref sig .tc := ⟨.hbm, 62, rfl⟩
abbrev main_while0b_v33 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_v40 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_v49 : Ref sig .tc := ⟨.hbm, 79, rfl⟩
abbrev main_while0b_v50 : Ref sig .tc := ⟨.hbm, 80, rfl⟩
abbrev main_while0b_cst_20 : Ref sig .tc := ⟨.hbm, 81, rfl⟩
abbrev main_while0b_v51 : Ref sig .tc := ⟨.hbm, 82, rfl⟩
abbrev main_while0b_v52 : Ref sig .tc := ⟨.hbm, 83, rfl⟩
abbrev main_while0b_v53 : Ref sig .tc := ⟨.hbm, 84, rfl⟩
abbrev main_while0b_cst_21 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_v62 : Ref sig .tc := ⟨.hbm, 94, rfl⟩
abbrev main_while0b_v63 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_v78 : Ref sig .tc := ⟨.hbm, 110, rfl⟩
abbrev main_while0b_v79 : Ref sig .tc := ⟨.hbm, 111, rfl⟩
abbrev main_while0b_v80 : Ref sig .tc := ⟨.hbm, 112, rfl⟩
abbrev main_while0b_v81 : Ref sig .tc := ⟨.hbm, 113, rfl⟩
abbrev main_while0b_cst_22 : Ref sig .tc := ⟨.hbm, 114, rfl⟩
abbrev main_while0b_v82 : Ref sig .tc := ⟨.hbm, 115, rfl⟩
abbrev main_while0b_v83 : Ref sig .tc := ⟨.hbm, 116, rfl⟩
abbrev main_while0b_v84 : Ref sig .tc := ⟨.hbm, 117, rfl⟩
abbrev main_while0b_cst_23 : Ref sig .tc := ⟨.hbm, 118, rfl⟩
abbrev main_while0b_v85 : Ref sig .tc := ⟨.hbm, 119, rfl⟩
abbrev main_while0b_v86 : Ref sig .tc := ⟨.hbm, 120, rfl⟩
abbrev main_while0b_v87 : Ref sig .tc := ⟨.hbm, 121, rfl⟩
abbrev main_while0b_v88 : Ref sig .tc := ⟨.hbm, 122, rfl⟩
abbrev main_while0b_v89 : Ref sig .tc := ⟨.hbm, 123, rfl⟩
abbrev main_while0b_cst_24 : Ref sig .tc := ⟨.hbm, 124, rfl⟩
abbrev main_while0b_call1_v0 : Ref sig .tc := ⟨.hbm, 125, rfl⟩
abbrev main_while0b_call1_v1 : Ref sig .tc := ⟨.hbm, 126, rfl⟩
abbrev main_while0b_v90 : Ref sig .tc := ⟨.hbm, 127, rfl⟩
abbrev main_while0b_c_25 : Ref sig .tc := ⟨.hbm, 128, rfl⟩
abbrev main_while0b_v91 : Ref sig .tc := ⟨.hbm, 129, rfl⟩
abbrev main_while0b_v92 : Ref sig .tc := ⟨.hbm, 130, rfl⟩
abbrev main_while0b_c_26 : Ref sig .tc := ⟨.hbm, 131, rfl⟩
abbrev main_while0b_v93 : Ref sig .tc := ⟨.hbm, 132, rfl⟩
abbrev main_while0b_v94 : Ref sig .tc := ⟨.hbm, 133, rfl⟩
abbrev main_while0b_c_27 : Ref sig .tc := ⟨.hbm, 134, rfl⟩
abbrev main_while0b_c_28 : Ref sig .tc := ⟨.hbm, 135, rfl⟩
abbrev main_while0b_v95 : Ref sig .tc := ⟨.hbm, 136, rfl⟩
abbrev main_while0b_c_29 : Ref sig .tc := ⟨.hbm, 137, rfl⟩
abbrev main_while0b_c_30 : Ref sig .tc := ⟨.hbm, 138, rfl⟩
abbrev main_while0b_v96 : Ref sig .tc := ⟨.hbm, 139, rfl⟩
abbrev main_while0b_c_31 : Ref sig .tc := ⟨.hbm, 140, rfl⟩
abbrev main_while0b_v97 : Ref sig .tc := ⟨.hbm, 141, rfl⟩
abbrev main_while0b_v98 : Ref sig .tc := ⟨.hbm, 142, rfl⟩
abbrev main_while0b_c_32 : Ref sig .tc := ⟨.hbm, 143, rfl⟩
abbrev main_while0b_v99 : Ref sig .tc := ⟨.hbm, 144, rfl⟩

abbrev nD : Nat := 1
abbrev τ : Topo := Topo.v7x

variable {F : FTy → Type} [FloatOps F]

abbrev main_while0_count : Scf.Loop 32 := ⟨0#32, 100#32, 1#32⟩
-- ==== Proof.Base.lean ====
/-
  The launch set-up of the kernel: the program as the launch theorem reads it, the stages its 262 barriers are put at, the ghost
  state (the handshakes' rounds, the barrier cells' rounds, the arrival and departure counters of the tiles, the transfers'
  counters) and the barrier cells' schedule.
-/
module

public import proofs.«01_k».proof.Defs
public import Idealize.ShloMosaic.Lib.SparseCore.Quiescent
public import Idealize.ShloMosaic.Lib.SparseCore.Ops
public import Idealize.ShloMosaic.Lib.SparseCore.ProtocolKit
public import Idealize.ShloMosaic.Lib.StableHlo.Run
public import Idealize.ShloMosaic.Lib.Pipeline.Kit
public import Idealize.ShloMosaic.Lib.Tactic
public import Idealize.SL.BI.BigOpNat
public import proofs.«01_k».proof.Proof.Gen.KernelIdeal
public import proofs.«01_k».proof.Proof.Gen.KernelIdeal.Skeleton

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The stages: one per barrier -/

/-- The number of barriers a tile meets its SparseCore's others at: two per exchange, 131 exchanges. -/
abbrev NR : ℕ := 262

/-- The one call owns all the stages, one per barrier. -/
@[reducible] def blocks : Blocks 1 NR where
  first _ := ⟨0, by decide⟩
  last _ := ⟨261, by decide⟩
  fst n := if n = 0 then 0 else NR
  blk _ ι := ∃ j, ι = some j
  first_le_last _ := Fin.le_def.mpr (Nat.zero_le _)
  fst_val q := by obtain rfl : q = 0 := Subsingleton.elim _ _; rfl
  fst_le n q h := by
    have : n = 0 := by have := q.isLt; omega
    subst this; exact le_rfl
  last_lt_fst q := by rw [if_neg (Nat.succ_ne_zero _)]; decide
  blk_iff q ι := ⟨fun h => h.elim fun j e => ⟨j, Fin.le_def.mpr (Nat.zero_le _), Fin.le_def.mpr (Nat.le_of_lt_succ j.isLt), e⟩, fun h => h.elim fun j e => ⟨j, e.2.2⟩⟩

attribute [instance] blocks

/-- The stage of barrier `s`. -/
def stg (s : ℕ) : HIx NR := if h : s < NR then some ⟨s, h⟩ else none

theorem stg_lt {s : ℕ} (h : s < NR) : stg s = some ⟨s, h⟩ := dif_pos h

/-! ## The resource algebra -/

abbrev UH : Type := URounds (GSem nD τ sig) ℕ
abbrev UB : Type := URounds (GSem nD τ sig) ℕ
/-- The keys of the counters: device, SparseCore, tile, and whether it counts departures. -/
abbrev GA : Type := Dev nD × Fin τ.nSC × Fin 16 × Bool
abbrev UA : Type := URounds GA ℕ
abbrev UU : Type := UH × (UB × (UA × Counters))

abbrev MM (F : FTy → Type) : Type := MT nD τ sig (HIx NR) (Elt F) ℕ UU ℕ

abbrev EH : Emb UH (MM F) := embL
/-- The barrier cells' rounds. -/
def EB : Emb UB (MM F) :=
  ((Emb.inl : Emb UB (UB × (UA × Counters))).trans (Emb.inr : Emb (UB × (UA × Counters)) UU)).trans
    (uEmb (nD := nD) (sig := sig) (Ix := HIx NR) (Val := Elt F) (Name := ℕ) (U := UU) (Lvl := ℕ)).toEmb
/-- The tiles' counters. -/
def EA : Emb UA (MM F) :=
  (((Emb.inl : Emb UA (UA × Counters)).trans (Emb.inr : Emb (UA × Counters) (UB × (UA × Counters)))).trans (Emb.inr : Emb (UB × (UA × Counters)) UU)).trans
    (uEmb (nD := nD) (sig := sig) (Ix := HIx NR) (Val := Elt F) (Name := ℕ) (U := UU) (Lvl := ℕ)).toEmb
instance EB_landsIn : (EB : Emb UB (MM F)).LandsIn (upEmb : UEmb _ (MM F)) := by unfold EB; infer_instance
instance EA_landsIn : (EA : Emb UA (MM F)).LandsIn (upEmb : UEmb _ (MM F)) := by unfold EA; infer_instance

/-! ## The barrier cells -/

/-- Tile `(c, j)`'s barrier semaphore of device `d`. -/
abbrev bcell (d : Dev nD) (c : Fin τ.nSC) (j : Fin 16) : GSem nD τ sig := (V d c j, .reg sc_bar0)

theorem sc_bar0_ne_go : (sc_bar0 : Sem sig) ≠ sc_go := by decide

theorem lev_bcell (d : Dev nD) (c : Fin τ.nSC) (j : Fin 16) {s : ℕ} (h : s < NR) : (K (F := F)).lev (bcell d c j) (stg s) = 8 * s + 3 := by
  rw [stg_lt h]
  exact (K (F := F)).lev_V_reg (N := NR) d c j (show (sc_bar0 : Sem sig) ≠ (K (F := F)).go from sc_bar0_ne_go) ⟨s, h⟩

def isBar (g : GSem nD τ sig) : Bool :=
  match g with
  | ((_, .scVector _ _), sm) => decide (sm = .reg sc_bar0)
  | _ => false

@[simp] theorem isBar_bcell (d : Dev nD) (c : Fin τ.nSC) (j : Fin 16) : isBar (bcell d c j) = true := by simp [isBar]

/-- The counter of tile `i`'s arrivals; of its departures. -/
abbrev arr (d : Dev nD) (c : Fin τ.nSC) (i : Fin 16) : GA := (d, c, i, false)
abbrev pas (d : Dev nD) (c : Fin τ.nSC) (i : Fin 16) : GA := (d, c, i, true)

/-- Number `n` of a duty: the tile it is of. -/
def dutyTile (n : ℕ) : Fin 16 := ⟨n % 16, Nat.mod_lt _ (by decide)⟩
/-- The number of tile `i`'s duty at barrier `s`. -/
def duty (s : ℕ) (i : Fin 16) : ℕ := s * 16 + i.val

theorem dutyTile_duty (s : ℕ) (i : Fin 16) : dutyTile (duty s i) = i := Fin.ext (by
  have := i.isLt; show (s * 16 + i.val) % 16 = i.val; omega)
theorem duty_div (s : ℕ) (i : Fin 16) : duty s i / 16 = s := by
  have := i.isLt; show (s * 16 + i.val) / 16 = s; omega
theorem duty_lt {s : ℕ} (h : s < NR) (i : Fin 16) : duty s i < NR * 16 := by
  have := i.isLt; show s * 16 + i.val < NR * 16; have : s < 262 := h; show s * 16 + i.val < 262 * 16; omega

/-- A unit on a barrier cell says that the tile that gave it has arrived so many times. -/
def bPay (g : GSem nD τ sig) (n : ℕ) : sProp (MM F) :=
  match g with
  | ((d, .scVector c _), _) => reached EA (arr d c (dutyTile n)) (n / 16 + 1)
  | _ => iprop(emp)

/-- The barrier cells' schedule: ONE round each, of a unit duty per barrier and tile of the SparseCore, drained sixteen units at a
    time. -/
def bRd : Rounds.Schedule (GSem nD τ sig) ℕ (MM F) where
  duties g r := if isBar g ∧ r = 0 then Finset.range (NR * 16) else ∅
  amount _ _ _ := 1
  payload g _ n := bPay g n
  amount_pos _ _ _ _ := Nat.one_pos

instance bRd_payload_storable (g : GSem nD τ sig) (r n : ℕ) : BI.Storable (upEmb : UEmb _ (MM F)) ((bRd (F := F)).payload g r n) := by
  show BI.Storable upEmb (bPay g n)
  unfold bPay
  rcases g with ⟨⟨d, _ | c | ⟨c, i⟩⟩, sm⟩ <;> dsimp only <;> infer_instance

theorem bRd_duties₀ (d : Dev nD) (c : Fin τ.nSC) (j : Fin 16) : (bRd (F := F)).duties (bcell d c j) 0 = Finset.range (NR * 16) := by
  simp [bRd, isBar]
theorem bRd_duties_succ (g : GSem nD τ sig) (r : ℕ) (hr : 1 ≤ r) : (bRd (F := F)).duties g r = ∅ :=
  if_neg fun h => absurd h.2 (Nat.ne_of_gt hr)
theorem bRd_mem (d : Dev nD) (c : Fin τ.nSC) (j i : Fin 16) {s : ℕ} (h : s < NR) : duty s i ∈ (bRd (F := F)).duties (bcell d c j) 0 := by
  rw [bRd_duties₀]; exact Finset.mem_range.mpr (duty_lt h i)
theorem bRd_expect (d : Dev nD) (c : Fin τ.nSC) (j : Fin 16) : (bRd (F := F)).expect (bcell d c j) 0 = NR * 16 := by
  unfold Rounds.Schedule.expect; rw [bRd_duties₀]
  show ∑ x ∈ Finset.range (NR * 16), 1 = _
  rw [Finset.sum_const, Finset.card_range, smul_eq_mul, mul_one]

end Cert.Proof.Nms

end
-- ==== Proof.Bar.lean ====
/-
  The subcore barriers as one protocol. A tile's barrier cell is drained sixteen units at a time; what a barrier says is kept by one
  invariant per SparseCore over two counters per tile — how often it has arrived, how often it has left — that stores what an
  arrived tile hands every tile that has not yet left that barrier. A unit on a cell says that its giver has arrived so many times;
  sixteen units for each barrier so far can only be there once every tile has arrived at it, which is when what was stored for the
  tile may be taken.
-/
module

public import proofs.«01_k».proof.Proof.Base

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Plain facts -/

/-- How the sixteen arrival counts `a` and departure counts `p` stand to each other. -/
def Ok (a p : Fin 16 → ℕ) : Prop := (∀ i, p i ≤ a i ∧ a i ≤ p i + 1) ∧ ∀ i j, p j ≤ a i

/-- So many units can only have come once every tile has arrived. -/
theorem Ok.all_arrived {a p : Fin 16 → ℕ} (h : Ok a p) {r : ℕ} {S : Finset ℕ} (hc : (r + 1) * 16 ≤ S.card)
    (hS : ∀ n ∈ S, n / 16 + 1 ≤ a (dutyTile n)) (i : Fin 16) : r + 1 ≤ a i := by
  by_contra hi
  have hp : ∀ j, p j ≤ r := fun j => (h.2 i j).trans (by omega)
  have ha : ∀ j, a j ≤ r + 1 := fun j => (h.1 j).2.trans (Nat.succ_le_succ (hp j))
  have hsub : S ⊆ (Finset.range ((r + 1) * 16)).erase (duty r i) := by
    intro n hn
    have h1 := hS n hn
    refine Finset.mem_erase.mpr ⟨?_, Finset.mem_range.mpr ?_⟩
    · rintro rfl
      rw [dutyTile_duty, duty_div] at h1; omega
    · have := ha (dutyTile n); omega
  have h2 := Finset.card_le_card hsub
  have h3 : duty r i ∈ Finset.range ((r + 1) * 16) := Finset.mem_range.mpr (by have := i.isLt; show r * 16 + i.val < _; omega)
  rw [Finset.card_erase_of_mem h3, Finset.card_range] at h2
  omega

/-- A plain fact of every member of a set, from one of each. -/
theorem pure_all {M : Type} [URA M] {I : Type} {P : sProp M} {s : Finset I} {φ : I → Prop} (h : ∀ i ∈ s, P ⊢ (⌜φ i⌝ : sProp M)) :
    P ⊢ (⌜∀ i ∈ s, φ i⌝ : sProp M) := by
  classical
  by_cases hs : ∀ i ∈ s, φ i
  · iintro -; ipureintro; exact hs
  · push Not at hs
    obtain ⟨i, hi, hn⟩ := hs
    iintro H
    ihave H' := (h i hi) $$ H
    icases H' with %h'
    exact absurd h' hn

/-! ## The invariant -/

variable (pay : Dev nD → Fin τ.nSC → ℕ → Fin 16 → Fin 16 → sProp (MM F))

/-- What is stored for tile `j` of what tile `i` has handed in: everything of the barriers `i` has arrived at and `j` not yet left. -/
def stored (d : Dev nD) (c : Fin τ.nSC) (a p : Fin 16 → ℕ) : sProp (MM F) :=
  bigSep Finset.univ fun i : Fin 16 => bigSep Finset.univ fun j : Fin 16 => bigSep (Finset.Ico (p j) (a i)) fun s => pay d c s i j

/-- The invariant of SparseCore `c`'s barriers. -/
def barBody (d : Dev nD) (c : Fin τ.nSC) : sProp (MM F) :=
  iprop(∃ a p : Fin 16 → ℕ, ⌜Ok a p⌝ ∗ (bigSep Finset.univ fun i : Fin 16 => roundAuth EA (arr d c i) (a i) ∅ 0)
    ∗ (bigSep Finset.univ fun i : Fin 16 => roundAuth EA (pas d c i) (p i) ∅ 0) ∗ stored pay d c a p)

variable [hpay : ∀ d c s i j, BI.Storable (upEmb : UEmb _ (MM F)) (pay d c s i j)]

instance barBody_storable (d : Dev nD) (c : Fin τ.nSC) : BI.Storable (upEmb : UEmb _ (MM F)) (barBody pay d c) := by
  unfold barBody stored; infer_instance

omit hpay in
theorem barBody_init (d : Dev nD) (c : Fin τ.nSC) :
    iprop((bigSep Finset.univ fun i : Fin 16 => roundAuth EA (arr d c i) 0 ∅ 0)
      ∗ (bigSep Finset.univ fun i : Fin 16 => roundAuth EA (pas d c i) 0 ∅ 0)) ⊢ barBody pay d c := by
  unfold barBody stored
  iintro ⟨H1, H2⟩
  iexists (fun _ => 0), (fun _ => 0)
  isplitr; · ipureintro; exact ⟨fun _ => ⟨le_rfl, Nat.zero_le _⟩, fun _ _ => le_rfl⟩
  isplitl [H1]; · iexact H1
  isplitl [H2]; · iexact H2
  simp only [Finset.Ico_self, bigSep_empty]
  rw [bigSep_congr (fun _ _ => bigSep_emp_const _), bigSep_emp_const]
  iempintro

omit hpay in
/-- Tile `i` at barrier `r` adds what it hands every tile. -/
theorem stored_arrive (d : Dev nD) (c : Fin τ.nSC) (a p : Fin 16 → ℕ) (i : Fin 16) (h : ∀ j, p j ≤ a i) :
    iprop(stored pay d c a p ∗ bigSep Finset.univ fun j : Fin 16 => pay d c (a i) i j) ⊢ stored pay d c (Function.update a i (a i + 1)) p := by
  unfold stored
  rw [SparseCore.bigSep_erase' (Finset.mem_univ i) (Φ := fun i : Fin 16 => bigSep Finset.univ fun j : Fin 16 => bigSep (Finset.Ico (p j) (a i)) fun s => pay d c s i j),
    SparseCore.bigSep_erase' (Finset.mem_univ i) (Φ := fun i' : Fin 16 => bigSep Finset.univ fun j : Fin 16 => bigSep (Finset.Ico (p j) (Function.update a i (a i + 1) i')) fun s => pay d c s i' j)]
  rw [bigSep_congr (s := Finset.univ.erase i) (Φ := fun i' : Fin 16 => bigSep Finset.univ fun j : Fin 16 => bigSep (Finset.Ico (p j) (Function.update a i (a i + 1) i')) fun s => pay d c s i' j) (Ψ := fun i' : Fin 16 => bigSep Finset.univ fun j : Fin 16 => bigSep (Finset.Ico (p j) (a i')) fun s => pay d c s i' j)
    (fun i' hi' => by simp only [Function.update_of_ne (Finset.ne_of_mem_erase hi')])]
  rw [bigSep_congr (s := Finset.univ) (Φ := fun j : Fin 16 => bigSep (Finset.Ico (p j) (Function.update a i (a i + 1) i)) fun s => pay d c s i j)
    (Ψ := fun j : Fin 16 => iprop(pay d c (a i) i j ∗ bigSep (Finset.Ico (p j) (a i)) fun s => pay d c s i j))
    (fun j _ => by rw [Function.update_self, bigSep_Ico_succ_top (h j)]), bigSep_sep']
  iintro ⟨⟨H1, H2⟩, H3⟩
  isplitr [H2]
  · isplitl [H3] <;> iassumption
  · iexact H2

theorem sep_rot (A B C : sProp (MM F)) : iprop((A ∗ B) ∗ C) = iprop((B ∗ C) ∗ A) := by
  have h₁ : iprop((A ∗ B) ∗ C) ⊢ iprop((B ∗ C) ∗ A) := by
    iintro ⟨⟨H1, H2⟩, H3⟩
    isplitr [H1]
    · isplitl [H2] <;> iassumption
    · iexact H1
  have h₂ : iprop((B ∗ C) ∗ A) ⊢ iprop((A ∗ B) ∗ C) := by
    iintro ⟨⟨H2, H3⟩, H1⟩
    isplitr [H3]
    · isplitl [H1] <;> iassumption
    · iexact H3
  exact equiv_iff.mp ⟨h₁, h₂⟩

/-- Tile `j` leaving barrier `p j` takes what every tile handed it there. -/
theorem stored_pass (d : Dev nD) (c : Fin τ.nSC) (a p : Fin 16 → ℕ) (j : Fin 16) (h : ∀ i, p j < a i) :
    stored pay d c a p ⊢ iprop(stored pay d c a (Function.update p j (p j + 1)) ∗ bigSep Finset.univ fun i : Fin 16 => pay d c (p j) i j) := by
  unfold stored
  have key : ∀ i : Fin 16, (bigSep Finset.univ fun j : Fin 16 => bigSep (Finset.Ico (p j) (a i)) fun s => pay d c s i j)
      = iprop((bigSep Finset.univ fun j' : Fin 16 => bigSep (Finset.Ico (Function.update p j (p j + 1) j') (a i)) fun s => pay d c s i j') ∗ pay d c (p j) i j) := by
    intro i
    rw [SparseCore.bigSep_erase' (Finset.mem_univ j) (Φ := fun j : Fin 16 => bigSep (Finset.Ico (p j) (a i)) fun s => pay d c s i j),
      SparseCore.bigSep_erase' (Finset.mem_univ j) (Φ := fun j' : Fin 16 => bigSep (Finset.Ico (Function.update p j (p j + 1) j') (a i)) fun s => pay d c s i j'),
      bigSep_congr (s := Finset.univ.erase j) (Φ := fun j' : Fin 16 => bigSep (Finset.Ico (Function.update p j (p j + 1) j') (a i)) fun s => pay d c s i j')
        (Ψ := fun j' : Fin 16 => bigSep (Finset.Ico (p j') (a i)) fun s => pay d c s i j')
        (fun j' hj' => by rw [Function.update_of_ne (Finset.ne_of_mem_erase hj')]),
      Function.update_self, bigSep_Ico_succ_bot (h i)]
    exact sep_rot _ _ _
  rw [bigSep_congr (fun i _ => key i), bigSep_sep']

variable [FloatOps F]

theorem ent {P Q : sProp (MM F)} (h : Idealize.SL.BI.Entails P Q) : P ⊢ Q := h

/-- One tile's counter moved to `R'`, whatever the others'. -/
theorem auths_move (k : Fin 16 → GA) (a : Fin 16 → ℕ) (i : Fin 16) (r R' : ℕ) (h : r ≤ R') :
    iprop((bigSep Finset.univ fun i : Fin 16 => roundAuth EA (k i) (a i) ∅ 0) ∗ atPos EA (k i) r ∅ 0)
      ⊢ (|==> iprop(⌜a i = r⌝ ∗ (bigSep Finset.univ fun j : Fin 16 => roundAuth EA (k j) (Function.update a i R' j) ∅ 0) ∗ atPos EA (k i) R' ∅ 0
          ∗ reached EA (k i) R') : sProp (MM F)) := by
  rw [SparseCore.bigSep_erase' (Finset.mem_univ i) (Φ := fun i : Fin 16 => (roundAuth EA (k i) (a i) ∅ 0 : sProp (MM F))),
    SparseCore.bigSep_erase' (Finset.mem_univ i) (Φ := fun j : Fin 16 => (roundAuth EA (k j) (Function.update a i R' j) ∅ 0 : sProp (MM F))),
    bigSep_congr (s := Finset.univ.erase i) (Φ := fun j : Fin 16 => (roundAuth EA (k j) (Function.update a i R' j) ∅ 0 : sProp (MM F))) (Ψ := fun j : Fin 16 => roundAuth EA (k j) (a j) ∅ 0)
      (fun j hj => by rw [Function.update_of_ne (Finset.ne_of_mem_erase hj)]), Function.update_self]
  iintro ⟨⟨H1, H2⟩, H3⟩
  ihave H := (persistent_entails_right (roundAuth_atPos_agree EA)) $$ [H1 H3]
  · isplitl [H1] <;> iassumption
  icases H with ⟨%e, H1, H3⟩
  obtain ⟨e, -, -⟩ := e
  imod (roundAuth_atPos_move EA R' ∅ 0 h) $$ [H1 H3] with ⟨H1, H3⟩
  · subst e; isplitl [H1] <;> iassumption
  imod (roundAuth_witness EA) $$ H1 with ⟨H1, H4⟩
  imodintro
  isplitr; · ipureintro; exact e.symm
  isplitl [H1 H2]; · isplitl [H1] <;> iassumption
  isplitl [H3] <;> iassumption

/-- Where a tile's counter stands. -/
theorem auths_agree (k : Fin 16 → GA) (a : Fin 16 → ℕ) (i : Fin 16) (r : ℕ) :
    iprop((bigSep Finset.univ fun i : Fin 16 => roundAuth EA (k i) (a i) ∅ 0) ∗ atPos EA (k i) r ∅ 0) ⊢ (⌜a i = r⌝ : sProp (MM F)) := by
  iintro ⟨H, Hat⟩
  ihave H1 := (ent (bigSep_elim (Φ := fun i : Fin 16 => roundAuth EA (k i) (a i) ∅ 0) (Finset.mem_univ i))) $$ H
  ihave H := (roundAuth_atPos_agree EA) $$ [H1 Hat]
  · isplitl [H1] <;> iassumption
  icases H with %e
  ipureintro; exact e.1.symm

/-- Tile `i` arrives at barrier `r`: what it hands the others is stored, and that it has arrived is known. -/
theorem arrive (d : Dev nD) (c : Fin τ.nSC) (i : Fin 16) (r : ℕ) (κ : ℕ) :
    iprop(inv κ (barBody pay d c) ∗ atPos EA (arr d c i) r ∅ 0 ∗ atPos EA (pas d c i) r ∅ 0 ∗ bigSep Finset.univ fun j : Fin 16 => pay d c r i j)
      ⊢ |={Set.univ}=> iprop(atPos EA (arr d c i) (r + 1) ∅ 0 ∗ atPos EA (pas d c i) r ∅ 0 ∗ reached EA (arr d c i) (r + 1)) := by
  iintro ⟨Hinv, Ha, Hp, Hpay⟩
  imod (inv_acc (Set.mem_univ κ)) $$ Hinv with ⟨Hb, Hclose⟩
  unfold barBody
  icases Hb with ⟨%a, %p, %hok, HA, HP, Hst⟩
  ihave H := (persistent_entails_right (auths_agree (pas d c) p i r)) $$ [HP Hp]
  · isplitl [HP] <;> iassumption
  icases H with ⟨%ep, HP, Hp⟩
  imod (auths_move (arr d c) a i r (r + 1) (Nat.le_succ r)) $$ [HA Ha] with ⟨%ea, HA, Ha, Hr⟩
  · isplitl [HA] <;> iassumption
  subst ea
  ihave Hst := (stored_arrive pay d c a p i (hok.2 i)) $$ [Hst Hpay]
  · isplitl [Hst] <;> iassumption
  ihave Hc := Hclose $$ [HA HP Hst]
  · iexists (Function.update a i (a i + 1)), p
    isplitr
    · ipureintro
      refine ⟨fun j => ?_, fun j k => ?_⟩
      · by_cases hj : j = i
        · subst hj; rw [Function.update_self, ep]; exact ⟨Nat.le_succ _, le_rfl⟩
        · rw [Function.update_of_ne hj]; exact hok.1 j
      · by_cases hj : j = i
        · subst hj; rw [Function.update_self]; exact (hok.2 j k).trans (Nat.le_succ _)
        · rw [Function.update_of_ne hj]; exact hok.2 j k
    isplitl [HA]; · iexact HA
    isplitl [HP] <;> iassumption
  imod Hc
  imodintro
  isplitl [Ha]; · iexact Ha
  isplitl [Hp] <;> iassumption

/-- Tile `j` leaves barrier `r`, its units so far at hand: it takes what every tile handed it there. -/
theorem depart (d : Dev nD) (c : Fin τ.nSC) (j : Fin 16) (r : ℕ) (κ : ℕ) (S : Finset ℕ) (hS : (r + 1) * 16 ≤ S.card) :
    iprop(inv κ (barBody pay d c) ∗ atPos EA (arr d c j) (r + 1) ∅ 0 ∗ atPos EA (pas d c j) r ∅ 0
        ∗ bigSep S fun n => reached EA (arr d c (dutyTile n)) (n / 16 + 1))
      ⊢ |={Set.univ}=> iprop(atPos EA (arr d c j) (r + 1) ∅ 0 ∗ atPos EA (pas d c j) (r + 1) ∅ 0 ∗ (bigSep S fun n => reached EA (arr d c (dutyTile n)) (n / 16 + 1))
        ∗ bigSep Finset.univ fun i : Fin 16 => pay d c r i j) := by
  iintro ⟨Hinv, Ha, Hp, HS⟩
  imod (inv_acc (Set.mem_univ κ)) $$ Hinv with ⟨Hb, Hclose⟩
  unfold barBody
  icases Hb with ⟨%a, %p, %hok, HA, HP, Hst⟩
  ihave H := (persistent_entails_right (auths_agree (arr d c) a j (r + 1))) $$ [HA Ha]
  · isplitl [HA] <;> iassumption
  icases H with ⟨%ea, HA, Ha⟩
  ihave H := (persistent_entails_right (pure_all (s := S) (φ := fun n => n / 16 + 1 ≤ a (dutyTile n))
      (P := iprop((bigSep Finset.univ fun i : Fin 16 => roundAuth EA (arr d c i) (a i) ∅ 0) ∗ bigSep S fun n => reached EA (arr d c (dutyTile n)) (n / 16 + 1)))
      (fun n hn => (sep_mono (bigSep_elim (M := MM F) (Φ := fun i : Fin 16 => roundAuth EA (arr d c i) (a i) ∅ 0) (Finset.mem_univ (dutyTile n)))
        (bigSep_elim (M := MM F) (Φ := fun n => reached EA (arr d c (dutyTile n)) (n / 16 + 1)) hn)).trans (roundAuth_reached_le EA)))) $$ [HA HS]
  · isplitl [HA] <;> iassumption
  icases H with ⟨%hn, HA, HS⟩
  have hall := hok.all_arrived hS hn
  imod (auths_move (pas d c) p j r (r + 1) (Nat.le_succ r)) $$ [HP Hp] with ⟨%ep, HP, Hp, -⟩
  · isplitl [HP] <;> iassumption
  subst ep
  ihave Hst := (stored_pass pay d c a p j (fun i => hall i)) $$ Hst
  icases Hst with ⟨Hst, Hpay⟩
  ihave Hc := Hclose $$ [HA HP Hst]
  · iexists a, (Function.update p j (p j + 1))
    isplitr
    · ipureintro
      refine ⟨fun k => ?_, fun k k' => ?_⟩
      · by_cases hk : k = j
        · subst hk; rw [Function.update_self, ea]; exact ⟨le_rfl, Nat.le_succ _⟩
        · rw [Function.update_of_ne hk]; exact hok.1 k
      · by_cases hk : k' = j
        · subst hk; rw [Function.update_self]; exact hall k
        · rw [Function.update_of_ne hk]; exact hok.2 k k'
    isplitl [HA]; · iexact HA
    isplitl [HP] <;> iassumption
  imod Hc
  imodintro
  isplitl [Ha]; · iexact Ha
  isplitl [Hp]; · iexact Hp
  isplitl [HS] <;> iassumption

/-! ## The barrier's rule -/

theorem bigSep_ins {I : Type} [DecidableEq I] {s : Finset I} {i : I} (h : i ∉ s) {Φ : I → sProp (MM F)} :
    bigSep (insert i s) Φ = iprop(Φ i ∗ bigSep s Φ) := bigSep_insert h

theorem bPay_duty (d : Dev nD) (c : Fin τ.nSC) (j i : Fin 16) (r : ℕ) :
    (bRd (F := F)).payload (bcell d c j) 0 (duty r i) = reached EA (arr d c i) (r + 1) := by
  show reached EA (arr d c (dutyTile (duty r i))) (duty r i / 16 + 1) = _
  rw [dutyTile_duty, duty_div]

/-- What a tile owes before barrier `r`: a unit to every tile of its SparseCore at every barrier from `r` on. -/
def debt (d : Dev nD) (c : Fin τ.nSC) (r : ℕ) : CellTallies nD τ sig (HIx NR) :=
  ∑ s ∈ Finset.Ico r NR, ∑ j : Fin 16, tallyAt (bcell d c j) (stg s) 1

/-- The units it is to wait for. -/
def dues (d : Dev nD) (c : Fin τ.nSC) (j : Fin 16) (r : ℕ) : CellTallies nD τ sig (HIx NR) :=
  ∑ s ∈ Finset.Ico r NR, tallyAt (bcell d c j) (stg s) 16

theorem debt_step (d : Dev nD) (c : Fin τ.nSC) {r : ℕ} (h : r < NR) :
    debt d c r = debt d c (r + 1) + ∑ j : Fin 16, tallyAt (bcell d c j) (stg r) 1 := by
  unfold debt
  rw [Finset.sum_eq_sum_Ico_succ_bot h, add_comm]

theorem dues_step (d : Dev nD) (c : Fin τ.nSC) (j : Fin 16) {r : ℕ} (h : r < NR) :
    dues d c j r = tallyAt (bcell d c j) (stg r) 16 + dues d c j (r + 1) := by
  unfold dues
  rw [Finset.sum_eq_sum_Ico_succ_bot h]

/-- A unit owed is at a cell of a barrier to come. -/
theorem debt_pos (d : Dev nD) (c : Fin τ.nSC) (r : ℕ) (g : GSem nD τ sig) (ι : HIx NR) (h : 0 < debt d c r g ι) :
    ∃ s j, r ≤ s ∧ s < NR ∧ g = bcell d c j ∧ ι = stg s := by
  unfold debt at h
  rw [Finset.sum_apply, Finsupp.coe_finset_sum, Finset.sum_apply] at h
  obtain ⟨s, hs, hp⟩ := Finset.exists_ne_zero_of_sum_ne_zero (Nat.ne_of_gt h)
  rw [Finset.sum_apply, Finsupp.coe_finset_sum, Finset.sum_apply] at hp
  obtain ⟨j, -, hp⟩ := Finset.exists_ne_zero_of_sum_ne_zero hp
  rw [Finset.mem_Ico] at hs
  refine ⟨s, j, hs.1, hs.2, ?_⟩
  rw [tallyAt_apply] at hp
  split_ifs at hp with he
  · exact ⟨he.1, he.2⟩
  · exact absurd rfl hp

/-- What a tile holds of the barriers' protocol before barrier `r`, beside what it owes. -/
def TS (d : Dev nD) (c : Fin τ.nSC) (i : Fin 16) (r : ℕ) : sProp (MM F) :=
  iprop((bigSep (Finset.Ico r NR) fun s => bigSep Finset.univ fun j : Fin 16 => dutyTok EB (bcell d c j) 0 (duty s i))
    ∗ cred (dues d c i r) ∗ drained EB bRd (bcell d c i) 0 16 r ∗ atPos EA (arr d c i) r ∅ 0 ∗ atPos EA (pas d c i) r ∅ 0)

/-- What every tile knows: the cells' invariants, the SparseCore's, and that the cells' rounds are open. -/
def ctxB (d : Dev nD) (c : Fin τ.nSC) : sProp (MM F) :=
  iprop((∃ κ : Fin 16 → ℕ, bigSep Finset.univ fun j : Fin 16 => cellInv EB bRd (κ j) (bcell d c j))
    ∗ (∃ κ : ℕ, inv κ (barBody pay d c)) ∗ bigSep Finset.univ fun j : Fin 16 => reached EB (bcell d c j) 0)

instance ctxB_persistent (d : Dev nD) (c : Fin τ.nSC) : BI.Persistent (ctxB pay d c) := by unfold ctxB; infer_instance

variable {pay}

/-- One barrier: the tile hands in what it hands each tile of its SparseCore at it, and takes what each hands it. -/
theorem wp_bar (d : Dev nD) (c : Fin τ.nSC) (i : Fin 16) {r : ℕ} (hr : r < NR) {α : Type} {bd : Option 𝒱₀.V}
    {Q : α → sProp (MM F)} (O : CellTallies nD τ sig (HIx NR)) (hO : ∀ g ι, 0 < O g ι → 8 * 261 + 6 ≤ (K (F := F)).lev g ι)
    (lv : GSem nD τ sig → HIx NR → ℕ) (hlv : (K (F := F)).Refines lv) (W : Waits sig (HIx NR)) (hn : 16 ≤ τ.nSub)
    {k : PUnit → Prog (TpuEff nD τ sig (Elt F) Λ₀ (.scVector c i)) α} :
    iprop(ctxB pay d c ∗ TS d c i r ∗ owes (V d c i) (O + debt d c r) W ∗ levAts (K (F := F)).L lv ∗ bigSep Finset.univ fun j : Fin 16 => pay d c r i j)
      ⊢ iprop((iprop(TS d c i (r + 1) ∗ owes (V d c i) (O + debt d c (r + 1)) (insert (SemLoc.reg sc_bar0, stg r) W)
              ∗ bigSep Finset.univ fun j : Fin 16 => pay d c r j i)
            -∗ wp frame (wpE defs₀ 𝒱₀ (V d c i) bd) Set.univ (k ⟨⟩) Q)
          -∗ wp frame (wpE defs₀ 𝒱₀ (V d c i) bd) Set.univ (SparseCore.subcoreBarrier sc_bar0 16 hn >>= k) Q) := by
  classical
  rw [SparseCore.subcoreBarrier_bind, show (wp frame (wpE defs₀ 𝒱₀ (V d c i) bd) Set.univ (.op .deviceId _) Q : sProp (MM F)) = _ from wp_deviceId 𝒱₀ (V d c i) bd Set.univ]
  have e : TS d c i r = iprop(((bigSep Finset.univ fun j : Fin 16 => dutyTok EB (bcell d c j) 0 (duty r i))
        ∗ (bigSep (Finset.Ico (r + 1) NR) fun s => bigSep Finset.univ fun j : Fin 16 => dutyTok EB (bcell d c j) 0 (duty s i)))
      ∗ (cred (tallyAt (bcell d c i) (stg r) 16) ∗ cred (dues d c i (r + 1))) ∗ drained EB bRd (bcell d c i) 0 16 r
      ∗ atPos EA (arr d c i) r ∅ 0 ∗ (atPos EA (pas d c i) r ∅ 0 : sProp (MM F))) := by
    unfold TS
    rw [bigSep_Ico_succ_bot hr, dues_step d c i hr, SparseCore.Cfg.cred_add_eq]
  rw [e, debt_step d c hr]
  iintro ⟨#HC, HT, HO, #Hlev, Hpay⟩ Hk
  unfold ctxB TS
  icases HC with ⟨⟨%κ, #Hcells⟩, ⟨%κI, #HI⟩, #Hreach⟩
  icases HT with ⟨Htoks, Hcred, Hdr, Ha, Hp⟩
  imod (arrive pay d c i r κI) $$ [Ha Hp Hpay] with ⟨Ha, Hp, #Harr⟩
  · isplitr; · iexact HI
    isplitl [Ha]; · iexact Ha
    isplitl [Hp] <;> iassumption
  icases Htoks with ⟨Htok, Htoks⟩
  icases Hcred with ⟨Hcr, Hcred⟩
  have hsig : ∀ l : List (Fin 16), l.Nodup →
      iprop((bigSep Finset.univ fun j : Fin 16 => cellInv EB bRd (κ j) (bcell d c j))
          ∗ (bigSep Finset.univ fun j : Fin 16 => reached EB (bcell d c j) 0)
          ∗ reached EA (arr d c i) (r + 1)
          ∗ owes (V d c i) (O + debt d c (r + 1) + ∑ j ∈ l.toFinset, tallyAt (bcell d c j) (stg r) 1) W
          ∗ (bigSep l.toFinset fun j : Fin 16 => dutyTok EB (bcell d c j) 0 (duty r i))
          ∗ (owes (V d c i) (O + debt d c (r + 1)) W -∗ wp frame (wpE defs₀ 𝒱₀ (V d c i) bd) Set.univ (.op (TpuEff.semWait sc_bar0 16) k) Q))
        ⊢ wp frame (wpE defs₀ 𝒱₀ (V d c i) bd) Set.univ
            (l.foldr (fun j r => .op (TpuEff.semSignal (d, .scVector c (j.castLE hn)) sc_bar0 1) fun _ => r) (.op (TpuEff.semWait sc_bar0 16) k)) Q := by
    intro l hl
    induction l with
    | nil =>
      rw [List.toFinset_nil, List.foldr_nil, Finset.sum_empty, add_zero]
      iintro ⟨-, -, -, HO, -, Hk⟩; iapply Hk; iexact HO
    | cons j l ih =>
      rw [List.toFinset_cons, List.foldr_cons]
      have hj : j ∉ l.toFinset := fun h => (List.nodup_cons.mp hl).1 (List.mem_toFinset.mp h)
      rw [bigSep_ins hj, Finset.sum_insert hj]
      iintro ⟨#Hcells, #Hreach, #Harr, HO, ⟨Htok, Htoks⟩, Hk⟩
      iapply (Rounds.wp_signal 𝒱₀ EB bRd (V d c i) bd (dst := V d c j) (sem := sc_bar0) (r := 0) (d := duty r i) (k' := 1)
          (κ := κ j) (bRd_mem d c j i hr) rfl (stg r)
          (O₀ := O + debt d c (r + 1) + (tallyAt (bcell d c j) (stg r) 1 + ∑ j ∈ l.toFinset, tallyAt (bcell d c j) (stg r) 1))
          (O := O + debt d c (r + 1) + ∑ j ∈ l.toFinset, tallyAt (bcell d c j) (stg r) 1)
          (by rw [add_comm (tallyAt _ _ _) _, ← add_assoc]) (W := W)) $$ [HO Htok]
      · isplitr; · iapply (ent (BI.bigSep_elim (Finset.mem_univ j))) $$ Hcells
        isplitl [HO]; · iexact HO
        isplitl [Htok]; · iexact Htok
        isplitr
        · iapply (ent (le_of_eq (bPay_duty d c j i r).symm))
          iexact Harr
        · iapply (ent (BI.bigSep_elim (Φ := fun j : Fin 16 => reached EB (bcell d c j) 0) (Finset.mem_univ j))) $$ Hreach
      iintro HO
      iapply (ih (List.nodup_cons.mp hl).2)
      isplitr; · iexact Hcells
      isplitr; · iexact Hreach
      isplitr; · iexact Harr
      isplitl [HO]; · iexact HO
      isplitl [Htoks] <;> iassumption
  have hs := hsig (List.finRange 16) (List.nodup_finRange 16)
  rw [List.toFinset_finRange] at hs
  iapply hs
  isplitr; · iexact Hcells
  isplitr; · iexact Hreach
  isplitr; · iexact Harr
  isplitl [HO]; · rw [add_assoc]; iexact HO
  isplitl [Htok]; · iexact Htok
  iintro HO
  iapply (wp_drain_step (E := EB) (Rd := bRd) (g := bcell d c i) (R := 0) (N := 16) (k := r)
      (fun T => Rounds.wp_wait 𝒱₀ EB bRd (V d c i) bd (sm := .reg sc_bar0) (k' := 16) (κ := κ i)
        (wpE_semWait_eq 𝒱₀ (V d c i) bd Set.univ) (Set.mem_univ _) (cr := Finsupp.single (stg r) 16) (O := O + debt d c (r + 1)) (W := W)
        {(SemLoc.reg sc_bar0, stg r)} (by simp) (by
          intro p hp
          rw [Finset.mem_image] at hp
          obtain ⟨x, hx, rfl⟩ := hp
          rw [Finset.mem_singleton.mp (Finsupp.support_single_subset hx)]
          exact Finset.mem_singleton_self _))) $$ [Hcr HO Hdr]
  · isplitr; · iapply (ent (BI.bigSep_elim (Φ := fun j : Fin 16 => cellInv EB bRd (κ j) (bcell d c j)) (Finset.mem_univ i))) $$ Hcells
    isplitl [Hcr]; · iexact Hcr
    isplitl [HO]; · iexact HO
    isplitr
    · iapply ((K (F := F)).mayOwe_of_bound (lv := lv) (hlv := hlv) (8 * r + 3)
        (fun p hp => by rw [Finset.mem_singleton] at hp; subst hp; exact (lev_bcell d c i hr).le)
        (fun g ι hg => by
          rcases Nat.eq_zero_or_pos (O g ι) with h0 | h0
          · have hd : 0 < debt d c (r + 1) g ι := by
              have : (O + debt d c (r + 1)) g ι = O g ι + debt d c (r + 1) g ι := rfl
              rw [this, h0, Nat.zero_add] at hg; exact hg
            obtain ⟨s, j, h1, h2, rfl, rfl⟩ := debt_pos d c (r + 1) g ι hd
            rw [lev_bcell d c j h2]; omega
          · have := hO g ι h0
            have : r < 262 := hr
            omega))
      iexact Hlev
    · iexact Hdr
  iintro ⟨HO, Hdr⟩
  unfold drained
  icases Hdr with ⟨%S, %hS, Hat, HS⟩
  rw [bRd_duties₀, bRd_expect] at hS
  have hcard : (r + 1) * 16 ≤ S.card := by
    have h1 := Finset.card_sdiff_add_card_eq_card hS.1
    rw [Finset.card_range] at h1
    omega
  imod (depart pay d c i r κI S hcard) $$ [Ha Hp HS] with ⟨Ha, Hp, HS, Hpay⟩
  · isplitr; · iexact HI
    isplitl [Ha]; · iexact Ha
    isplitl [Hp]; · iexact Hp
    iexact HS
  iapply Hk
  isplitl [Htoks Hcred Hat Ha Hp HS]
  · isplitl [Htoks]; · iexact Htoks
    isplitl [Hcred]; · iexact Hcred
    isplitl [Hat HS]
    · iexists S
      isplitr; · ipureintro; rw [bRd_duties₀, bRd_expect]; exact hS
      isplitl [Hat]; · iexact Hat
      iexact HS
    isplitl [Ha] <;> iassumption
  isplitl [HO]
  · rw [Finset.insert_eq, Finset.union_comm]; iexact HO
  iexact Hpay

/-- After its last barrier a tile has its cell back, at zero. -/
theorem TS_close (d : Dev nD) (c : Fin τ.nSC) (i : Fin 16) :
    iprop(ctxB pay d c ∗ TS d c i NR) ⊢ (|={Set.univ}=> semVal (bcell d c i) 0 : sProp (MM F)) := by
  iintro ⟨#HC, HT⟩
  unfold ctxB TS
  icases HC with ⟨⟨%κ, #Hcells⟩, -, -⟩
  icases HT with ⟨-, -, Hdr, -, -⟩
  ihave Hcell := (ent (BI.bigSep_elim (Φ := fun j : Fin 16 => cellInv EB bRd (κ j) (bcell d c j)) (Finset.mem_univ i))) $$ Hcells
  imod (drained_done (E := EB) (Rd := bRd) (g := bcell d c i) (R := 0) (N := 16) (Es := Set.univ) (Set.mem_univ (κ i)) (bRd_expect d c i)) $$ [Hdr Hcell] with ⟨Hat, -, -⟩
  · isplitr [Hdr] <;> iassumption
  ihave Hcell := (ent (BI.bigSep_elim (Φ := fun j : Fin 16 => cellInv EB bRd (κ j) (bcell d c j)) (Finset.mem_univ i))) $$ Hcells
  iapply (Rounds.cell_close EB bRd (g := bcell d c i) (κ := κ i) (R := 1) (Set.mem_univ _) (fun h => h) (fun r hr => bRd_duties_succ _ r hr))
  isplitl [Hcell] <;> iassumption

end Cert.Proof.Nms

end
-- ==== Proof.Model.lean ====
/-
  What the kernel computes, as plain functions. A tile's array of 1264 words is seen as 79 blocks of sixteen, the exchange rows of the
  sixteen tiles as sixteen blocks of sixteen, and each loop is a recursion on the blocks; the payloads are the program's own.
-/
module

public import proofs.«01_k».proof.Proof.Base

@[expose] public section

noncomputable section

namespace Cert.Proof.Nms

open Cert.KernelIdeal Cert.KernelIdeal.Gen
open Idealize.ShloMosaic

variable {F : FTy → Type}

/-! ## Arrays in blocks of sixteen -/

/-- Lane `k` of a register, taken around. -/
def lane (k : ℕ) : S16.Idx := fun a => ⟨k % 16, by obtain rfl : a = 0 := Subsingleton.elim _ _; exact Nat.mod_lt _ (show 0 < 16 by decide)⟩

/-- The array whose block `t` is `P t`. -/
def ofBlk {α : Type} (n : ℕ) (P : ℕ → S16.Idx → α) : (⟨1, ![n]⟩ : Shape).Idx → α := fun x => P ((x 0).val / 16) (lane (x 0).val)

theorem lane_coe (k : ℕ) (a : Fin 1) : (lane k a).val = k % 16 := rfl

theorem lane_val (x : S16.Idx) : lane (x 0).val = x := by
  funext a
  obtain rfl : a = 0 := Subsingleton.elim _ _
  exact Fin.ext (Nat.mod_eq_of_lt (x 0).isLt)

theorem lane_mod (k : ℕ) : lane (k % 16) = lane k := by
  funext a
  refine Fin.ext ?_
  rw [lane_coe, lane_coe]; exact Nat.mod_mod _ _

theorem lane_add (k : ℕ) (x : S16.Idx) : lane (16 * k + (x 0).val) = x := by
  rw [← lane_mod, Nat.mul_add_mod, lane_mod, lane_val]

theorem blk_div (k : ℕ) (x : S16.Idx) : (16 * k + (x 0).val) / 16 = k := by
  have : (x 0).val < 16 := (x 0).isLt
  omega

theorem ofBlk_at {α : Type} {n : ℕ} (P : ℕ → S16.Idx → α) (k : ℕ) (x : S16.Idx) (y : (⟨1, ![n]⟩ : Shape).Idx)
    (h : (y 0).val = 16 * k + (x 0).val) : ofBlk n P y = P k x := by
  unfold ofBlk; rw [h, blk_div, lane_add]

/-- The blocks of an array, the positions taken around. -/
def toBlk {α : Type} (n : ℕ) (hn : 0 < n) (f : (⟨1, ![n]⟩ : Shape).Idx → α) (t : ℕ) (x : S16.Idx) : α :=
  f fun a => ⟨(16 * t + (x 0).val) % n, by obtain rfl : a = 0 := Subsingleton.elim _ _; exact Nat.mod_lt _ hn⟩

theorem ofBlk_toBlk {α : Type} (n : ℕ) (hn : 0 < n) (f : (⟨1, ![n]⟩ : Shape).Idx → α) : ofBlk n (toBlk n hn f) = f := by
  funext y
  unfold ofBlk toBlk
  congr 1
  funext a
  obtain rfl : a = 0 := Subsingleton.elim _ _
  refine Fin.ext ?_
  dsimp only
  rw [lane_coe, Nat.div_add_mod]; exact Nat.mod_eq_of_lt (y 0).isLt

/-- The array with block `k` replaced. -/
theorem ofBlk_update {α : Type} {n : ℕ} (P : ℕ → S16.Idx → α) (k : ℕ) (Q : S16.Idx → α) (y : (⟨1, ![n]⟩ : Shape).Idx) :
    ofBlk n (Function.update P k Q) y = if (y 0).val / 16 = k then Q (lane (y 0).val) else ofBlk n P y := by
  unfold ofBlk
  split
  · next h => rw [h, Function.update_self]
  · next h => rw [Function.update_of_ne h]

/-- The words of an array at the positions a register names, taken around. -/
def gath {α : Type} (n : ℕ) (hn : 0 < n) (f : (⟨1, ![n]⟩ : Shape).Idx → α) (v : IVec S16 32) : S16.Idx → α :=
  fun x => f fun a => ⟨(v x).toNat % n, by obtain rfl : a = 0 := Subsingleton.elim _ _; exact Nat.mod_lt _ hn⟩

theorem loadIdx_eq {e : EltTy} (n : ℕ) (hn : 0 < n) (f : Vec F ⟨1, ![n]⟩ e) (v : IVec S16 32)
    (h : ∀ (a : Fin 1) x, ((![v] : Fin 1 → IVec S16 32) a x).toNat < (⟨1, ![n]⟩ : Shape).size a) :
    loadIdx f ![v] h = gath n hn f v := by
  funext x
  unfold loadIdx gath
  congr 1
  funext a
  obtain rfl : a = 0 := Subsingleton.elim _ _
  exact Fin.ext (Nat.mod_eq_of_lt (h 0 x)).symm

/-! ## What the tiles are given -/

/-- The six padded inputs, by tile and block: corners, the words of the scores, the scores. -/
structure Inp (F : FTy → Type) where
  x1 : ℕ → ℕ → Vec F S16 .f32
  y1 : ℕ → ℕ → Vec F S16 .f32
  x2 : ℕ → ℕ → Vec F S16 .f32
  y2 : ℕ → ℕ → Vec F S16 .f32
  ks : ℕ → ℕ → Vec F S16 .i32
  sc : ℕ → ℕ → Vec F S16 .f32

/-- Tile `w`'s blocks of a padded input. -/
def slab {e : EltTy} (f : Vec F S20224 e) (w t : ℕ) : Vec F S16 e := toBlk 20224 (by decide) f (79 * w + t)

def mkInp (a b c d : Vec F S20224 .f32) (k : Vec F S20224 .i32) (s : Vec F S20224 .f32) : Inp F :=
  ⟨slab a, slab b, slab c, slab d, slab k, slab s⟩

section

variable [FloatOps F]

/-- The lane numbers. -/
def lanes : IVec S16 32 := iota .scVector S16 32 [0] iota_S16_d0_w32_scVector

variable (I : Inp F)

/-! ## The bisection -/

/-- The last lane. -/
abbrev last (v : IVec S16 32) : BitVec 32 := extractAt ![15] v inpos_S16_p15

/-- How many of the first `t` blocks' words are at least the middle. -/
def cnt (kk : ℕ → Vec F S16 .i32) (lo hi : BitVec 32) : ℕ → BitVec 32
  | 0 => 0#32
  | t + 1 => Scalar.addi (cnt kk lo hi t) (last (k0_pay33 (F := F) lo hi (kk t)))

/-- Tile `w`'s exchange row in a bisection step. -/
def bRow (w : ℕ) (p : BitVec 32 × BitVec 32) : Vec F S16 .i32 := k0_pay34 (cnt (I.ks w) p.1 p.2 79)

/-- The gathered counts. -/
def bCnt (p : BitVec 32 × BitVec 32) : Vec F S16 .i32 := gath 256 (by decide) (ofBlk 256 fun w => bRow I w p) k0_pay35

def bStep (p : BitVec 32 × BitVec 32) : BitVec 32 × BitVec 32 :=
  let v49 : BitVec 32 := Scalar.shrsi (Scalar.addi p.1 p.2) 1#32
  let v65 : BitVec 1 := Scalar.cmpi .sge (last (k0_pay36 (F := F) (bCnt I p))) 2000#32
  (Scalar.select v65 v49 p.1, Scalar.select v65 p.2 v49)

/-- The bounds after `k` steps. -/
def bis : ℕ → BitVec 32 × BitVec 32
  | 0 => (0#32, 1065353216#32)
  | k + 1 => bStep I (bis k)

/-- The threshold: the word of the 2000th largest score. -/
def tst : BitVec 32 := (bis I 30).1

/-! ## The count of the greater and the equal ones -/

def geq (kk : ℕ → Vec F S16 .i32) (t0 : BitVec 32) : ℕ → BitVec 32 × BitVec 32
  | 0 => (0#32, 0#32)
  | t + 1 => (Scalar.addi (geq kk t0 t).1 (last (k0_pay37 (F := F) t0 (kk t))), Scalar.addi (geq kk t0 t).2 (last (k0_pay38 (F := F) t0 (kk t))))

/-- Tile `w`'s exchange row of the two counts. -/
def cRow (w : ℕ) : Vec F S16 .i32 := k0_pay39 lanes (geq (I.ks w) (tst I) 79).1 (geq (I.ks w) (tst I) 79).2

def cGt : Vec F S16 .i32 := gath 256 (by decide) (ofBlk 256 (cRow I)) (k0_pay40 lanes)
def cEq : Vec F S16 .i32 := gath 256 (by decide) (ofBlk 256 (cRow I)) (k0_pay41 lanes)
/-- How many of the equal ones are taken. -/
def nEq : BitVec 32 := Scalar.subi 2000#32 (last (k0_pay42 (F := F) (cGt I)))

/-- The equal ones among the first `t` blocks of tile `w`. -/
def car (w : ℕ) : ℕ → BitVec 32
  | 0 => 0#32
  | t + 1 => Scalar.addi (car w t) (last (k0_pay4 (F := F) (tst I) (I.ks w t)))

/-- The candidates' words; −1 for what is not among the first 2000. -/
def km₀ (w t : ℕ) : Vec F S16 .i32 :=
  k0_pay3 (tst I) (cEq I) (nEq I) (k0_pay43 (BitVec.ofNat 32 w) lanes) k0_pay44 (car I w t) (I.ks w t)

/-! ## The rounds of suppression -/

/-- The areas. -/
def area (w t : ℕ) : Vec F S16 .f32 := k0_pay32 (I.x2 w t) (I.x1 w t) (I.y2 w t) (I.y1 w t)

/-- Lane by lane, the largest word of the first `t` blocks and its block. -/
def am (km : ℕ → Vec F S16 .i32) : ℕ → IVec S16 32 × IVec S16 32
  | 0 => (k0_pay9, k0_pay30)
  | t + 1 => (k0_pay11 (am km t).1 (km t), select (k0_pay10 (am km t).1 (km t)) (broadcast S16 (BitVec.ofNat 32 t)) (am km t).2)

/-- The tile's best position, in every lane. -/
def lid (km : ℕ → Vec F S16 .i32) : IVec S16 32 := k0_pay13 lanes (am km 79).1 (am km 79).2
/-- The tile's row of the exchange: its best word, and that one's score and box. -/
def nRow (km : ℕ → Vec F S16 .i32) : Vec F S16 .i32 := k0_pay14 lanes (am km 79).1
def nRowF (w : ℕ) (km : ℕ → Vec F S16 .i32) : Vec F S16 .f32 :=
  k0_pay19 (gath 1264 (by decide) (ofBlk 1264 (I.sc w)) (lid km)) (gath 1264 (by decide) (ofBlk 1264 (I.x1 w)) (lid km))
    (gath 1264 (by decide) (ofBlk 1264 (I.y1 w)) (lid km)) (gath 1264 (by decide) (ofBlk 1264 (I.x2 w)) (lid km))
    (gath 1264 (by decide) (ofBlk 1264 (I.y2 w)) (lid km)) (k0_pay15 lanes) (k0_pay16 lanes) (k0_pay17 lanes) (k0_pay18 lanes)

section Round

variable (km : ℕ → ℕ → Vec F S16 .i32)

/-- The tiles' best words. -/
def bests : Vec F S16 .i32 := gath 256 (by decide) (ofBlk 256 fun w => nRow (km w)) (k0_pay20 lanes)
/-- The best of them, -/
def best : BitVec 32 := last (k0_pay21 (F := F) (bests km))
/-- and the first tile that has it. -/
def bestW : BitVec 32 := last (k0_pay22 (F := F) lanes (bests km))

/-- A word of the exchanged rows of scores and boxes. -/
def nGet (v : IVec S16 32) : Vec F S16 .f32 := gath 256 (by decide) (ofBlk 256 fun w => nRowF I w (km w)) v

/-- The words after a round. -/
def kmStep (w t : ℕ) : Vec F S16 .i32 :=
  k0_pay28 (nGet I km (k0_pay24 (bestW km))) (nGet I km (k0_pay25 (bestW km))) (nGet I km (k0_pay26 (bestW km))) (nGet I km (k0_pay27 (bestW km)))
    (I.x1 w t) (I.y1 w t) (I.x2 w t) (I.y2 w t) (area I w t) (km w t)

/-- The best one's box and score, -/
def pick : Vec F S16 .f32 := nGet I km (k0_pay29 lanes (bestW km))
/-- and whether there was none left. -/
def none? : BitVec 1 := Scalar.cmpi .slt (best km) 0#32

end Round

/-- The words and the first round's row after `t` rounds. -/
def nms : ℕ → (ℕ → ℕ → Vec F S16 .i32) × Vec F S16 .f32
  | 0 => (km₀ I, k0_pay31 (F := F))
  | t + 1 => (kmStep I (nms t).1, k0_pay6 (nms t).2 (BitVec.ofNat 32 t) (pick I (nms t).1) (none? (nms t).1))

/-- Round `t`'s row of the result. -/
def oRow (t : ℕ) : Vec F S16 .f32 := k0_pay5 (nms I t).2 (pick I (nms I t).1) (none? (nms I t).1)

/-- The kernel's result. -/
def out : Vec F S500 .f32 := fun x => oRow I ((x 0).val / 5) (lane ((x 0).val % 5))

/-! ## What the exchanges carry -/

/-- Tile `w`'s row of words in exchange `k`: thirty steps of the bisection, the counts, the rounds. -/
def pub (k w : ℕ) : Vec F S16 .i32 := if k < 30 then bRow I w (bis I k) else if k = 30 then cRow I w else nRow ((nms I (k - 31)).1 w)
/-- Tile `w`'s row of score and box in exchange `k`. -/
def pubF (k w : ℕ) : Vec F S16 .f32 := nRowF I w ((nms I (k - 31)).1 w)

end

end Cert.Proof.Nms

end

end
-- ==== Proof.Loops.lean ====
/-
  The loops over a tile's 79 blocks of sixteen words: what each reads and leaves, with the payloads' recursions of the model.
-/
module

public import proofs.«01_k».proof.Proof.Bar
public import proofs.«01_k».proof.Proof.Model

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Reading and writing a block -/

theorem unit_idx {n : ℕ} {off : Fin 1 → ℕ} (inb : ∀ a, off a + S16.size a ≤ (⟨1, ![n]⟩ : Shape).size a) (t : ℕ) (ho : off 0 = 16 * t) (x : S16.Idx) :
    ((Rect.unit (s := ⟨1, ![n]⟩) off S16.size inb).emb x 0).val = 16 * t + (x 0).val := by
  rw [Rect.emb_apply]
  show off 0 + 1 * (x 0).val = 16 * t + (x 0).val
  rw [ho, Nat.one_mul]

/-- Block `t` of an array read through a view that reads the array. -/
theorem rd {sp : Space} {n : ℕ} {e : EltTy} (v : View sig .scVector sp ⟨1, ![n]⟩ e) (f : v.ty.Contents (Elt F)) (P : ℕ → S16.Idx → Elt F e)
    (hf : v.read (Elt F) f = ofBlk n P) {off : Fin 1 → ℕ} (inb : ∀ a, off a + S16.size a ≤ (⟨1, ![n]⟩ : Shape).size a) (t : ℕ) (ho : off 0 = 16 * t) :
    v.readAt (Elt F) (Rect.unit (s := ⟨1, ![n]⟩) off S16.size inb).toLoadRect f = P t := by
  funext x
  rw [View.readAt_apply, hf]
  exact ofBlk_at P t x _ (unit_idx inb t ho x)

/-- Block `t` replaced. -/
theorem wr {sp : Space} {n : ℕ} {e : EltTy} (v : View sig .scVector sp ⟨1, ![n]⟩ e) (f : v.ty.Contents (Elt F)) (P : ℕ → S16.Idx → Elt F e)
    (hf : v.read (Elt F) f = ofBlk n P) {off : Fin 1 → ℕ} (inb : ∀ a, off a + S16.size a ≤ (⟨1, ![n]⟩ : Shape).size a) (t : ℕ) (ho : off 0 = 16 * t)
    (w : S16.Idx → Elt F e) :
    v.read (Elt F) (v.writes (Elt F) f [⟨Rect.unit (s := ⟨1, ![n]⟩) off S16.size inb, w⟩]) = ofBlk n (Function.update P t w) := by
  funext y
  rw [ofBlk_update]
  by_cases hy : (y 0).val / 16 = t
  · rw [if_pos hy]
    have hx : y = (Rect.unit (s := ⟨1, ![n]⟩) off S16.size inb).emb (lane (y 0).val) := by
      funext a
      obtain rfl : a = 0 := Subsingleton.elim _ _
      refine Fin.ext ?_
      rw [unit_idx inb t ho, lane_coe]; omega
    conv_lhs => rw [hx]
    exact View.read_writes_cons_emb v f (Rect.unit (s := ⟨1, ![n]⟩) off S16.size inb) w [] _
  · rw [if_neg hy, View.read_writes_apply_of_forall_not_mem v f y _ ?_, hf]
    intro p hp
    rw [List.mem_singleton] at hp
    subst hp
    intro hm
    rw [← Rect.map_emb_univ] at hm
    obtain ⟨x, -, rfl⟩ := Finset.mem_map.mp hm
    refine hy ?_
    rw [unit_idx inb t ho]; exact blk_div t x

/-! ## Places -/

variable [FloatOps F] (d : Dev nD) (i : grid0.Coords)

abbrev cV (i : grid0.Coords) : Fin τ.nSC := (i 0).castLE hcore0
abbrev jV (i : grid0.Coords) : Fin τ.nSub := (i 1).castLE hsub0

/-- One of the tile's own arrays, whole. -/
abbrev pt (b : Ref sig .scVector) (f : Buf (Elt F) ((Memref.whole b).view.loc (V d (cV i) (jV i)))) : sProp (MM F) :=
  (Memref.whole b).view.loc (V d (cV i) (jV i)) ↦{fullShare} f

/-! ## Loops -/

/-- A loop whose carried value before trip `k` is `g k`: what holds before the first trip gives what holds after the last. -/
theorem for_run {l : Scf.Loop 32} {hok : l.OK} {σ α : Type} {body : Fin l.trips → σ → Prog (TpuEff nD τ sig (Elt F) Λ₀ (.scVector (cV i) (jV i))) σ}
    (g : ℕ → σ) (R : ℕ → sProp (MM F)) (n : ℕ) (hn : l.trips = n)
    (hstep : ∀ k : Fin l.trips, R k.val ⊢ wp frame (wpE (defs₀ (F := F)) 𝒱₀ (V d (cV i) (jV i)) none) Set.univ (body k (g k.val)) fun a => iprop(⌜a = g (k.val + 1)⌝ ∗ R (k.val + 1)))
    {k : σ → Prog (TpuEff nD τ sig (Elt F) Λ₀ (.scVector (cV i) (jV i))) α} {Q : α → sProp (MM F)} :
    R 0 ⊢ iprop((R n -∗ wp frame (wpE (defs₀ (F := F)) 𝒱₀ (V d (cV i) (jV i)) none) Set.univ (k (g n)) Q)
      -∗ wp frame (wpE (defs₀ (F := F)) 𝒱₀ (V d (cV i) (jV i)) none) Set.univ (Scf.Loop.for l hok (g 0) body >>= k) Q) := by
  subst hn
  rw [wp_bind]
  iintro H HK
  iapply (Scf.wp_for frame (wpE (defs₀ (F := F)) 𝒱₀ (V d (cV i) (jV i)) none) Set.univ l.lb l.ub l.st hok (g 0) body
    (fun k a => iprop(⌜a = g k⌝ ∗ R k)) (fun k acc => by
      iintro ⟨%e, H⟩
      subst e
      iapply (hstep k); iexact H))
  isplitl [H]
  · isplitr; · ipureintro; rfl
    iexact H
  · iintro %a ⟨%e, H⟩
    subst e
    iapply HK; iexact H

theorem off_zero (t : ℕ) : (![16 * t] : Fin 1 → ℕ) 0 = 16 * t := rfl

/-- An array held at equal contents. -/
theorem held {ℓ : Loc nD τ sig} {f g : Buf (Elt F) ℓ} (h : f = g) : (ℓ ↦{fullShare} f : sProp (MM F)) ⊢ ℓ ↦{fullShare} g := h ▸ .rfl

/-- Filling block after block. -/
theorem fill {α : Type} (A P : ℕ → α) (t : ℕ) :
    Function.update (fun s => if s < t then A s else P s) t (A t) = fun s => if s < t + 1 then A s else P s := by
  funext s
  rcases lt_trichotomy s t with h | rfl | h
  · rw [Function.update_of_ne h.ne, if_pos h, if_pos (by omega)]
  · rw [Function.update_self, if_pos (by omega)]
  · rw [Function.update_of_ne h.ne', if_neg (by omega), if_neg (by omega)]

theorem fill_all {α : Type} (A P : ℕ → S16.Idx → α) : (ofBlk 1264 fun s => if s < 79 then A s else P s) = ofBlk 1264 A := by
  funext y
  have h : (y 0).val < 1264 := (y 0).isLt
  unfold ofBlk
  dsimp only
  rw [if_pos (by omega)]

theorem fill_none {α : Type} (A P : ℕ → S16.Idx → α) : (ofBlk 1264 fun s => if s < 0 then A s else P s) = ofBlk 1264 P := rfl

omit [FloatOps F] in
theorem iv_eq (k : ℕ) : Scf.iv 0#32 1#32 k = BitVec.ofNat 32 k := by
  simp [Scf.iv]

variable (I : Inp F) (w : ℕ)

/-- The areas. -/
theorem t1_run (P : ℕ → Vec F S16 .f32) {α : Type} {k : Unit → Prog (TpuEff nD τ sig (Elt F) Λ₀ (.scVector (cV i) (jV i))) α} {Q : α → sProp (MM F)} :
    iprop(pt d i cc0_scratch0 (ofBlk 1264 (I.x1 w)) ∗ pt d i cc0_scratch1 (ofBlk 1264 (I.y1 w)) ∗ pt d i cc0_scratch2 (ofBlk 1264 (I.x2 w))
      ∗ pt d i cc0_scratch3 (ofBlk 1264 (I.y2 w)) ∗ pt (F := F) d i cc0_scratch4 (ofBlk 1264 P))
    ⊢ iprop((iprop(pt d i cc0_scratch0 (ofBlk 1264 (I.x1 w)) ∗ pt d i cc0_scratch1 (ofBlk 1264 (I.y1 w)) ∗ pt d i cc0_scratch2 (ofBlk 1264 (I.x2 w))
        ∗ pt d i cc0_scratch3 (ofBlk 1264 (I.y2 w)) ∗ pt (F := F) d i cc0_scratch4 (ofBlk 1264 (area I w)))
        -∗ wp frame (wpE (defs₀ (F := F)) 𝒱₀ (V d (cV i) (jV i)) none) Set.univ (k ⟨⟩) Q)
      -∗ wp frame (wpE (defs₀ (F := F)) 𝒱₀ (V d (cV i) (jV i)) none) Set.univ (Scf.Loop.for k0_t1_loop k0_t1_ok ⟨⟩ (k0_t1_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14) >>= k) Q) := by
  have key := for_run (l := k0_t1_loop) (hok := k0_t1_ok) d i (fun _ => ⟨⟩) (fun t => iprop(pt d i cc0_scratch0 (ofBlk 1264 (I.x1 w)) ∗ pt d i cc0_scratch1 (ofBlk 1264 (I.y1 w)) ∗ pt d i cc0_scratch2 (ofBlk 1264 (I.x2 w))
        ∗ pt d i cc0_scratch3 (ofBlk 1264 (I.y2 w)) ∗ pt (F := F) d i cc0_scratch4 (ofBlk 1264 fun s => if s < t then area I w s else P s))) 79 (by decide)
    (body := k0_t1_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14) (k := k) (Q := Q) (fun k => by
      have ho : k0_off2 k 0 = 16 * k.val := by rw [Gen.k0_off2_eq]; rfl
      unfold k0_t1_body
      iintro ⟨H0, H1, H2, H3, H4⟩
      sl_exec
      sl_step
      isplitr; · ipureintro; rfl
      isplitl [H0]; · iexact H0
      isplitl [H1]; · iexact H1
      isplitl [H2]; · iexact H2
      isplitl [H3]; · iexact H3
      iapply (held ?_) $$ H4
      rw [← fill, rd (Memref.whole cc0_scratch2).view _ (I.x2 w) rfl _ _ ho, rd (Memref.whole cc0_scratch0).view _ (I.x1 w) rfl _ _ ho, rd (Memref.whole cc0_scratch3).view _ (I.y2 w) rfl _ _ ho, rd (Memref.whole cc0_scratch1).view _ (I.y1 w) rfl _ _ ho]
      exact wr (Memref.whole cc0_scratch4).view (ofBlk 1264 fun s => if s < k.val then area I w s else P s) _ rfl _ _ ho _)
  rw [fill_all, fill_none] at key
  exact key

/-- The count of one step of the bisection. -/
theorem t3_run (lo hi : BitVec 32) {α : Type} {k : BitVec 32 → Prog (TpuEff nD τ sig (Elt F) Λ₀ (.scVector (cV i) (jV i))) α} {Q : α → sProp (MM F)} :
    pt d i cc0_scratch5 (ofBlk 1264 (I.ks w))
    ⊢ iprop((pt d i cc0_scratch5 (ofBlk 1264 (I.ks w)) -∗ wp frame (wpE (defs₀ (F := F)) 𝒱₀ (V d (cV i) (jV i)) none) Set.univ (k (cnt (I.ks w) lo hi 79)) Q)
      -∗ wp frame (wpE (defs₀ (F := F)) 𝒱₀ (V d (cV i) (jV i)) none) Set.univ (Scf.Loop.for k0_t3_loop k0_t3_ok 0#32 (k0_t3_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 lo hi) >>= k) Q) :=
  for_run (l := k0_t3_loop) (hok := k0_t3_ok) d i (cnt (I.ks w) lo hi) (fun _ => pt d i cc0_scratch5 (ofBlk 1264 (I.ks w))) 79 (by decide)
    (body := k0_t3_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 lo hi) (k := k) (Q := Q) (fun k => by
      have ho : k0_off3 k 0 = 16 * k.val := by rw [Gen.k0_off3_eq]; rfl
      unfold k0_t3_body
      iintro H
      sl_exec
      sl_step
      isplitr
      · ipureintro
        exact congrArg (fun v : Vec F S16 .i32 => Scalar.addi (cnt (I.ks w) lo hi k.val) (last (k0_pay33 (F := F) lo hi v))) (rd (Memref.whole cc0_scratch5).view _ (I.ks w) rfl _ _ ho)
      · iexact H)

/-- The two counts. -/
theorem t4_run (a1 : BitVec 32) (v0 : IVec S16 32) (t0 : BitVec 32) {α : Type} {k : BitVec 32 × BitVec 32 → Prog (TpuEff nD τ sig (Elt F) Λ₀ (.scVector (cV i) (jV i))) α} {Q : α → sProp (MM F)} :
    pt d i cc0_scratch5 (ofBlk 1264 (I.ks w))
    ⊢ iprop((pt d i cc0_scratch5 (ofBlk 1264 (I.ks w)) -∗ wp frame (wpE (defs₀ (F := F)) 𝒱₀ (V d (cV i) (jV i)) none) Set.univ (k (geq (I.ks w) t0 79)) Q)
      -∗ wp frame (wpE (defs₀ (F := F)) 𝒱₀ (V d (cV i) (jV i)) none) Set.univ (Scf.Loop.for k0_t4_loop k0_t4_ok (0#32, 0#32) (k0_t4_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 a1 v0 t0) >>= k) Q) :=
  for_run (l := k0_t4_loop) (hok := k0_t4_ok) d i (geq (I.ks w) t0) (fun _ => pt d i cc0_scratch5 (ofBlk 1264 (I.ks w))) 79 (by decide)
    (body := k0_t4_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 a1 v0 t0) (k := k) (Q := Q) (fun k => by
      have ho : k0_off5 k 0 = 16 * k.val := by rw [Gen.k0_off5_eq]; rfl
      unfold k0_t4_body
      iintro H
      sl_exec
      sl_step
      isplitr
      · ipureintro
        exact congrArg (fun v : Vec F S16 .i32 => (Scalar.addi (geq (I.ks w) t0 k.val).1 (last (k0_pay37 (F := F) t0 v)), Scalar.addi (geq (I.ks w) t0 k.val).2 (last (k0_pay38 (F := F) t0 v)))) (rd (Memref.whole cc0_scratch5).view _ (I.ks w) rfl _ _ ho)
      · iexact H)

/-- The candidates' words. -/
theorem t5_run (P : ℕ → Vec F S16 .i32) {α : Type} {k : BitVec 32 → Prog (TpuEff nD τ sig (Elt F) Λ₀ (.scVector (cV i) (jV i))) α} {Q : α → sProp (MM F)} :
    iprop(pt d i cc0_scratch5 (ofBlk 1264 (I.ks w)) ∗ pt (F := F) d i cc0_scratch6 (ofBlk 1264 P))
    ⊢ iprop((iprop(pt d i cc0_scratch5 (ofBlk 1264 (I.ks w)) ∗ pt (F := F) d i cc0_scratch6 (ofBlk 1264 (km₀ I w)))
        -∗ wp frame (wpE (defs₀ (F := F)) 𝒱₀ (V d (cV i) (jV i)) none) Set.univ (k (car I w 79)) Q)
      -∗ wp frame (wpE (defs₀ (F := F)) 𝒱₀ (V d (cV i) (jV i)) none) Set.univ (Scf.Loop.for k0_t5_loop k0_t5_ok 0#32
        (k0_t5_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 (tst I) (cEq I) (nEq I) (k0_pay43 (BitVec.ofNat 32 w) lanes) k0_pay44) >>= k) Q) := by
  have key := for_run (l := k0_t5_loop) (hok := k0_t5_ok) d i (car I w) (fun t => iprop(pt d i cc0_scratch5 (ofBlk 1264 (I.ks w))
        ∗ pt (F := F) d i cc0_scratch6 (ofBlk 1264 fun s => if s < t then km₀ I w s else P s))) 79 (by decide)
    (body := k0_t5_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 (tst I) (cEq I) (nEq I) (k0_pay43 (BitVec.ofNat 32 w) lanes) k0_pay44) (k := k) (Q := Q) (fun k => by
      have ho : k0_off7 k 0 = 16 * k.val := by rw [Gen.k0_off7_eq]; rfl
      unfold k0_t5_body
      iintro ⟨H5, H6⟩
      sl_exec
      sl_step
      isplitr
      · ipureintro
        exact congrArg (fun v : Vec F S16 .i32 => Scalar.addi (car I w k.val) (last (k0_pay4 (F := F) (tst I) v))) (rd (Memref.whole cc0_scratch5).view _ (I.ks w) rfl _ _ ho)
      isplitl [H5]; · iexact H5
      iapply (held ?_) $$ H6
      rw [← fill, rd (Memref.whole cc0_scratch5).view _ (I.ks w) rfl _ _ ho]
      exact wr (Memref.whole cc0_scratch6).view (ofBlk 1264 fun s => if s < k.val then km₀ I w s else P s) _ rfl _ _ ho _)
  rw [fill_all, fill_none] at key
  exact key

/-- Lane by lane, the largest word and its block. -/
theorem t7_run (km : ℕ → Vec F S16 .i32) {α : Type} {k : IVec S16 32 × IVec S16 32 → Prog (TpuEff nD τ sig (Elt F) Λ₀ (.scVector (cV i) (jV i))) α} {Q : α → sProp (MM F)}
    (v0 v1 : IVec S16 32) (a b : BitVec 32) (u : Fin k0_t6_loop.trips) :
    pt d i cc0_scratch6 (ofBlk 1264 km)
    ⊢ iprop((pt d i cc0_scratch6 (ofBlk 1264 km) -∗ wp frame (wpE (defs₀ (F := F)) 𝒱₀ (V d (cV i) (jV i)) none) Set.univ (k (am km 79)) Q)
      -∗ wp frame (wpE (defs₀ (F := F)) 𝒱₀ (V d (cV i) (jV i)) none) Set.univ (Scf.Loop.for k0_t7_loop k0_t7_ok (k0_pay9, k0_pay30) (k0_t7_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 v0 v1 a b u) >>= k) Q) :=
  for_run (l := k0_t7_loop) (hok := k0_t7_ok) d i (am km) (fun _ => pt d i cc0_scratch6 (ofBlk 1264 km)) 79 (by decide)
    (body := k0_t7_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 v0 v1 a b u) (k := k) (Q := Q) (fun k => by
      have ho : k0_off8 k 0 = 16 * k.val := by rw [Gen.k0_off8_eq]; rfl
      unfold k0_t7_body
      iintro H
      sl_exec
      sl_step
      isplitr
      · ipureintro
        refine (congrArg (fun v : Vec F S16 .i32 => ((k0_pay11 (am km k.val).1 v, k0_pay12 k (am km k.val).1 (am km k.val).2 v) : IVec S16 32 × IVec S16 32)) (rd (Memref.whole cc0_scratch6).view _ km rfl _ _ ho)).trans ?_
        show (k0_pay11 (am km k.val).1 (km k.val), k0_pay12 k (am km k.val).1 (am km k.val).2 (km k.val)) = (k0_pay11 (am km k.val).1 (km k.val), select (k0_pay10 (am km k.val).1 (km k.val)) (broadcast S16 (BitVec.ofNat 32 k.val)) (am km k.val).2)
        unfold k0_pay12
        rw [iv_eq]
      · iexact H)

/-- The suppression. -/
theorem t8_run (km : ℕ → ℕ → Vec F S16 .i32) {α : Type} {k : Unit → Prog (TpuEff nD τ sig (Elt F) Λ₀ (.scVector (cV i) (jV i))) α} {Q : α → sProp (MM F)} :
    iprop(pt d i cc0_scratch0 (ofBlk 1264 (I.x1 w)) ∗ pt d i cc0_scratch1 (ofBlk 1264 (I.y1 w)) ∗ pt d i cc0_scratch2 (ofBlk 1264 (I.x2 w))
      ∗ pt d i cc0_scratch3 (ofBlk 1264 (I.y2 w)) ∗ pt (F := F) d i cc0_scratch4 (ofBlk 1264 (area I w)) ∗ pt (F := F) d i cc0_scratch6 (ofBlk 1264 (km w)))
    ⊢ iprop((iprop(pt d i cc0_scratch0 (ofBlk 1264 (I.x1 w)) ∗ pt d i cc0_scratch1 (ofBlk 1264 (I.y1 w)) ∗ pt d i cc0_scratch2 (ofBlk 1264 (I.x2 w))
        ∗ pt d i cc0_scratch3 (ofBlk 1264 (I.y2 w)) ∗ pt (F := F) d i cc0_scratch4 (ofBlk 1264 (area I w)) ∗ pt (F := F) d i cc0_scratch6 (ofBlk 1264 (kmStep I km w)))
        -∗ wp frame (wpE (defs₀ (F := F)) 𝒱₀ (V d (cV i) (jV i)) none) Set.univ (k ⟨⟩) Q)
      -∗ wp frame (wpE (defs₀ (F := F)) 𝒱₀ (V d (cV i) (jV i)) none) Set.univ (Scf.Loop.for k0_t8_loop k0_t8_ok ⟨⟩ (k0_t8_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 lanes (best km) (bestW km)
        (nGet I km (k0_pay24 (bestW km))) (nGet I km (k0_pay25 (bestW km))) (nGet I km (k0_pay26 (bestW km))) (nGet I km (k0_pay27 (bestW km)))) >>= k) Q) := by
  have key := for_run (l := k0_t8_loop) (hok := k0_t8_ok) d i (fun _ => ⟨⟩) (fun t => iprop(pt d i cc0_scratch0 (ofBlk 1264 (I.x1 w)) ∗ pt d i cc0_scratch1 (ofBlk 1264 (I.y1 w)) ∗ pt d i cc0_scratch2 (ofBlk 1264 (I.x2 w))
        ∗ pt d i cc0_scratch3 (ofBlk 1264 (I.y2 w)) ∗ pt (F := F) d i cc0_scratch4 (ofBlk 1264 (area I w)) ∗ pt (F := F) d i cc0_scratch6 (ofBlk 1264 fun s => if s < t then kmStep I km w s else km w s))) 79 (by decide)
    (body := k0_t8_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 lanes (best km) (bestW km)
        (nGet I km (k0_pay24 (bestW km))) (nGet I km (k0_pay25 (bestW km))) (nGet I km (k0_pay26 (bestW km))) (nGet I km (k0_pay27 (bestW km)))) (k := k) (Q := Q) (fun k => by
      have ho : k0_off10 k 0 = 16 * k.val := by rw [Gen.k0_off10_eq]; rfl
      unfold k0_t8_body
      iintro ⟨H0, H1, H2, H3, H4, H6⟩
      sl_exec
      sl_step
      isplitr; · ipureintro; rfl
      isplitl [H0]; · iexact H0
      isplitl [H1]; · iexact H1
      isplitl [H2]; · iexact H2
      isplitl [H3]; · iexact H3
      isplitl [H4]; · iexact H4
      iapply (held ?_) $$ H6
      rw [← fill, rd (Memref.whole cc0_scratch2).view _ (I.x2 w) rfl _ _ ho, rd (Memref.whole cc0_scratch0).view _ (I.x1 w) rfl _ _ ho, rd (Memref.whole cc0_scratch3).view _ (I.y2 w) rfl _ _ ho, rd (Memref.whole cc0_scratch1).view _ (I.y1 w) rfl _ _ ho, rd (Memref.whole cc0_scratch4).view _ (area I w) rfl _ _ ho,
        show t8_run.sl.v194 d i I w km k = km w k.val from (rd (Memref.whole cc0_scratch6).view _ (fun s => if s < k.val then kmStep I km w s else km w s) rfl _ _ ho).trans (if_neg (lt_irrefl _))]
      exact wr (Memref.whole cc0_scratch6).view (ofBlk 1264 fun s => if s < k.val then kmStep I km w s else km w s) _ rfl _ _ ho _)
  rw [fill_all, fill_none] at key
  exact key

end Cert.Proof.Nms

end

end
-- ==== Proof.Exch.lean ====
/-
  What the exchanges carry. Exchange `k` meets at barriers `2k` and `2k + 1`: at the first a tile hands every tile a share of its row
  of the shared table and gets a share of the whole, at the second it hands the shares of the rows back and gets its own row whole.
  From exchange 31 on a second table, of floats, goes the same way.
-/
module

public import proofs.«01_k».proof.Proof.Bar
public import proofs.«01_k».proof.Proof.Model

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The shared tables and their rows -/

abbrev sbL (d : Dev nD) (c : Fin τ.nSC) : Loc nD τ sig := (Memref.whole cc0_scratch10).view.loc (V d c 0)
abbrev sfL (d : Dev nD) (c : Fin τ.nSC) : Loc nD τ sig := (Memref.whole cc0_scratch14).view.loc (V d c 0)

theorem hdiv : 16 ∣ S256.size 0 := ⟨16, rfl⟩
/-- Tile `w`'s row of a table: sixteen words. -/
abbrev rowS (w : Fin 16) : Finset S256.Idx := (Rect.part (s := S256) (a₀ := 0) hdiv w).set

theorem rows_disjoint : ∀ w ∈ (Finset.univ : Finset (Fin 16)), ∀ w' ∈ (Finset.univ : Finset (Fin 16)), w ≠ w' → Disjoint (rowS w) (rowS w') :=
  fun _ _ _ _ h => Rect.part_disjoint hdiv h
theorem rows_cover : (Finset.univ : Finset (Fin 16)).biUnion rowS = Finset.univ := Rect.biUnion_part hdiv

/-- Tile `j`'s share. -/
def sh (j : Fin 16) : PosShare TreeShare := Transfers.dealOf fullShare (Finset.univ : Finset (Fin 16)) j

/-- A row is the shares of it, -/
theorem row_deal {ℓ : Loc nD τ sig} (S : Finset (Idx ℓ)) (f : Buf (Elt F) ℓ) :
    (ℓ ↦[S]{fullShare} f : sProp (MM F)) = bigSep Finset.univ fun j : Fin 16 => ℓ ↦[S]{sh j} f :=
  Transfers.pointsTo_deal Finset.univ ⟨0, Finset.mem_univ _⟩ fullShare

/-- and a table the rows of it. -/
theorem sb_rows (d : Dev nD) (c : Fin τ.nSC) (q : PosShare TreeShare) (f : Buf (Elt F) (sbL d c)) :
    (sbL d c ↦{q} f : sProp (MM F)) = bigSep Finset.univ fun w : Fin 16 => sbL d c ↦[rowS w]{q} f := by
  rw [← pointsTo_biUnion (ℓ := sbL d c) Finset.univ rowS rows_disjoint]
  exact congrArg (fun S : Finset (Idx (sbL d c)) => (sbL d c ↦[S]{q} f : sProp (MM F))) rows_cover.symm
theorem sf_rows (d : Dev nD) (c : Fin τ.nSC) (q : PosShare TreeShare) (f : Buf (Elt F) (sfL d c)) :
    (sfL d c ↦{q} f : sProp (MM F)) = bigSep Finset.univ fun w : Fin 16 => sfL d c ↦[rowS w]{q} f := by
  rw [← pointsTo_biUnion (ℓ := sfL d c) Finset.univ rowS rows_disjoint]
  exact congrArg (fun S : Finset (Idx (sfL d c)) => (sfL d c ↦[S]{q} f : sProp (MM F))) rows_cover.symm

/-! ## The payload of a barrier -/

variable [FloatOps F] (J : Dev nD → Inp F)

omit [FloatOps F] in
theorem emps (s : Finset (Fin 16)) : (bigSep s fun _ => iprop(emp)) = (iprop(emp) : sProp (MM F)) := bigSep_emp_const s

/-- The words' table, and the floats', in exchange `k`. -/
def tabI (d : Dev nD) (k : ℕ) : Vec F S256 .i32 := ofBlk 256 (pub (J d) k)
def tabF (d : Dev nD) (k : ℕ) : Vec F S256 .f32 := ofBlk 256 (pubF (J d) k)

/-- Share `s` of tile `w`'s row, or of its whole tables, in exchange `k`. -/
def rowP (d : Dev nD) (c : Fin τ.nSC) (k : ℕ) (w : Fin 16) (q : PosShare TreeShare) : sProp (MM F) :=
  iprop((sbL d c ↦[rowS w]{q} (tabI J d k)) ∗ if 31 ≤ k then (sfL d c ↦[rowS w]{q} (tabF J d k)) else iprop(emp))
def tabP (d : Dev nD) (c : Fin τ.nSC) (k : ℕ) (q : PosShare TreeShare) : sProp (MM F) :=
  iprop((sbL d c ↦{q} (tabI J d k)) ∗ if 31 ≤ k then (sfL d c ↦{q} (tabF J d k)) else iprop(emp))

theorem rowP_deal (d : Dev nD) (c : Fin τ.nSC) (k : ℕ) (w : Fin 16) :
    rowP J d c k w fullShare = bigSep Finset.univ fun j : Fin 16 => rowP J d c k w (sh j) := by
  unfold rowP
  rw [bigSep_sep', ← row_deal]
  by_cases h : 31 ≤ k
  · simp only [if_pos h]; rw [← row_deal]
  · simp only [if_neg h]; rw [emps]

theorem tabP_rows (d : Dev nD) (c : Fin τ.nSC) (k : ℕ) (q : PosShare TreeShare) :
    tabP J d c k q = bigSep Finset.univ fun w : Fin 16 => rowP J d c k w q := by
  unfold rowP tabP
  rw [bigSep_sep', ← sb_rows]
  by_cases h : 31 ≤ k
  · simp only [if_pos h]; rw [← sf_rows]
  · simp only [if_neg h]; rw [emps]

/-- What tile `i` hands tile `j` at barrier `s`. -/
def pay (d : Dev nD) (c : Fin τ.nSC) (s : ℕ) (i j : Fin 16) : sProp (MM F) :=
  if s % 2 = 0 then rowP J d c (s / 2) i (sh j) else rowP J d c (s / 2) j (sh i)

instance rowP_storable (d : Dev nD) (c : Fin τ.nSC) (k : ℕ) (w : Fin 16) (q : PosShare TreeShare) :
    BI.Storable (upEmb : UEmb _ (MM F)) (rowP J d c k w q) := by
  unfold rowP; split <;> infer_instance
instance pay_storable (d : Dev nD) (c : Fin τ.nSC) (s : ℕ) (i j : Fin 16) : BI.Storable (upEmb : UEmb _ (MM F)) (pay J d c s i j) := by
  unfold pay; split <;> infer_instance

theorem pay_even (d : Dev nD) (c : Fin τ.nSC) (k : ℕ) (i j : Fin 16) : pay J d c (2 * k) i j = rowP J d c k i (sh j) := by
  unfold pay; rw [if_pos (by omega), show 2 * k / 2 = k by omega]
theorem pay_odd (d : Dev nD) (c : Fin τ.nSC) (k : ℕ) (i j : Fin 16) : pay J d c (2 * k + 1) i j = rowP J d c k j (sh i) := by
  unfold pay; rw [if_neg (by omega), show (2 * k + 1) / 2 = k by omega]

/-! ## A tile at a barrier -/

section Tile

variable (d : Dev nD) (c : Fin τ.nSC) (i : Fin 16) (O : CellTallies nD τ sig (HIx NR)) (W : Waits sig (HIx NR))

/-- The waits a tile has made since it was given the task: of its transfers and at the barriers. -/
def Wok (W' : Waits sig (HIx NR)) : Prop := ∀ p ∈ W', p ∈ W ∨ p.2 = none ∨ ∃ j, p.2 = some j

/-- A tile before barrier `r`. -/
def BS (r : ℕ) : sProp (MM F) :=
  iprop(TS d c i r ∗ ∃ W' : Waits sig (HIx NR), ⌜Wok W W'⌝ ∗ owes (V d c i) (O + debt d c r) W')

variable (hO : ∀ g ι, 0 < O g ι → 8 * 261 + 6 ≤ (K (F := F)).lev g ι)
    (lv : GSem nD τ sig → HIx NR → ℕ) (hlv : (K (F := F)).Refines lv) (hn : 16 ≤ τ.nSub)

include hO hlv in
theorem bar_step {r : ℕ} (hr : r < NR) (A B : sProp (MM F)) (hA : A ⊢ bigSep Finset.univ fun j : Fin 16 => pay J d c r i j)
    (hB : (bigSep Finset.univ fun j : Fin 16 => pay J d c r j i) ⊢ B) {α : Type}
    {Q : α → sProp (MM F)} {k : PUnit → Prog (TpuEff nD τ sig (Elt F) Λ₀ (.scVector c i)) α} :
    iprop(ctxB (pay J) d c ∗ levAts (K (F := F)).L lv ∗ BS d c i O W r ∗ A)
      ⊢ iprop((iprop(BS d c i O W (r + 1) ∗ B) -∗ wp frame (wpE defs₀ 𝒱₀ (V d c i) none) Set.univ (k ⟨⟩) Q)
          -∗ wp frame (wpE defs₀ 𝒱₀ (V d c i) none) Set.univ (SparseCore.subcoreBarrier sc_bar0 16 hn >>= k) Q) := by
  iintro ⟨HC, Hlev, HS, HA⟩ Hk
  unfold BS
  icases HS with ⟨HT, ⟨%W', %hW, HO⟩⟩
  ihave HA := hA $$ HA
  iapply (wp_bar (pay := pay J) d c i hr O hO lv hlv W' hn) $$ [HC HT HO Hlev HA]
  · isplitl [HC]; · iexact HC
    isplitl [HT]; · iexact HT
    isplitl [HO]; · iexact HO
    isplitl [Hlev]; · iexact Hlev
    iexact HA
  iintro ⟨HT, HO, HB⟩
  iapply Hk
  isplitr [HB]
  · isplitl [HT]; · iexact HT
    iexists _
    isplitr [HO]; swap
    · iexact HO
    · ipureintro
      intro p hp
      rcases Finset.mem_insert.mp hp with rfl | hp
      · exact .inr (.inr ⟨⟨r, hr⟩, stg_lt hr⟩)
      · exact hW p hp
  · iapply hB; iexact HB

include hO hlv in
/-- The first barrier of exchange `k`. -/
theorem bar_pub {k' : ℕ} (hk : k' < 131) {α : Type} {Q : α → sProp (MM F)} {k : PUnit → Prog (TpuEff nD τ sig (Elt F) Λ₀ (.scVector c i)) α} :
    iprop(ctxB (pay J) d c ∗ levAts (K (F := F)).L lv ∗ BS d c i O W (2 * k') ∗ rowP J d c k' i fullShare)
      ⊢ iprop((iprop(BS d c i O W (2 * k' + 1) ∗ tabP J d c k' (sh i)) -∗ wp frame (wpE defs₀ 𝒱₀ (V d c i) none) Set.univ (k ⟨⟩) Q)
          -∗ wp frame (wpE defs₀ 𝒱₀ (V d c i) none) Set.univ (SparseCore.subcoreBarrier sc_bar0 16 hn >>= k) Q) := by
  refine bar_step J d c i O W hO lv hlv hn (show 2 * k' < 262 by omega) _ _ ?_ ?_
  · rw [rowP_deal]; simp only [pay_even]; exact .rfl
  · rw [tabP_rows]; simp only [pay_even]; exact .rfl

include hO hlv in
/-- The second. -/
theorem bar_ret {k' : ℕ} (hk : k' < 131) {α : Type} {Q : α → sProp (MM F)} {k : PUnit → Prog (TpuEff nD τ sig (Elt F) Λ₀ (.scVector c i)) α} :
    iprop(ctxB (pay J) d c ∗ levAts (K (F := F)).L lv ∗ BS d c i O W (2 * k' + 1) ∗ tabP J d c k' (sh i))
      ⊢ iprop((iprop(BS d c i O W (2 * (k' + 1)) ∗ rowP J d c k' i fullShare) -∗ wp frame (wpE defs₀ 𝒱₀ (V d c i) none) Set.univ (k ⟨⟩) Q)
          -∗ wp frame (wpE defs₀ 𝒱₀ (V d c i) none) Set.univ (SparseCore.subcoreBarrier sc_bar0 16 hn >>= k) Q) := by
  refine bar_step J d c i O W hO lv hlv hn (show 2 * k' + 1 < 262 by omega) _ _ ?_ ?_
  · rw [tabP_rows]; simp only [pay_odd]; exact .rfl
  · rw [rowP_deal]; simp only [pay_odd]; exact .rfl

end Tile

end Cert.Proof.Nms

end

end
-- ==== Proof.Bisect.lean ====
/-
  The bisection for the threshold: thirty exchanges of the tiles' counts.
-/
module

public import proofs.«01_k».proof.Proof.Bar
public import proofs.«01_k».proof.Proof.Model
public import proofs.«01_k».proof.Proof.Loops
public import proofs.«01_k».proof.Proof.Exch

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords) (J : Dev nD → Inp F)

/-- The tile as a number. -/
abbrev wN (i : grid0.Coords) : ℕ := (i 1).val

/-- A cell of one of the tile's transfers, at zero. -/
abbrev dsem (s : DmaSems sig S_) : sProp (MM F) := semVal (V d (cV i) (jV i), .dma s.sem) 0

/-- The tile's row of the words' table as the program slices it. -/
theorem rowS_unit {off : Fin 1 → ℕ} (inb : ∀ a, off a + S16.size a ≤ S256.size a) (w : Fin 16) (ho : off = ![16 * w.val]) :
    (Rect.unit (s := S256) off S16.size inb) = Rect.part (s := S256) (a₀ := 0) hdiv w := by
  subst ho
  unfold Rect.part Rect.block
  congr 1 <;> funext a
  · obtain rfl : a = 0 := Subsingleton.elim _ _
    simp [Shape.partIx, Shape.partSize]; omega
  · obtain rfl : a = 0 := Subsingleton.elim _ _
    simp [Shape.partSize]

omit [FloatOps F] in
/-- A sixteen-word array stored whole. -/
theorem st16 {sp : Space} {e : EltTy} (v : View sig .scVector sp S16 e) (f : v.ty.Contents (Elt F)) {off : Fin 1 → ℕ}
    (inb : ∀ a, off a + S16.size a ≤ S16.size a) (ho : off 0 = 0) (w : S16.Idx → Elt F e) :
    v.read (Elt F) (v.writes (Elt F) f [⟨Rect.unit (s := S16) off S16.size inb, w⟩]) = w := by
  funext y
  have hx : y = (Rect.unit (s := S16) off S16.size inb).emb y := by
    funext a
    obtain rfl : a = 0 := Subsingleton.elim _ _
    refine Fin.ext ?_
    rw [Rect.emb_apply]
    show (y 0).val = off 0 + 1 * (y 0).val
    omega
  conv_lhs => rw [hx]
  exact View.read_writes_cons_emb v f (Rect.unit (s := S16) off S16.size inb) w [] y

omit [FloatOps F] in
/-- Any array written whole. -/
theorem wr_whole {sp : Space} {s : Shape} {e : EltTy} (v : View sig .scVector sp s e) (f : v.ty.Contents (Elt F)) (w : s.Idx → Elt F e) :
    v.read (Elt F) (v.writes (Elt F) f [⟨Rect.whole s, w⟩]) = w := by
  funext y
  have hx : y = (Rect.whole s).emb y := by
    funext a
    refine Fin.ext ?_
    rw [Rect.emb_apply]
    show (y a).val = 0 + 1 * (y a).val
    omega
  conv_lhs => rw [hx]
  exact View.read_writes_cons_emb v f (Rect.whole s) w [] y

omit [FloatOps F] in
theorem read_inj {sp : Space} {s : Shape} {e : EltTy} (v : View sig .scVector sp s e) (f g : v.ty.Contents (Elt F)) (h : v.read (Elt F) f = v.read (Elt F) g) :
    ∀ x ∈ v.set, f x = g x := by
  intro x hx
  obtain ⟨y, -, rfl⟩ := Finset.mem_map.mp hx
  have := congrFun h y
  rw [View.read_apply, View.read_apply] at this
  exact (cast_inj _).mp this

omit [FloatOps F] in
/-- A row of a table written whole, against the table's contents. -/
theorem row_wr {sp : Space} {n : ℕ} {e : EltTy} (v : View sig .scVector sp ⟨1, ![n]⟩ e) (f g : v.ty.Contents (Elt F)) (P : ℕ → S16.Idx → Elt F e)
    (hg : v.read (Elt F) g = ofBlk n P) {off : Fin 1 → ℕ} (inb : ∀ a, off a + S16.size a ≤ (⟨1, ![n]⟩ : Shape).size a) (t : ℕ) (ho : off 0 = 16 * t)
    (w : S16.Idx → Elt F e) (hw : w = P t) :
    ∀ x ∈ (v.slice (Rect.unit (s := ⟨1, ![n]⟩) off S16.size inb)).set,
      (v.slice (Rect.unit (s := ⟨1, ![n]⟩) off S16.size inb)).writes (Elt F) f [⟨Rect.whole _, w⟩] x = g x := by
  refine read_inj _ _ _ ?_
  subst hw
  refine (wr_whole (v.slice (Rect.unit (s := ⟨1, ![n]⟩) off S16.size inb)) f (P t)).trans ?_
  exact (rd v g P hg inb t ho).symm

variable (O : CellTallies nD τ sig (HIx NR)) (W : Waits sig (HIx NR))

section Rows

variable {off : Fin 1 → ℕ} (inb : ∀ a, off a + S16.size a ≤ S256.size a) (ho : off = ![16 * (i 1).val])

/-- The tile's row of the words' table as the program slices it, -/
abbrev sbM : Memref sig .scVector .shared S16 .i32 := (Memref.whole cc0_scratch10).slice (Rect.unit (s := S256) off S16.size inb) (fun _ => rfl)
/-- and of the floats'. -/
abbrev sfM : Memref sig .scVector .shared S16 .f32 := (Memref.whole cc0_scratch14).slice (Rect.unit (s := S256) off S16.size inb) (fun _ => rfl)

omit [FloatOps F] in
include ho in
theorem sbM_set : (sbM inb).view.set = rowS (jV i) := by
  refine (View.set_slice_whole cc0_scratch10 (Rect.unit (s := S256) off S16.size inb)).trans ?_
  rw [rowS_unit inb (jV i) ho]
omit [FloatOps F] in
include ho in
theorem sfM_set : (sfM inb).view.set = rowS (jV i) := by
  refine (View.set_slice_whole cc0_scratch14 (Rect.unit (s := S256) off S16.size inb)).trans ?_
  rw [rowS_unit inb (jV i) ho]

include ho in
theorem sb_open (f : Buf (Elt F) (sbL d (cV i))) :
    (sbL d (cV i) ↦[rowS (jV i)]{fullShare} f : sProp (MM F)) ⊢ (sbM inb).view.loc (V d (cV i) (jV i)) ↦[(sbM inb).view.set]{fullShare} f := by
  rw [sbM_set i inb ho]
  exact .rfl
include ho in
theorem sf_open (f : Buf (Elt F) (sfL d (cV i))) :
    (sfL d (cV i) ↦[rowS (jV i)]{fullShare} f : sProp (MM F)) ⊢ (sfM inb).view.loc (V d (cV i) (jV i)) ↦[(sfM inb).view.set]{fullShare} f := by
  rw [sfM_set i inb ho]
  exact .rfl

include ho in
theorem sb_close (f : Buf (Elt F) (sbL d (cV i))) (k : ℕ) (w : S16.Idx → Elt F .i32) (hw : w = pub (J d) k (i 1).val) :
    ((sbM inb).view.loc (V d (cV i) (jV i)) ↦[(sbM inb).view.set]{fullShare} (sbM inb).view.writes (Elt F) f [⟨Rect.whole _, w⟩] : sProp (MM F))
      ⊢ sbL d (cV i) ↦[rowS (jV i)]{fullShare} (tabI J d k) := by
  have h := row_wr (Memref.whole cc0_scratch10).view f (tabI J d k) (pub (J d) k) rfl inb (i 1).val (by rw [ho]; rfl) w hw
  refine (ent (le_of_eq (pointsTo_congr (ℓ := (sbM inb).view.loc (V d (cV i) (jV i))) h))).trans ?_
  rw [← sbM_set i inb ho]
  exact .rfl
include ho in
theorem sf_close (f : Buf (Elt F) (sfL d (cV i))) (k : ℕ) (w : S16.Idx → Elt F .f32) (hw : w = pubF (J d) k (i 1).val) :
    ((sfM inb).view.loc (V d (cV i) (jV i)) ↦[(sfM inb).view.set]{fullShare} (sfM inb).view.writes (Elt F) f [⟨Rect.whole _, w⟩] : sProp (MM F))
      ⊢ sfL d (cV i) ↦[rowS (jV i)]{fullShare} (tabF J d k) := by
  have h := row_wr (Memref.whole cc0_scratch14).view f (tabF J d k) (pubF (J d) k) rfl inb (i 1).val (by rw [ho]; rfl) w hw
  refine (ent (le_of_eq (pointsTo_congr (ℓ := (sfM inb).view.loc (V d (cV i) (jV i))) h))).trans ?_
  rw [← sfM_set i inb ho]
  exact .rfl

end Rows

/-- The words' table as the program names it, and the floats'. -/
theorem sb_in (q : PosShare TreeShare) (f : Buf (Elt F) (sbL d (cV i))) :
    (sbL d (cV i) ↦{q} f : sProp (MM F)) ⊢ (Memref.whole cc0_scratch10).view.loc (V d (cV i) (jV i)) ↦{q} f := .rfl
theorem sf_in (q : PosShare TreeShare) (f : Buf (Elt F) (sfL d (cV i))) :
    (sfL d (cV i) ↦{q} f : sProp (MM F)) ⊢ (Memref.whole cc0_scratch14).view.loc (V d (cV i) (jV i)) ↦{q} f := .rfl
theorem sb_out (q : PosShare TreeShare) (f : Buf (Elt F) (sbL d (cV i))) :
    ((Memref.whole cc0_scratch10).view.loc (V d (cV i) (jV i)) ↦{q} f : sProp (MM F)) ⊢ sbL d (cV i) ↦{q} f := .rfl
theorem sf_out (q : PosShare TreeShare) (f : Buf (Elt F) (sfL d (cV i))) :
    ((Memref.whole cc0_scratch14).view.loc (V d (cV i) (jV i)) ↦{q} f : sProp (MM F)) ⊢ sfL d (cV i) ↦{q} f := .rfl

theorem lt_of_lanes (n : ℕ) (v : IVec S16 32) (h : ∀ j : Fin 16, (v (lane j)).toNat < n) :
    ∀ (a : Fin 1) x, ((![v] : Fin 1 → IVec S16 32) a x).toNat < (⟨1, ![n]⟩ : Shape).size a := by
  intro a x
  obtain rfl : a = 0 := Subsingleton.elim _ _
  have hx : x = lane (x 0) := by
    funext a
    obtain rfl : a = 0 := Subsingleton.elim _ _
    exact Fin.ext (Nat.mod_eq_of_lt (x 0).isLt).symm
  rw [hx]
  exact h (x 0)

omit [FloatOps F] in
/-- Sixteen words gathered out of a buffer held whole. -/
theorem ld_gath {n : ℕ} (hn : 0 < n) {e : EltTy} {sp : Space} (m : Memref sig .scVector sp ⟨1, ![n]⟩ e) (f : m.view.ty.Contents (Elt F)) (v : IVec S16 32)
    (P : Vec F ⟨1, ![n]⟩ e) (hP : m.view.read (Elt F) f = P)
    (h : ∀ (a : Fin 1) x, ((![v] : Fin 1 → IVec S16 32) a x).toNat < (⟨1, ![n]⟩ : Shape).size a) :
    loadIdx (F := F) ((m.access (Rect.whole ⟨1, ![n]⟩)).read (Elt F) f) ![v] h = gath n hn P v := by
  subst hP
  rw [loadIdx_eq (F := F) n hn]
  congr 1
  funext x
  rw [View.read_apply, View.read_apply]
  congr 1
  show f (m.view.emb ((Rect.whole ⟨1, ![n]⟩).emb x)) = _
  rw [Rect.emb_whole_apply]

theorem bCnt_eq (k : ℕ) (hk : k < 30) : gath 256 (by decide) (tabI J d k) k0_pay35 = bCnt (J d) (bis (J d) k) := by
  unfold bCnt tabI
  rw [show pub (J d) k = fun w => bRow (J d) w (bis (J d) k) from funext fun w => by unfold pub; rw [if_pos hk]]

theorem t2_val (k : ℕ) (X : Vec F S16 .i32) (hX : X = bCnt (J d) (bis (J d) k)) :
    ((Scalar.select (Scalar.cmpi CmpIPredicate.sge (extractAt ![15] (k0_pay36 (F := F) X) inpos_S16_p15) 2000#32)
        (Scalar.shrsi (Scalar.addi (bis (J d) k).1 (bis (J d) k).2) 1#32) (bis (J d) k).1,
      Scalar.select (Scalar.cmpi CmpIPredicate.sge (extractAt ![15] (k0_pay36 (F := F) X) inpos_S16_p15) 2000#32)
        (bis (J d) k).2 (Scalar.shrsi (Scalar.addi (bis (J d) k).1 (bis (J d) k).2) 1#32)) : BitVec 32 × BitVec 32) = bis (J d) (k + 1) := by
  subst hX; rfl

theorem chk1_ok : k0_chk1 k0_pay35 := lt_of_lanes 256 k0_pay35 (by decide)

/-- A buffer a transfer has filled. -/
theorem fetched (b : Ref sig .scVector) (f : Buf (Elt F) ((Memref.whole b).view.loc (V d (cV i) (jV i)))) (w g : b.ty.shape.Idx → Elt F b.ty.elt) (h : w = g) :
    ((Memref.whole b).view.loc (V d (cV i) (jV i)) ↦{fullShare} (View.write (Elt F) (Memref.whole b).view f w Finset.univ) : sProp (MM F)) ⊢ pt d i b g := by
  subst h
  exact held (View.write_whole_univ ..)

/-- What a tile holds between two steps of the bisection, before barrier `r`. -/
def bisR (lv : GSem nD τ sig → HIx NR → ℕ) (r : ℕ) : sProp (MM F) :=
  iprop(ctxB (pay J) d (cV i) ∗ levAts (K (F := F)).L lv ∗ BS d (cV i) (jV i) O W r
    ∗ pt d i cc0_scratch5 (ofBlk 1264 ((J d).ks (wN i))) ∗ (∃ f, pt (F := F) d i cc0_scratch7 f) ∗ (∃ f, pt (F := F) d i cc0_scratch8 f)
    ∗ (∃ f, sbL d (cV i) ↦[rowS (jV i)]{fullShare} f) ∗ dsem d i cc0_scoped6 ∗ dsem d i cc0_scoped7)

variable (hO : ∀ g ι, 0 < O g ι → 8 * 261 + 6 ≤ (K (F := F)).lev g ι) (hO0 : ∀ g, O g none = 0)
    (lv : GSem nD τ sig → HIx NR → ℕ) (hlv : (K (F := F)).Refines lv)

theorem debt_none (c : Fin τ.nSC) (r : ℕ) (g : GSem nD τ sig) : debt d c r g none = 0 := by
  by_contra h
  obtain ⟨s, j, -, hs, -, e⟩ := debt_pos d c r g none (Nat.pos_of_ne_zero h)
  rw [stg_lt hs] at e
  exact nomatch e

omit [FloatOps F] in
theorem Wok_insert {W W' : Waits sig (HIx NR)} {p : SemLoc sig × HIx NR} (hp : p.2 = none ∨ ∃ j, p.2 = some j) (h : Wok W W') : Wok W (insert p W') := by
  intro q hq
  rcases Finset.mem_insert.mp hq with rfl | hq
  · exact .inr hp
  · exact h q hq

include hO hO0 hlv in
set_option maxHeartbeats 1000000 in
theorem t2_step (k : Fin k0_t2_loop.trips) :
    bisR d i J O W lv (2 * k.val) ⊢ wp frame (wpE (defs₀ (F := F)) 𝒱₀ (V d (cV i) (jV i)) none) Set.univ (k0_t2_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 k (bis (J d) k.val))
      fun a => iprop(⌜a = bis (J d) (k.val + 1)⌝ ∗ bisR d i J O W lv (2 * (k.val + 1))) := by
  have hk : k.val < 30 := lt_of_lt_of_eq k.isLt (by decide)
  have eR := rowS_unit (k0_off4_inb i) (jV i) (Gen.k0_off4_eq i)
  have hO' : ∀ r g, (O + debt d (cV i) r) g none = 0 := fun r g => by rw [Pi.add_apply, Finsupp.add_apply, hO0 g, debt_none]
  unfold k0_t2_body bisR
  iintro ⟨#HC, #Hlev, HB, H5, ⟨%f7, H7⟩, ⟨%f8, H8⟩, ⟨%fs, Hs⟩, H6s, H7s⟩
  dsimp only
  iapply (t3_run d i (J d) (wN i) (bis (J d) k.val).1 (bis (J d) k.val).2) $$ H5
  iintro H5
  unfold BS
  icases HB with ⟨HT, ⟨%W1, %hW1, HO⟩⟩
  ihave Hmw := (show levAts (K (F := F)).L lv ⊢ Transfers.MayWaits (V d (cV i) (jV i)) (default : HIx NR) (O + debt d (cV i) (2 * k.val)) from
    (K (F := F)).mayWaits_none (thr := V d (cV i) (jV i)) (hO' _) lv hlv) $$ Hlev
  ihave Hs := (sb_open d i (k0_off4_inb i) (Gen.k0_off4_eq i) fs) $$ Hs
  sl_exec
  have hpub : pub (J d) k.val (i 1).val = bRow (J d) (wN i) (bis (J d) k.val) := by unfold pub; rw [if_pos hk]
  ihave Hs := (sb_close d i J (k0_off4_inb i) (Gen.k0_off4_eq i) fs k.val (t2_step.sl.dma2 d i J k f7) ((st16 (Memref.whole cc0_scratch7).view f7 inb_S16_S16_0 rfl (bRow (J d) (wN i) (bis (J d) k.val))).trans hpub.symm)) $$ Hs
  iapply (bar_pub J d (cV i) (jV i) O W hO lv hlv hsub0 (k' := k.val) (by omega)) $$ [HT HO Hs]
  · isplitr; · iexact HC
    isplitr; · iexact Hlev
    unfold BS rowP
    isplitl [HT HO]
    · isplitl [HT]; · iexact HT
      iexists _
      isplitr [HO]; swap
      · iexact HO
      · ipureintro
        exact Wok_insert (Or.inl rfl) hW1
    rw [if_neg (show ¬ 31 ≤ k.val by omega)]
    isplitl [Hs]; · iexact Hs
    iempintro
  unfold BS tabP
  iintro ⟨⟨HT, ⟨%W2, %hW2, HO⟩⟩, ⟨Hs, -⟩⟩
  iclear Hmw
  ihave Hmw := (show levAts (K (F := F)).L lv ⊢ Transfers.MayWaits (V d (cV i) (jV i)) (default : HIx NR) (O + debt d (cV i) (2 * k.val + 1)) from
    (K (F := F)).mayWaits_none (thr := V d (cV i) (jV i)) (hO' _) lv hlv) $$ Hlev
  ihave Hs := (sb_in d i (sh (jV i)) (tabI J d k.val)) $$ Hs
  sl_exec
  ihave Hs := (sb_out d i (sh (jV i)) (tabI J d k.val)) $$ Hs
  iclear Hmw
  iapply (bar_ret J d (cV i) (jV i) O W hO lv hlv hsub0 (k' := k.val) (by omega)) $$ [HT HO Hs]
  · isplitr; · iexact HC
    isplitr; · iexact Hlev
    unfold BS tabP
    isplitl [HT HO]
    · isplitl [HT]; · iexact HT
      iexists _
      isplitr [HO]; swap
      · iexact HO
      · ipureintro
        exact Wok_insert (Or.inl rfl) hW2
    rw [if_neg (show ¬ 31 ≤ k.val by omega)]
    isplitl [Hs]; · iexact Hs
    iempintro
  unfold rowP
  iintro ⟨HB, ⟨Hs, -⟩⟩
  have hchk := chk1_ok
  sl_exec
  ihave H8 := (fetched d i cc0_scratch8 f8 (t2_step.sl.dma0 d J k) (tabI J d k.val) rfl) $$ H8
  iapply (SparseCore.wp_vectorLoadIdx 𝒱₀ (V d (cV i) (jV i)) none Set.univ (base := Memref.whole cc0_scratch8) (S := Finset.univ) (q := fullShare) (Finset.subset_univ _)) $$ H8; iintro H8
  rw [wp_pure]
  imodintro
  isplitr [H5 H7 H8 H6s H7s HB Hs]
  · ipureintro
    exact t2_val d J k.val _ ((ld_gath (F := F) (n := 256) (by decide) (Memref.whole cc0_scratch8) (tabI J d k.val) k0_pay35 (tabI J d k.val) (View.read_whole ..) _).trans (bCnt_eq d J k.val hk))
  isplitr; · iexact HC
  isplitr; · iexact Hlev
  isplitl [HB]; · unfold BS; iexact HB
  isplitl [H5]; · iexact H5
  isplitl [H7]; · iexists _; iexact H7
  isplitl [H8]; · iexists _; iexact H8
  isplitl [Hs]; · iexists _; iexact Hs
  isplitl [H6s]; · iexact H6s
  iexact H7s

end Cert.Proof.Nms

end

end
-- ==== Proof.Gather.lean ====
/-
  Gathers out of a buffer held whole, the loop of the bisection, and the exchange of the counts.
-/
module

public import proofs.«01_k».proof.Proof.Bar
public import proofs.«01_k».proof.Proof.Model
public import proofs.«01_k».proof.Proof.Bisect

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (i : grid0.Coords) (J : Dev nD → Inp F)

/-- A gather out of a buffer held whole. -/
theorem wp_gath {n : ℕ} (hn : 0 < n) {e : EltTy} (m : Memref sig .scVector .vmem ⟨1, ![n]⟩ e) (f : m.view.ty.Contents (Elt F)) (v : IVec S16 32)
    (P : Vec F ⟨1, ![n]⟩ e) (hP : m.view.read (Elt F) f = P)
    {h : ∀ (a : Fin 1) x, ((![v] : Fin 1 → IVec S16 32) a x).toNat < (⟨1, ![n]⟩ : Shape).size a} {hl : m.view.Loads}
    {α : Type} {k : Vec F S16 e → Prog (TpuEff nD τ sig (Elt F) Λ₀ (.scVector (cV i) (jV i))) α} {Q : α → sProp (MM F)} :
    (m.view.loc (V d (cV i) (jV i)) ↦{fullShare} f : sProp (MM F))
      ⊢ iprop(((m.view.loc (V d (cV i) (jV i)) ↦{fullShare} f) -∗ wp frame (wpE (defs₀ (F := F)) 𝒱₀ (V d (cV i) (jV i)) none) Set.univ (k (gath n hn P v)) Q)
        -∗ wp frame (wpE (defs₀ (F := F)) 𝒱₀ (V d (cV i) (jV i)) none) Set.univ (SparseCore.vectorLoadIdx m ![v] h hl >>= k) Q) := by
  rw [← ld_gath (F := F) hn m f v P hP h]
  exact SparseCore.wp_vectorLoadIdx 𝒱₀ (V d (cV i) (jV i)) none Set.univ (base := m) (S := Finset.univ) (q := fullShare) (Finset.subset_univ _)

/-- A program run on its own, then what follows it. -/
theorem run_bind {β α : Type} {p : Prog (TpuEff nD τ sig (Elt F) Λ₀ (.scVector (cV i) (jV i))) β} (v : β) (R R' : sProp (MM F))
    (h : R ⊢ wp frame (wpE (defs₀ (F := F)) 𝒱₀ (V d (cV i) (jV i)) none) Set.univ p fun a => iprop(⌜a = v⌝ ∗ R'))
    {k : β → Prog (TpuEff nD τ sig (Elt F) Λ₀ (.scVector (cV i) (jV i))) α} {Q : α → sProp (MM F)} :
    R ⊢ iprop((R' -∗ wp frame (wpE (defs₀ (F := F)) 𝒱₀ (V d (cV i) (jV i)) none) Set.univ (k v) Q)
      -∗ wp frame (wpE (defs₀ (F := F)) 𝒱₀ (V d (cV i) (jV i)) none) Set.univ (p >>= k) Q) := by
  rw [wp_bind]
  iintro H HK
  ihave H := h $$ H
  iapply wp_wand $$ H
  iintro %a ⟨%e, H⟩
  subst e
  iapply HK; iexact H

variable (O : CellTallies nD τ sig (HIx NR)) (W : Waits sig (HIx NR))
variable (hO : ∀ g ι, 0 < O g ι → 8 * 261 + 6 ≤ (K (F := F)).lev g ι) (hO0 : ∀ g, O g none = 0)
    (lv : GSem nD τ sig → HIx NR → ℕ) (hlv : (K (F := F)).Refines lv)

include hO hO0 hlv in
/-- The bisection. -/
theorem t2_run {α : Type} {k : BitVec 32 × BitVec 32 → Prog (TpuEff nD τ sig (Elt F) Λ₀ (.scVector (cV i) (jV i))) α} {Q : α → sProp (MM F)} :
    bisR d i J O W lv 0
    ⊢ iprop((bisR d i J O W lv 60 -∗ wp frame (wpE (defs₀ (F := F)) 𝒱₀ (V d (cV i) (jV i)) none) Set.univ (k (bis (J d) 30)) Q)
      -∗ wp frame (wpE (defs₀ (F := F)) 𝒱₀ (V d (cV i) (jV i)) none) Set.univ (Scf.Loop.for k0_t2_loop k0_t2_ok (0#32, 1065353216#32) (k0_t2_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14) >>= k) Q) :=
  for_run (l := k0_t2_loop) (hok := k0_t2_ok) d i (bis (J d)) (fun k => bisR d i J O W lv (2 * k)) 30 (by decide)
    (body := k0_t2_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14) (k := k) (Q := Q) (fun k => t2_step d i J O W hO hO0 lv hlv k)

theorem chk2_ok : k0_chk2 (k0_pay40 lanes) := lt_of_lanes 256 _ (by decide)
theorem chk3_ok : k0_chk3 (k0_pay41 lanes) := lt_of_lanes 256 _ (by decide)

/-- What a tile holds around the exchange of the counts. -/
def cntR (r : ℕ) : sProp (MM F) :=
  iprop(ctxB (pay J) d (cV i) ∗ levAts (K (F := F)).L lv ∗ BS d (cV i) (jV i) O W r
    ∗ pt d i cc0_scratch5 (ofBlk 1264 ((J d).ks (wN i))) ∗ (∃ f, pt (F := F) d i cc0_scratch7 f) ∗ (∃ f, pt (F := F) d i cc0_scratch8 f)
    ∗ (∃ f, sbL d (cV i) ↦[rowS (jV i)]{fullShare} f) ∗ dsem d i cc0_scoped8 ∗ dsem d i cc0_scoped9)

theorem tab_c : tabI J d 30 = ofBlk 256 (cRow (J d)) := by
  unfold tabI
  congr 1

include hO hO0 hlv in
set_option maxHeartbeats 1000000 in
theorem part5_run (a1 : BitVec 32) :
    cntR d i J O W lv 60 ⊢ wp frame (wpE (defs₀ (F := F)) 𝒱₀ (V d (cV i) (jV i)) none) Set.univ (k0_part5 (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 a1 lanes (tst (J d)))
      fun a => iprop(⌜a = ⟨cEq (J d), nEq (J d), k0_pay43 a1 lanes, k0_pay44⟩⌝ ∗ cntR d i J O W lv 62) := by
  have hO' : ∀ r g, (O + debt d (cV i) r) g none = 0 := fun r g => by rw [Pi.add_apply, Finsupp.add_apply, hO0 g, debt_none]
  rw [k0_part5_eq_skeleton]
  unfold k0_part5_skel cntR
  iintro ⟨#HC, #Hlev, HB, H5, ⟨%f7, H7⟩, ⟨%f8, H8⟩, ⟨%fs, Hs⟩, H6s, H7s⟩
  dsimp only
  iapply (t4_run d i (J d) (wN i) a1 lanes (tst (J d))) $$ H5
  iintro H5
  unfold BS
  icases HB with ⟨HT, ⟨%W1, %hW1, HO⟩⟩
  ihave Hmw := (show levAts (K (F := F)).L lv ⊢ Transfers.MayWaits (V d (cV i) (jV i)) (default : HIx NR) (O + debt d (cV i) 60) from
    (K (F := F)).mayWaits_none (thr := V d (cV i) (jV i)) (hO' _) lv hlv) $$ Hlev
  ihave Hs := (sb_open d i (k0_off6_inb i) (Gen.k0_off6_eq i) fs) $$ Hs
  sl_exec
  have hpub : pub (J d) 30 (i 1).val = cRow (J d) (wN i) := rfl
  ihave Hs := (sb_close d i J (k0_off6_inb i) (Gen.k0_off6_eq i) fs 30 (part5_run.sl.dma2 d i J f7) ((st16 (Memref.whole cc0_scratch7).view f7 inb_S16_S16_0 rfl (cRow (J d) (wN i))).trans hpub.symm)) $$ Hs
  iapply (bar_pub J d (cV i) (jV i) O W hO lv hlv hsub0 (k' := 30) (by decide)) $$ [HT HO Hs]
  · isplitr; · iexact HC
    isplitr; · iexact Hlev
    unfold BS rowP
    isplitl [HT HO]
    · isplitl [HT]; · iexact HT
      iexists _
      isplitr [HO]; swap
      · iexact HO
      · ipureintro
        exact Wok_insert (Or.inl rfl) hW1
    rw [if_neg (show ¬ 31 ≤ 30 by omega)]
    isplitl [Hs]; · iexact Hs
    iempintro
  unfold BS tabP
  iintro ⟨⟨HT, ⟨%W2, %hW2, HO⟩⟩, ⟨Hs, -⟩⟩
  iclear Hmw
  ihave Hmw := (show levAts (K (F := F)).L lv ⊢ Transfers.MayWaits (V d (cV i) (jV i)) (default : HIx NR) (O + debt d (cV i) (2 * 30 + 1)) from
    (K (F := F)).mayWaits_none (thr := V d (cV i) (jV i)) (hO' _) lv hlv) $$ Hlev
  ihave Hs := (sb_in d i (sh (jV i)) (tabI J d 30)) $$ Hs
  sl_exec
  ihave Hs := (sb_out d i (sh (jV i)) (tabI J d 30)) $$ Hs
  iclear Hmw
  iapply (bar_ret J d (cV i) (jV i) O W hO lv hlv hsub0 (k' := 30) (by decide)) $$ [HT HO Hs]
  · isplitr; · iexact HC
    isplitr; · iexact Hlev
    unfold BS tabP
    isplitl [HT HO]
    · isplitl [HT]; · iexact HT
      iexists _
      isplitr [HO]; swap
      · iexact HO
      · ipureintro
        exact Wok_insert (Or.inl rfl) hW2
    rw [if_neg (show ¬ 31 ≤ 30 by omega)]
    isplitl [Hs]; · iexact Hs
    iempintro
  unfold rowP
  iintro ⟨HB, ⟨Hs, -⟩⟩
  have hchk := chk2_ok
  have hchk' := chk3_ok
  sl_exec
  ihave H8 := (fetched d i cc0_scratch8 f8 (part5_run.sl.dma0 d J) (tabI J d 30) rfl) $$ H8
  iapply (wp_gath d i (n := 256) (by decide) (Memref.whole cc0_scratch8) (tabI J d 30) (k0_pay40 lanes) (ofBlk 256 (cRow (J d))) ((View.read_whole ..).trans (tab_c d J))) $$ H8; iintro H8
  sl_exec
  iapply (wp_gath d i (n := 256) (by decide) (Memref.whole cc0_scratch8) (tabI J d 30) (k0_pay41 lanes) (ofBlk 256 (cRow (J d))) ((View.read_whole ..).trans (tab_c d J))) $$ H8; iintro H8
  rw [wp_pure]
  imodintro
  isplitr [H5 H7 H8 H6s H7s HB Hs]
  · ipureintro
    rfl
  isplitr; · iexact HC
  isplitr; · iexact Hlev
  isplitl [HB]; · unfold BS; iexact HB
  isplitl [H5]; · iexact H5
  isplitl [H7]; · iexists _; iexact H7
  isplitl [H8]; · iexists _; iexact H8
  isplitl [Hs]; · iexists _; iexact Hs
  isplitl [H6s]; · iexact H6s
  iexact H7s

end Cert.Proof.Nms

end

end
-- ==== Proof.Scan.lean ====
/-
  The largest and the smallest of sixteen words compared as integers, as the kernel computes them: a scan that compares words without
  sign, between two changes of the sign bit. Sums of sixteen words too.
-/
module

public import proofs.«01_k».proof.Proof.Bar
public import proofs.«01_k».proof.Proof.Model
public import proofs.«01_k».proof.Proof.Bisect

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The word with its sign bit changed. -/
theorem xs_toNat (x : BitVec 32) : ((x ^^^ 2147483648#32).toNat : ℤ) = x.toInt + 2147483648 := by
  have h1 : (x ^^^ 2147483648#32).toNat % 2 ^ 31 = x.toNat % 2 ^ 31 := by
    rw [BitVec.toNat_xor, Nat.xor_mod_two_pow]
    show (x.toNat % 2 ^ 31) ^^^ 0 = _
    rw [Nat.xor_zero]
  have h2 : (x ^^^ 2147483648#32).msb = !x.msb := by
    rw [BitVec.msb_xor]
    show (x.msb ^^ true) = _
    rw [Bool.xor_true]
  rw [BitVec.msb_eq_decide, BitVec.msb_eq_decide] at h2
  have h3 := (x ^^^ 2147483648#32).isLt
  have h4 := x.isLt
  rw [BitVec.toInt_eq_toNat_cond]
  by_cases h : 2 ^ 31 ≤ x.toNat
  · have h5 : ¬ 2 ^ 31 ≤ (x ^^^ 2147483648#32).toNat := by
      intro h6
      rw [decide_eq_true h6, decide_eq_true h] at h2
      exact absurd h2 (by decide)
    rw [if_neg (by omega)]
    omega
  · have h5 : 2 ^ 31 ≤ (x ^^^ 2147483648#32).toNat := by
      by_contra h6
      rw [decide_eq_false h6, decide_eq_false h] at h2
      exact absurd h2 (by decide)
    rw [if_pos (by omega)]
    omega

theorem xs_xs (x : BitVec 32) : (x ^^^ 2147483648#32) ^^^ 2147483648#32 = x := by
  rw [BitVec.xor_assoc, BitVec.xor_self, BitVec.xor_zero]

/-- A fold that keeps one of two words, in the order `le`. -/
theorem fold_spec {α β : Type} (le : β → β → Prop) (hr : ∀ a, le a a) (ht : ∀ a b c, le a b → le b c → le a c) (st : β → β → β)
    (h1 : ∀ a b, st a b = a ∨ st a b = b) (h2 : ∀ a b, le (st a b) a ∧ le (st a b) b) (f : α → β) (l : List α) (x : β) :
    (l.foldl (fun r k => st r (f k)) x = x ∨ ∃ k ∈ l, l.foldl (fun r k => st r (f k)) x = f k)
      ∧ le (l.foldl (fun r k => st r (f k)) x) x ∧ ∀ k ∈ l, le (l.foldl (fun r k => st r (f k)) x) (f k) := by
  induction l generalizing x with
  | nil => exact ⟨.inl rfl, hr x, fun k hk => absurd hk (List.not_mem_nil)⟩
  | cons a l ih =>
    obtain ⟨i1, i2, i3⟩ := ih (st x (f a))
    rw [List.foldl_cons]
    refine ⟨?_, ht _ _ _ i2 (h2 _ _).1, fun k hk => ?_⟩
    · rcases i1 with h | ⟨k, hk, h⟩
      · rw [h]
        rcases h1 x (f a) with h | h
        · exact .inl h
        · exact .inr ⟨a, List.mem_cons_self, h⟩
      · exact .inr ⟨k, List.mem_cons_of_mem _ hk, h⟩
    · rcases List.mem_cons.mp hk with rfl | hk
      · exact ht _ _ _ i2 (h2 _ _).2
      · exact i3 k hk

theorem lane_ofLane (k : Fin 16) : (Shape.ofLane k : S16.Idx) = lane k.val := by
  funext a
  obtain rfl : a = 0 := Subsingleton.elim _ _
  exact Fin.ext (Nat.mod_eq_of_lt k.isLt).symm

/-- The last word of a scan that keeps one of two words. -/
theorem scan_spec (kd : ScanKind) (le : BitVec 32 → BitVec 32 → Prop) (hr : ∀ a, le a a) (ht : ∀ a b c, le a b → le b c → le a c)
    (h1 : ∀ a b : BitVec 32, kd.step a b = a ∨ kd.step a b = b) (h2 : ∀ a b : BitVec 32, le (kd.step a b) a ∧ le (kd.step a b) b) (v : IVec S16 32) :
    (∃ j : Fin 16, scan kd v (lane 15) = v (lane j.val)) ∧ ∀ j : Fin 16, le (scan kd v (lane 15)) (v (lane j.val)) := by
  have h := fold_spec le hr ht kd.step h1 h2 (fun k : Fin 16 => v (lane k.val)) ((List.finRange 16).filter fun k => decide (0 < k.val ∧ k.val ≤ 15)) (v (lane 0))
  have e : scan kd v (lane 15) = ((List.finRange 16).filter fun k => decide (0 < k.val ∧ k.val ≤ 15)).foldl (fun r k => kd.step r (v (lane k.val))) (v (lane 0)) := by
    unfold scan
    have e' : (fun (r : BitVec 32) (k : Fin 16) => kd.step r (v (Shape.ofLane k : S16.Idx))) = fun r k => kd.step r (v (lane k.val)) := by
      funext r k
      rw [lane_ofLane]
    exact congrArg₂ (fun (f : BitVec 32 → Fin 16 → BitVec 32) x => ((List.finRange 16).filter fun k => decide (0 < k.val ∧ k.val ≤ 15)).foldl f x) e'
      (congrArg v (lane_ofLane 0))
  rw [e]
  obtain ⟨i1, i2, i3⟩ := h
  refine ⟨?_, fun j => ?_⟩
  · rcases i1 with h | ⟨k, -, h⟩
    · exact ⟨0, h⟩
    · exact ⟨k, h⟩
  · by_cases hj : j.val = 0
    · rw [hj]; exact i2
    · refine i3 j (List.mem_filter.mpr ⟨List.mem_finRange j, decide_eq_true ⟨by omega, by have := j.isLt; omega⟩⟩)

/-- The sign bits changed. -/
def flip (v : IVec S16 32) : IVec S16 32 := xori v (broadcast S16 2147483648#32)

theorem flip_at (v : IVec S16 32) (x : S16.Idx) : flip v x = v x ^^^ 2147483648#32 := rfl

/-- The largest word, -/
def smax (v : IVec S16 32) : BitVec 32 := last (flip (scan .max (flip v)))
/-- and the smallest. -/
def smin (v : IVec S16 32) : BitVec 32 := last (flip (scan .min (flip v)))

theorem last_eq (v : IVec S16 32) : last v = v (lane 15) := by
  unfold last extractAt
  congr 1
  funext a
  obtain rfl : a = 0 := Subsingleton.elim _ _
  rfl

theorem smax_spec (v : IVec S16 32) : (∃ j : Fin 16, smax v = v (lane j.val)) ∧ ∀ j : Fin 16, (v (lane j.val)).toInt ≤ (smax v).toInt := by
  have h := scan_spec .max (fun a b => b.toNat ≤ a.toNat) (fun _ => le_rfl) (fun _ _ _ h h' => h'.trans h)
    (fun a b => by show IntOp.maxui a b = a ∨ IntOp.maxui a b = b; unfold IntOp.maxui; split <;> simp)
    (fun a b => by show a.toNat ≤ (IntOp.maxui a b).toNat ∧ b.toNat ≤ (IntOp.maxui a b).toNat; unfold IntOp.maxui; split <;> rename_i h <;> simp only [BitVec.ult, decide_eq_true_eq] at h <;> constructor <;> omega) (flip v)
  have e : smax v = scan .max (flip v) (lane 15) ^^^ 2147483648#32 := by unfold smax; rw [last_eq, flip_at]
  obtain ⟨⟨j, hj⟩, h2⟩ := h
  have e2 : smax v = v (lane j.val) := by rw [e, hj, flip_at, xs_xs]
  refine ⟨⟨j, e2⟩, fun j' => ?_⟩
  have h3 := h2 j'
  rw [hj, flip_at, flip_at] at h3
  have h4 := xs_toNat (v (lane j.val))
  have h5 := xs_toNat (v (lane j'.val))
  rw [e2]
  omega

theorem smin_spec (v : IVec S16 32) : (∃ j : Fin 16, smin v = v (lane j.val)) ∧ ∀ j : Fin 16, (smin v).toInt ≤ (v (lane j.val)).toInt := by
  have h := scan_spec .min (fun a b => a.toNat ≤ b.toNat) (fun _ => le_rfl) (fun _ _ _ h h' => h.trans h')
    (fun a b => by show IntOp.minui a b = a ∨ IntOp.minui a b = b; unfold IntOp.minui; split <;> simp)
    (fun a b => by show (IntOp.minui a b).toNat ≤ a.toNat ∧ (IntOp.minui a b).toNat ≤ b.toNat; unfold IntOp.minui; split <;> rename_i h <;> simp only [BitVec.ult, decide_eq_true_eq] at h <;> constructor <;> omega) (flip v)
  have e : smin v = scan .min (flip v) (lane 15) ^^^ 2147483648#32 := by unfold smin; rw [last_eq, flip_at]
  obtain ⟨⟨j, hj⟩, h2⟩ := h
  have e2 : smin v = v (lane j.val) := by rw [e, hj, flip_at, xs_xs]
  refine ⟨⟨j, e2⟩, fun j' => ?_⟩
  have h3 := h2 j'
  rw [hj, flip_at, flip_at] at h3
  have h4 := xs_toNat (v (lane j.val))
  have h5 := xs_toNat (v (lane j'.val))
  rw [e2]
  omega

/-! ## The positions the kernel looks up -/

variable {F : FTy → Type} [FloatOps F]

theorem lanes_at (j : ℕ) : lanes (lane j) = BitVec.ofNat 32 (j % 16) := by
  have h : ∀ j : Fin 16, lanes (lane j.val) = BitVec.ofNat 32 j.val := by decide
  have := h ⟨j % 16, Nat.mod_lt _ (by decide)⟩
  rw [lane_mod] at this
  exact this

theorem select_at {α : Type} (c : IVec S16 1) (a b : S16.Idx → α) (x : S16.Idx) : select c a b x = if c x = 1#1 then a x else b x := by
  unfold select
  rfl

theorem ofBool_eq (b : Bool) : BitVec.ofBool b = 1#1 ↔ b = true := by cases b <;> decide
theorem eq_iff (a b : BitVec 32) : IntOp.cmpi .eq a b = 1#1 ↔ a = b := (ofBool_eq _).trans beq_iff_eq

theorem toInt_small {n : ℕ} (h : n < 2147483648) : (BitVec.ofNat 32 n).toInt = n := by
  rw [BitVec.toInt_eq_toNat_cond, BitVec.toNat_ofNat, if_pos (by omega)]
  omega

theorem cmpi_at (p : CmpIPredicate) (a b : IVec S16 32) (x : S16.Idx) : cmpi p a b x = IntOp.cmpi p (a x) (b x) := rfl

theorem am_lt (km : ℕ → Vec F S16 .i32) (n : ℕ) (hn : n ≤ 79) (x : S16.Idx) : ((am (F := F) km n).2 x).toNat < 79 := by
  induction n with
  | zero => exact (by decide : (0#32).toNat < 79)
  | succ t ih =>
    show ((select _ _ _ : IVec S16 32) x).toNat < 79
    rw [select_at]
    split
    · show (BitVec.ofNat 32 t).toNat < 79
      rw [BitVec.toNat_ofNat]
      omega
    · exact ih (by omega)

/-- What the smallest position is taken of. -/
def cand (km : ℕ → Vec F S16 .i32) : IVec S16 32 :=
  select (cmpi .eq (am (F := F) km 79).1 (broadcast S16 (smax (am (F := F) km 79).1)))
    (addi (muli (am (F := F) km 79).2 (broadcast S16 16#32)) lanes) (broadcast S16 1073741824#32)

theorem lid_eq (km : ℕ → Vec F S16 .i32) : lid (F := F) km = broadcast S16 (smin (cand km)) := rfl
theorem best_eq (km : ℕ → ℕ → Vec F S16 .i32) : best (F := F) km = smax (bests km) := rfl
/-- What the first tile is taken of. -/
def candW (km : ℕ → ℕ → Vec F S16 .i32) : IVec S16 32 := select (cmpi .eq (bests km) (broadcast S16 (best (F := F) km))) lanes (broadcast S16 999#32)
theorem bestW_eq (km : ℕ → ℕ → Vec F S16 .i32) : bestW (F := F) km = smin (candW km) := rfl

theorem cand_at (km : ℕ → Vec F S16 .i32) (j : Fin 16) :
    cand km (lane j.val) = if (am (F := F) km 79).1 (lane j.val) = smax (am (F := F) km 79).1
      then BitVec.ofNat 32 (16 * ((am (F := F) km 79).2 (lane j.val)).toNat + j.val) else 1073741824#32 := by
  unfold cand
  rw [select_at, cmpi_at]
  have hl := am_lt km 79 le_rfl (lane j.val)
  refine ite_congr (propext (eq_iff _ _)) (fun _ => ?_) fun _ => rfl
  show ((am (F := F) km 79).2 (lane j.val)) * 16#32 + lanes (lane j.val) = _
  rw [lanes_at, Nat.mod_eq_of_lt j.isLt]
  apply BitVec.eq_of_toNat_eq
  have := j.isLt
  simp only [BitVec.toNat_add, BitVec.toNat_mul, BitVec.toNat_ofNat]
  omega

theorem lid_lt (km : ℕ → Vec F S16 .i32) : (smin (cand (F := F) km)).toNat < 1264 := by
  obtain ⟨⟨j, hj⟩, hle⟩ := smin_spec (cand (F := F) km)
  obtain ⟨⟨m, hm⟩, -⟩ := smax_spec (am (F := F) km 79).1
  have h := hle m
  rw [cand_at, if_pos hm.symm] at h
  have hl := am_lt km 79 le_rfl (lane m.val)
  have hl' := am_lt km 79 le_rfl (lane j.val)
  have := m.isLt
  have := j.isLt
  rw [hj, cand_at] at h ⊢
  rw [toInt_small (n := 16 * ((am (F := F) km 79).2 (lane m.val)).toNat + m.val) (by omega)] at h
  split at h
  · rename_i hc
    rw [if_pos hc, BitVec.toNat_ofNat]
    omega
  · rw [show (1073741824#32 : BitVec 32).toInt = 1073741824 from by decide] at h
    omega

theorem candW_at (km : ℕ → ℕ → Vec F S16 .i32) (j : Fin 16) :
    candW km (lane j.val) = if bests (F := F) km (lane j.val) = best (F := F) km then BitVec.ofNat 32 j.val else 999#32 := by
  unfold candW
  rw [select_at, cmpi_at, lanes_at, Nat.mod_eq_of_lt j.isLt]
  exact ite_congr (propext (eq_iff _ _)) (fun _ => rfl) fun _ => rfl

theorem bestW_lt (km : ℕ → ℕ → Vec F S16 .i32) : (bestW (F := F) km).toNat < 16 := by
  rw [bestW_eq]
  obtain ⟨⟨j, hj⟩, hle⟩ := smin_spec (candW (F := F) km)
  obtain ⟨⟨m, hm⟩, -⟩ := smax_spec (bests (F := F) km)
  have h := hle m
  rw [candW_at, if_pos (hm.symm.trans (best_eq km).symm)] at h
  have := m.isLt
  have := j.isLt
  rw [hj, candW_at] at h ⊢
  rw [toInt_small (n := m.val) (by omega)] at h
  split at h
  · rename_i hc
    rw [if_pos hc, BitVec.toNat_ofNat]
    omega
  · rw [show (999#32 : BitVec 32).toInt = 999 from by decide] at h
    omega

/-! ## The checks of the positions -/

theorem bc_lt (n : ℕ) (b : BitVec 32) (h : b.toNat < n) : ∀ (a : Fin 1) x, ((![broadcast S16 b] : Fin 1 → IVec S16 32) a x).toNat < (⟨1, ![n]⟩ : Shape).size a :=
  lt_of_lanes n _ fun _ => h

theorem chk4_ok (km : ℕ → Vec F S16 .i32) : k0_chk4 (lid (F := F) km) := by
  have h := bc_lt 1264 _ (lid_lt (F := F) km)
  rw [← lid_eq] at h
  exact ⟨h, h, h, h, h⟩
theorem chk5_ok : k0_chk5 (k0_pay20 lanes) := lt_of_lanes 256 _ (by decide)

theorem small (b : BitVec 32) (h : b.toNat < 16) (p : BitVec 32 → Prop) (hp : ∀ n : Fin 16, p (BitVec.ofNat 32 n.val)) : p b := by
  have := hp ⟨b.toNat, h⟩
  rwa [show BitVec.ofNat 32 (⟨b.toNat, h⟩ : Fin 16).val = b from by simp] at this

theorem chk6_ok (b : BitVec 32) (h : b.toNat < 16) : k0_chk6 (k0_pay24 b) := small b h (fun b => k0_chk6 (k0_pay24 b)) fun n => lt_of_lanes 256 _ (by revert n; decide +kernel)
theorem chk7_ok (b : BitVec 32) (h : b.toNat < 16) : k0_chk7 (k0_pay25 b) := small b h (fun b => k0_chk7 (k0_pay25 b)) fun n => lt_of_lanes 256 _ (by revert n; decide +kernel)
theorem chk8_ok (b : BitVec 32) (h : b.toNat < 16) : k0_chk8 (k0_pay26 b) := small b h (fun b => k0_chk8 (k0_pay26 b)) fun n => lt_of_lanes 256 _ (by revert n; decide +kernel)
theorem chk9_ok (b : BitVec 32) (h : b.toNat < 16) : k0_chk9 (k0_pay27 b) := small b h (fun b => k0_chk9 (k0_pay27 b)) fun n => lt_of_lanes 256 _ (by revert n; decide +kernel)
theorem chk10_ok (b : BitVec 32) (h : b.toNat < 16) : k0_chk10 (k0_pay29 lanes b) := small b h (fun b => k0_chk10 (k0_pay29 lanes b)) fun n => lt_of_lanes 256 _ (by revert n; decide +kernel)

theorem row_at (t : Fin 100) (j : Fin 16) : (k0_pay7 lanes (BitVec.ofNat 32 t.val) (lane j.val)).toNat = if j.val < 5 then 5 * t.val + j.val else 0 := by
  revert t j; decide +kernel
theorem chk11_ok (t : ℕ) (h : t < 100) : k0_chk11 (k0_pay7 lanes (BitVec.ofNat 32 t)) := lt_of_lanes 500 _ fun j => by
  rw [row_at ⟨t, h⟩ j]
  have := j.isLt
  show (if j.val < 5 then 5 * t + j.val else 0) < 500
  split <;> omega
theorem mask_at (j : Fin 16) : k0_pay8 lanes (lane j.val) = if j.val < 5 then 1#1 else 0#1 := by
  revert j; decide

end Cert.Proof.Nms

end

end
-- ==== Proof.Rounds.lean ====
/-
  One round of suppression: the tile's best word and its box, the exchange, and the suppression of the words whose boxes overlap the
  best one's too much.
-/
module

public import proofs.«01_k».proof.Proof.Bar
public import proofs.«01_k».proof.Proof.Model
public import proofs.«01_k».proof.Proof.Gather
public import proofs.«01_k».proof.Proof.Scan

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (i : grid0.Coords) (J : Dev nD → Inp F)
variable (O : CellTallies nD τ sig (HIx NR)) (W : Waits sig (HIx NR))
variable (hO : ∀ g ι, 0 < O g ι → 8 * 261 + 6 ≤ (K (F := F)).lev g ι) (hO0 : ∀ g, O g none = 0)
    (lv : GSem nD τ sig → HIx NR → ℕ) (hlv : (K (F := F)).Refines lv)

/-- The boxes of a tile, their areas and scores. -/
def boxR : sProp (MM F) :=
  iprop(pt d i cc0_scratch0 (ofBlk 1264 ((J d).x1 (wN i))) ∗ pt d i cc0_scratch1 (ofBlk 1264 ((J d).y1 (wN i))) ∗ pt d i cc0_scratch2 (ofBlk 1264 ((J d).x2 (wN i)))
    ∗ pt d i cc0_scratch3 (ofBlk 1264 ((J d).y2 (wN i))) ∗ pt (F := F) d i cc0_scratch4 (ofBlk 1264 (area (J d) (wN i))) ∗ pt d i cc0_scratch11 (ofBlk 1264 ((J d).sc (wN i))))

/-- A tile's row of the exchange of round `km`, as the first part of the round prepares it. -/
def rowOf (km : ℕ → Vec F S16 .i32) (u : ℕ) : Σ' (arg24 : BitVec 32) (v71 : Vec F S16 .f32) (v72 : Vec F S16 .f32) (v73 : Vec F S16 .f32) (v74 : Vec F S16 .f32) (v75 : Vec F S16 .f32) (v80 : IVec S16 32) (v82 : IVec S16 1) (v84 : IVec S16 1) (v86 : IVec S16 1), IVec S16 1 :=
  ⟨BitVec.ofNat 32 u, gath 1264 (by decide) (ofBlk 1264 ((J d).sc (wN i))) (lid km), gath 1264 (by decide) (ofBlk 1264 ((J d).x1 (wN i))) (lid km),
    gath 1264 (by decide) (ofBlk 1264 ((J d).y1 (wN i))) (lid km), gath 1264 (by decide) (ofBlk 1264 ((J d).x2 (wN i))) (lid km),
    gath 1264 (by decide) (ofBlk 1264 ((J d).y2 (wN i))) (lid km), nRow km, k0_pay15 lanes, k0_pay16 lanes, k0_pay17 lanes, k0_pay18 lanes⟩

set_option maxHeartbeats 1000000 in
theorem part1_run (km : ℕ → Vec F S16 .i32) (u : Fin k0_t6_loop.trips) :
    iprop(boxR d i J ∗ pt d i cc0_scratch6 (ofBlk 1264 km)) ⊢ wp frame (wpE (defs₀ (F := F)) 𝒱₀ (V d (cV i) (jV i)) none) Set.univ (k0_part1 (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 lanes k0_pay30 0#32 1#32 u)
      fun a => iprop(⌜a = rowOf d i J km u.val⌝ ∗ (boxR d i J ∗ pt d i cc0_scratch6 (ofBlk 1264 km))) := by
  rw [k0_part1_eq_skeleton]
  unfold k0_part1_skel boxR
  iintro ⟨⟨H0, H1, H2, H3, H4, H11⟩, H6⟩
  dsimp only
  iapply (t7_run d i km lanes k0_pay30 0#32 1#32 u) $$ H6
  iintro H6
  have hchk : k0_chk4 (k0_pay13 lanes (am (F := F) km 79).1 (am (F := F) km 79).2) := chk4_ok km
  sl_exec
  iapply (wp_gath d i (n := 1264) (by decide) (Memref.whole cc0_scratch11) _ (lid km) (ofBlk 1264 ((J d).sc (wN i))) (View.read_whole ..)) $$ H11; iintro H11
  iapply (wp_gath d i (n := 1264) (by decide) (Memref.whole cc0_scratch0) _ (lid km) (ofBlk 1264 ((J d).x1 (wN i))) (View.read_whole ..)) $$ H0; iintro H0
  iapply (wp_gath d i (n := 1264) (by decide) (Memref.whole cc0_scratch1) _ (lid km) (ofBlk 1264 ((J d).y1 (wN i))) (View.read_whole ..)) $$ H1; iintro H1
  iapply (wp_gath d i (n := 1264) (by decide) (Memref.whole cc0_scratch2) _ (lid km) (ofBlk 1264 ((J d).x2 (wN i))) (View.read_whole ..)) $$ H2; iintro H2
  iapply (wp_gath d i (n := 1264) (by decide) (Memref.whole cc0_scratch3) _ (lid km) (ofBlk 1264 ((J d).y2 (wN i))) (View.read_whole ..)) $$ H3; iintro H3
  rw [wp_pure]
  imodintro
  isplitr [H0 H1 H2 H3 H4 H11 H6]
  · ipureintro
    unfold rowOf
    rw [← iv_eq u.val]
    rfl
  isplitr [H6]
  · isplitl [H0]; · iexact H0
    isplitl [H1]; · iexact H1
    isplitl [H2]; · iexact H2
    isplitl [H3]; · iexact H3
    isplitl [H4]; · iexact H4
    iexact H11
  iexact H6

/-- What a tile holds around the exchange of a round. -/
def exR (r : ℕ) : sProp (MM F) :=
  iprop(ctxB (pay J) d (cV i) ∗ levAts (K (F := F)).L lv ∗ BS d (cV i) (jV i) O W r
    ∗ (∃ f, pt (F := F) d i cc0_scratch7 f) ∗ (∃ f, pt (F := F) d i cc0_scratch8 f) ∗ (∃ f, pt (F := F) d i cc0_scratch12 f)
    ∗ (∃ f, sbL d (cV i) ↦[rowS (jV i)]{fullShare} f) ∗ (∃ f, sfL d (cV i) ↦[rowS (jV i)]{fullShare} f)
    ∗ dsem d i cc0_scoped10 ∗ dsem d i cc0_scoped11 ∗ dsem d i cc0_scoped12 ∗ dsem d i cc0_scoped13)

theorem tab_n (t : ℕ) : tabI J d (31 + t) = ofBlk 256 fun w => nRow ((nms (J d) t).1 w) := by
  unfold tabI
  congr 1
  funext w
  unfold pub
  rw [if_neg (by omega), if_neg (by omega), Nat.add_sub_cancel_left]
theorem pub_f (t : ℕ) : pubF (J d) (31 + t) = fun w => nRowF (J d) w ((nms (J d) t).1 w) := by
  have e : 31 + t - 31 = t := by omega
  funext w
  unfold pubF
  rw [e]
theorem tab_f (t : ℕ) : tabF J d (31 + t) = ofBlk 256 fun w => nRowF (J d) w ((nms (J d) t).1 w) := by
  unfold tabF
  rw [pub_f]

include hO hO0 hlv in
set_option maxHeartbeats 1000000 in
theorem part2_run (t : ℕ) (ht : t < 100) (a1 : BitVec 32) (v71 v72 v73 v74 v75 : Vec F S16 .f32) (v80 : IVec S16 32) (v82 v84 v86 v88 : IVec S16 1)
    (hI : v80 = nRow ((nms (J d) t).1 (wN i))) (hF : k0_pay19 v71 v72 v73 v74 v75 v82 v84 v86 v88 = nRowF (J d) (wN i) ((nms (J d) t).1 (wN i))) :
    iprop(exR d i J O W lv (2 * (31 + t)) ∗ ∃ f, pt (F := F) d i cc0_scratch13 f)
      ⊢ wp frame (wpE (defs₀ (F := F)) 𝒱₀ (V d (cV i) (jV i)) none) Set.univ (k0_part2 (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 a1 lanes v71 v72 v73 v74 v75 v80 v82 v84 v86 v88)
        fun a => iprop(⌜a = ⟨best (nms (J d) t).1, bestW (nms (J d) t).1⟩⌝ ∗ (exR d i J O W lv (2 * (31 + t + 1)) ∗ pt d i cc0_scratch13 (tabF J d (31 + t)))) := by
  have hO' : ∀ r g, (O + debt d (cV i) r) g none = 0 := fun r g => by rw [Pi.add_apply, Finsupp.add_apply, hO0 g, debt_none]
  have h31 : 31 ≤ 31 + t := by omega
  rw [k0_part2_eq_skeleton]
  unfold k0_part2_skel exR
  iintro ⟨⟨#HC, #Hlev, HB, ⟨%f7, H7⟩, ⟨%f8, H8⟩, ⟨%f12, H12⟩, ⟨%fs, Hs⟩, ⟨%ff, Hf⟩, S10, S11, S12, S13⟩, ⟨%f13, H13⟩⟩
  dsimp only
  unfold BS
  icases HB with ⟨HT, ⟨%W1, %hW1, HO⟩⟩
  ihave Hmw := (show levAts (K (F := F)).L lv ⊢ Transfers.MayWaits (V d (cV i) (jV i)) (default : HIx NR) (O + debt d (cV i) (2 * (31 + t))) from
    (K (F := F)).mayWaits_none (thr := V d (cV i) (jV i)) (hO' _) lv hlv) $$ Hlev
  ihave Hs := (sb_open d i (k0_off9_inb i) (Gen.k0_off9_eq i) fs) $$ Hs
  ihave Hf := (sf_open d i (k0_off9_inb i) (Gen.k0_off9_eq i) ff) $$ Hf
  sl_exec
  have hpub : pub (J d) (31 + t) (i 1).val = nRow ((nms (J d) t).1 (wN i)) := by
    unfold pub
    rw [if_neg (by omega), if_neg (by omega), Nat.add_sub_cancel_left]
  have hpubF : pubF (J d) (31 + t) (i 1).val = nRowF (J d) (wN i) ((nms (J d) t).1 (wN i)) := congrFun (pub_f d J t) _
  ihave Hs := (sb_close d i J (k0_off9_inb i) (Gen.k0_off9_eq i) fs (31 + t) (part2_run.sl.dma4 d i v80 f7) ((st16 (Memref.whole cc0_scratch7).view f7 inb_S16_S16_0 rfl v80).trans (hI.trans hpub.symm))) $$ Hs
  ihave Hf := (sf_close d i J (k0_off9_inb i) (Gen.k0_off9_eq i) ff (31 + t) (part2_run.sl.dma4_1 d i v71 v72 v73 v74 v75 v82 v84 v86 v88 f12)
    ((st16 (Memref.whole cc0_scratch12).view f12 inb_S16_S16_0 rfl (k0_pay19 v71 v72 v73 v74 v75 v82 v84 v86 v88)).trans (hF.trans hpubF.symm))) $$ Hf
  iapply (bar_pub J d (cV i) (jV i) O W hO lv hlv hsub0 (k' := 31 + t) (by omega)) $$ [HT HO Hs Hf]
  · isplitr; · iexact HC
    isplitr; · iexact Hlev
    unfold BS rowP
    isplitl [HT HO]
    · isplitl [HT]; · iexact HT
      iexists _
      isplitr [HO]; swap
      · iexact HO
      · ipureintro
        exact Wok_insert (Or.inl rfl) (Wok_insert (Or.inl rfl) hW1)
    rw [if_pos h31]
    isplitl [Hs]; · iexact Hs
    iexact Hf
  unfold BS tabP
  rw [if_pos h31]
  iintro ⟨⟨HT, ⟨%W2, %hW2, HO⟩⟩, ⟨Hs, Hf⟩⟩
  iclear Hmw
  ihave Hmw := (show levAts (K (F := F)).L lv ⊢ Transfers.MayWaits (V d (cV i) (jV i)) (default : HIx NR) (O + debt d (cV i) (2 * (31 + t) + 1)) from
    (K (F := F)).mayWaits_none (thr := V d (cV i) (jV i)) (hO' _) lv hlv) $$ Hlev
  ihave Hs := (sb_in d i (sh (jV i)) (tabI J d (31 + t))) $$ Hs
  ihave Hf := (sf_in d i (sh (jV i)) (tabF J d (31 + t))) $$ Hf
  sl_exec
  ihave Hs := (sb_out d i (sh (jV i)) (tabI J d (31 + t))) $$ Hs
  ihave Hf := (sf_out d i (sh (jV i)) (tabF J d (31 + t))) $$ Hf
  iclear Hmw
  iapply (bar_ret J d (cV i) (jV i) O W hO lv hlv hsub0 (k' := 31 + t) (by omega)) $$ [HT HO Hs Hf]
  · isplitr; · iexact HC
    isplitr; · iexact Hlev
    unfold BS tabP
    isplitl [HT HO]
    · isplitl [HT]; · iexact HT
      iexists _
      isplitr [HO]; swap
      · iexact HO
      · ipureintro
        exact Wok_insert (Or.inl rfl) (Wok_insert (Or.inl rfl) hW2)
    rw [if_pos h31]
    isplitl [Hs]; · iexact Hs
    iexact Hf
  unfold rowP
  rw [if_pos h31]
  iintro ⟨HB, ⟨Hs, Hf⟩⟩
  have hchk := chk5_ok
  sl_exec
  ihave H8 := (fetched d i cc0_scratch8 f8 (part2_run.sl.dma0 d J t) (tabI J d (31 + t)) rfl) $$ H8
  ihave H13 := (fetched d i cc0_scratch13 f13 (part2_run.sl.dma0_1 d J t) (tabF J d (31 + t)) rfl) $$ H13
  iapply (wp_gath d i (n := 256) (by decide) (Memref.whole cc0_scratch8) (tabI J d (31 + t)) (k0_pay20 lanes) (ofBlk 256 fun w => nRow ((nms (J d) t).1 w)) ((View.read_whole ..).trans (tab_n d J t))) $$ H8; iintro H8
  rw [wp_pure]
  imodintro
  isplitr [H7 H8 H12 H13 HB Hs Hf S10 S11 S12 S13]
  · ipureintro
    rfl
  isplitr [H13]
  · isplitr; · iexact HC
    isplitr; · iexact Hlev
    isplitl [HB]; · unfold BS; iexact HB
    isplitl [H7]; · iexists _; iexact H7
    isplitl [H8]; · iexists _; iexact H8
    isplitl [H12]; · iexists _; iexact H12
    isplitl [Hs]; · iexists _; iexact Hs
    isplitl [Hf]; · iexists _; iexact Hf
    isplitl [S10]; · iexact S10
    isplitl [S11]; · iexact S11
    isplitl [S12]; · iexact S12
    iexact S13
  iexact H13

set_option maxHeartbeats 1000000 in
theorem part3_run (t : ℕ) :
    iprop(boxR d i J ∗ pt d i cc0_scratch6 (ofBlk 1264 ((nms (J d) t).1 (wN i))) ∗ pt d i cc0_scratch13 (tabF J d (31 + t)))
      ⊢ wp frame (wpE (defs₀ (F := F)) 𝒱₀ (V d (cV i) (jV i)) none) Set.univ (k0_part3 (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 lanes (best (nms (J d) t).1) (bestW (nms (J d) t).1))
        fun a => iprop(⌜a = ⟨pick (J d) (nms (J d) t).1, none? (nms (J d) t).1⟩⌝
          ∗ (boxR d i J ∗ pt d i cc0_scratch6 (ofBlk 1264 (kmStep (J d) (nms (J d) t).1 (wN i))) ∗ pt d i cc0_scratch13 (tabF J d (31 + t)))) := by
  rw [k0_part3_eq_skeleton]
  unfold k0_part3_skel boxR
  have hw := bestW_lt (F := F) (nms (J d) t).1
  have hk6 := chk6_ok _ hw
  have hk7 := chk7_ok _ hw
  have hk8 := chk8_ok _ hw
  have hk9 := chk9_ok _ hw
  have hk10 := chk10_ok _ hw
  have hG : (Memref.whole cc0_scratch13).view.read (Elt F) (tabF J d (31 + t)) = ofBlk 256 fun w => nRowF (J d) w ((nms (J d) t).1 w) :=
    (View.read_whole ..).trans (tab_f d J t)
  iintro ⟨⟨H0, H1, H2, H3, H4, H11⟩, H6, H13⟩
  dsimp only
  sl_exec
  iapply (wp_gath d i (n := 256) (by decide) (Memref.whole cc0_scratch13) (tabF J d (31 + t)) (k0_pay24 (bestW (nms (J d) t).1)) _ hG) $$ H13; iintro H13
  sl_exec
  iapply (wp_gath d i (n := 256) (by decide) (Memref.whole cc0_scratch13) (tabF J d (31 + t)) (k0_pay25 (bestW (nms (J d) t).1)) _ hG) $$ H13; iintro H13
  sl_exec
  iapply (wp_gath d i (n := 256) (by decide) (Memref.whole cc0_scratch13) (tabF J d (31 + t)) (k0_pay26 (bestW (nms (J d) t).1)) _ hG) $$ H13; iintro H13
  sl_exec
  iapply (wp_gath d i (n := 256) (by decide) (Memref.whole cc0_scratch13) (tabF J d (31 + t)) (k0_pay27 (bestW (nms (J d) t).1)) _ hG) $$ H13; iintro H13
  iapply (t8_run d i (J d) (wN i) (nms (J d) t).1) $$ [H0 H1 H2 H3 H4 H6]
  · isplitl [H0]; · iexact H0
    isplitl [H1]; · iexact H1
    isplitl [H2]; · iexact H2
    isplitl [H3]; · iexact H3
    isplitl [H4]; · iexact H4
    iexact H6
  iintro ⟨H0, H1, H2, H3, H4, H6⟩
  sl_exec
  iapply (wp_gath d i (n := 256) (by decide) (Memref.whole cc0_scratch13) (tabF J d (31 + t)) (k0_pay29 lanes (bestW (nms (J d) t).1)) _ hG) $$ H13; iintro H13
  rw [wp_pure]
  imodintro
  isplitr [H0 H1 H2 H3 H4 H11 H6 H13]
  · ipureintro
    rfl
  isplitl [H0 H1 H2 H3 H4 H11]
  · isplitl [H0]; · iexact H0
    isplitl [H1]; · iexact H1
    isplitl [H2]; · iexact H2
    isplitl [H3]; · iexact H3
    isplitl [H4]; · iexact H4
    iexact H11
  isplitl [H6]; · iexact H6
  iexact H13

end Cert.Proof.Nms

end

end
-- ==== Proof.Suppress.lean ====
/-
  The hundred rounds of suppression, each storing its row of the result.
-/
module

public import proofs.«01_k».proof.Proof.Bar
public import proofs.«01_k».proof.Proof.Model
public import proofs.«01_k».proof.Proof.Rounds

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (i : grid0.Coords) (J : Dev nD → Inp F)

/-! ## A row of the result stored -/

theorem fold_store {α β γ : Type} (hit : α → β → Prop) {_ : ∀ k j, Decidable (hit k j)} (m : α → Prop) {_ : ∀ k, Decidable (m k)} (y : α → γ) (j : β) (c : γ) (l : List α) (f : β → γ)
    (h : ∀ k ∈ l, m k → hit k j → y k = c) (h' : f j = c ∨ ∃ k ∈ l, m k ∧ hit k j) :
    l.foldl (fun g k => if m k then (fun j => if hit k j then y k else g j) else g) f j = c := by
  induction l generalizing f with
  | nil => exact h'.elim id fun ⟨k, hk, _⟩ => absurd hk List.not_mem_nil
  | cons a l ih =>
    rw [List.foldl_cons]
    refine ih _ (fun k hk => h k (List.mem_cons_of_mem _ hk)) ?_
    by_cases ha : m a ∧ hit a j
    · refine .inl ?_
      rw [if_pos ha.1]
      show (if hit a j then y a else f j) = c
      rw [if_pos ha.2]
      exact h a List.mem_cons_self ha.1 ha.2
    · have e : (if m a then (fun j => if hit a j then y a else f j) else f) j = f j := by
        by_cases hm : m a
        · rw [if_pos hm]
          exact if_neg fun hh => ha ⟨hm, hh⟩
        · rw [if_neg hm]
      rcases h' with h' | ⟨k, hk, hh⟩
      · exact .inl (e.trans h')
      · rcases List.mem_cons.mp hk with rfl | hk
        · exact absurd hh ha
        · exact .inr ⟨k, hk, hh⟩

/-- The result after `t` rounds. -/
def ovs (I : Inp F) (o : Vec F S500 .f32) (t : ℕ) : Vec F S500 .f32 := fun x => if (x 0).val < 5 * t then out I x else o x

theorem row_store (I : Inp F) (o : Vec F S500 .f32) (t : ℕ) (ht : t < 100)
    (h : ∀ (a : Fin 1) x, ((![k0_pay7 lanes (BitVec.ofNat 32 t)] : Fin 1 → IVec S16 32) a x).toNat < S500.size a) :
    storeIdx (F := F) (ovs I o t) ![k0_pay7 lanes (BitVec.ofNat 32 t)] (oRow I t) (k0_pay8 lanes) false h = ovs I o (t + 1) := by
  funext x
  have hx : (x 0).val < 500 := (x 0).isLt
  have hm : ∀ k : Fin 16, k0_pay8 lanes (Shape.ofLane k : S16.Idx) = 1#1 ↔ k.val < 5 := fun k => by
    rw [lane_ofLane, mask_at]; split <;> rename_i hk <;> simp [hk]
  have hv : ∀ k : Fin 16, k.val < 5 → ((idxAt (s := S500) ![k0_pay7 lanes (BitVec.ofNat 32 t)] h (Shape.ofLane k : S16.Idx)) 0).val = 5 * t + k.val := fun k hk => by
    refine Eq.trans (b := (k0_pay7 lanes (BitVec.ofNat 32 t) (Shape.ofLane k : S16.Idx)).toNat) rfl ?_
    rw [lane_ofLane, row_at ⟨t, ht⟩ k, if_pos hk]
  unfold storeIdx
  refine fold_store (fun (k : Fin 16) (j : S500.Idx) => ∀ a, (j a).val = ((idxAt (s := S500) ![k0_pay7 lanes (BitVec.ofNat 32 t)] h (Shape.ofLane k : S16.Idx)) a).val)
    (fun k : Fin 16 => k0_pay8 lanes (Shape.ofLane k : S16.Idx) = 1#1) (fun k => oRow I t (Shape.ofLane k : S16.Idx)) x (ovs I o (t + 1) x) (List.finRange 16) (ovs I o t) ?_ ?_
  · intro k _ hk hh
    have hk := (hm k).mp hk
    have hh := hh 0
    rw [hv k hk] at hh
    unfold ovs out
    rw [if_pos (by omega), lane_ofLane]
    rw [show (x 0).val / 5 = t by omega, show (x 0).val % 5 = k.val by omega]
  · by_cases h1 : 5 * t ≤ (x 0).val ∧ (x 0).val < 5 * (t + 1)
    · refine .inr ⟨⟨(x 0).val - 5 * t, by omega⟩, List.mem_finRange _, (hm _).mpr (by show (x 0).val - 5 * t < 5; omega), fun a => ?_⟩
      obtain rfl : a = 0 := Subsingleton.elim _ _
      rw [hv _ (by show (x 0).val - 5 * t < 5; omega)]
      show (x 0).val = 5 * t + ((x 0).val - 5 * t)
      omega
    · refine .inl ?_
      unfold ovs
      by_cases h2 : (x 0).val < 5 * t
      · rw [if_pos h2, if_pos (by omega)]
      · rw [if_neg h2, if_neg (by omega)]

/-! ## The hundred rounds -/

variable (O : CellTallies nD τ sig (HIx NR)) (W : Waits sig (HIx NR))
variable (hO : ∀ g ι, 0 < O g ι → 8 * 261 + 6 ≤ (K (F := F)).lev g ι) (hO0 : ∀ g, O g none = 0)
    (lv : GSem nD τ sig → HIx NR → ℕ) (hlv : (K (F := F)).Refines lv)

/-- What a tile holds after `t` rounds. -/
def rndR (o : Vec F S500 .f32) (t : ℕ) : sProp (MM F) :=
  iprop(exR d i J O W lv (2 * (31 + t)) ∗ (∃ f, pt (F := F) d i cc0_scratch13 f) ∗ boxR d i J ∗ pt d i cc0_scratch6 (ofBlk 1264 ((nms (J d) t).1 (wN i)))
    ∗ pt (F := F) d i cc0_scratch9 (ovs (J d) o t))

omit [FloatOps F] in
theorem acc_set (b : Ref sig .scVector) : ((Memref.whole b).access (Rect.whole b.ty.shape) : View sig .scVector _ _ _).set = Finset.univ :=
  Finset.eq_univ_iff_forall.mpr fun x => Finset.mem_map.mpr ⟨x, Finset.mem_univ _, Rect.emb_whole_apply _ x⟩

/-- The store of a row. -/
theorem wp_row (I : Inp F) (o : Vec F S500 .f32) (t : ℕ) (ht : t < 100)
    {h : ∀ (a : Fin 1) x, ((![k0_pay7 lanes (BitVec.ofNat 32 t)] : Fin 1 → IVec S16 32) a x).toNat < S500.size a}
    {hs : ((Memref.whole cc0_scratch9).access (.whole S500)).Stores Finset.univ}
    {α : Type} {k : PUnit → Prog (TpuEff nD τ sig (Elt F) Λ₀ (.scVector (cV i) (jV i))) α} {Q : α → sProp (MM F)} :
    (pt (F := F) d i cc0_scratch9 (ovs I o t))
      ⊢ iprop((pt (F := F) d i cc0_scratch9 (ovs I o (t + 1)) -∗ wp frame (wpE (defs₀ (F := F)) 𝒱₀ (V d (cV i) (jV i)) none) Set.univ (k ⟨⟩) Q)
        -∗ wp frame (wpE (defs₀ (F := F)) 𝒱₀ (V d (cV i) (jV i)) none) Set.univ (SparseCore.vectorStoreIdx (Memref.whole cc0_scratch9) ![k0_pay7 lanes (BitVec.ofNat 32 t)] (oRow I t) (k0_pay8 lanes) false h hs >>= k) Q) := by
  have h0 := SparseCore.wp_vectorStoreIdx (defs := defs₀ (F := F)) 𝒱₀ (V d (cV i) (jV i)) none Set.univ (base := Memref.whole cc0_scratch9) (h := h) (hs := hs)
    (v := oRow I t) (mask := k0_pay8 lanes) (add := false) (k := k) (Q := Q) (f := ovs I o t)
  rw [acc_set, Memref.write_access_whole_univ, Memref.read_access_whole, row_store I o t ht h] at h0
  exact h0

include hO hO0 hlv in
set_option maxHeartbeats 1000000 in
theorem t6_step (a1 : BitVec 32) (o : Vec F S500 .f32) (u : Fin k0_t6_loop.trips) :
    rndR d i J O W lv o u.val ⊢ wp frame (wpE (defs₀ (F := F)) 𝒱₀ (V d (cV i) (jV i)) none) Set.univ (k0_t6_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 a1 lanes k0_pay30 u (nms (J d) u.val).2)
      fun a => iprop(⌜a = (nms (J d) (u.val + 1)).2⌝ ∗ rndR d i J O W lv o (u.val + 1)) := by
  have hu : u.val < 100 := lt_of_lt_of_eq u.isLt (by decide)
  unfold k0_t6_body rndR
  iintro ⟨HX, H13, HB, H6, H9⟩
  dsimp only
  iapply (run_bind d i _ _ _ (part1_run d i J ((nms (J d) u.val).1 (wN i)) u)) $$ [HB H6]
  · isplitl [HB]; · iexact HB
    iexact H6
  iintro ⟨HB, H6⟩
  unfold rowOf
  dsimp only
  iapply (run_bind d i _ _ _ (part2_run d i J O W hO hO0 lv hlv u.val hu a1 _ _ _ _ _ _ _ _ _ _ rfl rfl)) $$ [HX H13]
  · isplitl [HX]; · iexact HX
    iexact H13
  iintro ⟨HX, H13⟩
  dsimp only
  iapply (run_bind d i _ _ _ (part3_run d i J u.val)) $$ [HB H6 H13]
  · isplitl [HB]; · iexact HB
    isplitl [H6]; · iexact H6
    iexact H13
  iintro ⟨HB, H6, H13⟩
  dsimp only
  have hchk := chk11_ok u.val hu
  sl_exec
  iapply (wp_row d i (J d) o u.val hu) $$ H9; iintro H9
  rw [wp_pure]
  imodintro
  isplitr [HX HB H6 H13 H9]
  · ipureintro
    rfl
  isplitl [HX]; · iexact HX
  isplitl [H13]; · iexists _; iexact H13
  isplitl [HB]; · iexact HB
  isplitl [H6]; · iexact H6
  iexact H9

include hO hO0 hlv in
theorem t6_run (a1 : BitVec 32) (o : Vec F S500 .f32) {α : Type} {k : Vec F S16 .f32 → Prog (TpuEff nD τ sig (Elt F) Λ₀ (.scVector (cV i) (jV i))) α} {Q : α → sProp (MM F)} :
    rndR d i J O W lv o 0
    ⊢ iprop((rndR d i J O W lv o 100 -∗ wp frame (wpE (defs₀ (F := F)) 𝒱₀ (V d (cV i) (jV i)) none) Set.univ (k (nms (J d) 100).2) Q)
      -∗ wp frame (wpE (defs₀ (F := F)) 𝒱₀ (V d (cV i) (jV i)) none) Set.univ (Scf.Loop.for k0_t6_loop k0_t6_ok (k0_pay31 (F := F)) (k0_t6_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 a1 lanes k0_pay30) >>= k) Q) :=
  for_run (l := k0_t6_loop) (hok := k0_t6_ok) d i (fun t => (nms (J d) t).2) (fun t => rndR d i J O W lv o t) 100 (by decide)
    (body := k0_t6_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 a1 lanes k0_pay30) (t6_step d i J O W hO hO0 lv hlv a1 o)

end Cert.Proof.Nms

end

end
-- ==== Proof.Body.lean ====
/-
  The body of the kernel on one tile: the tile's pieces of the inputs copied in, the bisection, the words kept, the hundred rounds, and
  the result copied out by the first tile.
-/
module

public import proofs.«01_k».proof.Proof.Bar
public import proofs.«01_k».proof.Proof.Model
public import proofs.«01_k».proof.Proof.Suppress

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The six arrays a SparseCore reads. -/
structure Arrs (F : FTy → Type) where
  a : Vec F S20224 .f32
  b : Vec F S20224 .f32
  c : Vec F S20224 .f32
  e : Vec F S20224 .f32
  k : Vec F S20224 .i32
  s : Vec F S20224 .f32

/-- As the tiles hold them. -/
def Arrs.inp (A : Arrs F) : Inp F := mkInp A.a A.b A.c A.e A.k A.s

variable (d : Dev nD) (i : grid0.Coords) (A : Dev nD → Arrs F)

abbrev jn : Dev nD → Inp F := fun d => (A d).inp

/-- A share of the six arrays. -/
def inR (q : PosShare TreeShare) : sProp (MM F) :=
  iprop(((Memref.whole main_v2_scv).view.loc (V d (cV i) (jV i)) ↦{q} (A d).a)
    ∗ ((Memref.whole main_v5_scv).view.loc (V d (cV i) (jV i)) ↦{q} (A d).b)
    ∗ ((Memref.whole main_v8_scv).view.loc (V d (cV i) (jV i)) ↦{q} (A d).c)
    ∗ ((Memref.whole main_v11_scv).view.loc (V d (cV i) (jV i)) ↦{q} (A d).e)
    ∗ ((Memref.whole main_v12_scv).view.loc (V d (cV i) (jV i)) ↦{q} (A d).k)
    ∗ ((Memref.whole main_v13_scv).view.loc (V d (cV i) (jV i)) ↦{q} (A d).s))

omit [FloatOps F] in
/-- A tile's piece of an array. -/
theorem slab_read {e : EltTy} (m : Memref sig .scVector .hbm S20224 e) (f : m.view.ty.Contents (Elt F)) (P : Vec F S20224 e) (hP : m.view.read (Elt F) f = P)
    {off : Fin 1 → ℕ} (inb : ∀ a, off a + S1264.size a ≤ S20224.size a) (w : ℕ) (hw : w < 16) (ho : off = ![1264 * w]) :
    (m.slice (Rect.unit (s := S20224) off S1264.size inb) (fun _ => rfl)).view.read (Elt F) f = ofBlk 1264 (slab P w) := by
  subst ho
  funext y
  refine (congrFun hP ((Rect.unit (s := S20224) ![1264 * w] S1264.size inb).emb y)).trans ?_
  have hy : (y 0).val < 1264 := (y 0).isLt
  unfold ofBlk slab toBlk
  congr 1
  funext a
  obtain rfl : a = 0 := Subsingleton.elim _ _
  refine Fin.ext ?_
  rw [Rect.emb_apply]
  show 1264 * w + 1 * (y 0).val = _
  simp [lane]
  omega

variable (O : CellTallies nD τ sig (HIx NR)) (W : Waits sig (HIx NR))
variable (hO : ∀ g ι, 0 < O g ι → 8 * 261 + 6 ≤ (K (F := F)).lev g ι) (hO0 : ∀ g, O g none = 0)
    (lv : GSem nD τ sig → HIx NR → ℕ) (hlv : (K (F := F)).Refines lv)

theorem retell (b : Ref sig .scVector) (f g : Buf (Elt F) ((Memref.whole b).view.loc (V d (cV i) (jV i)))) (h : f = g) : (pt d i b f : sProp (MM F)) ⊢ pt d i b g := held h

/-- The semaphores of the copies in. -/
def insR : sProp (MM F) :=
  iprop(dsem d i cc0_scoped0 ∗ dsem d i cc0_scoped1 ∗ dsem d i cc0_scoped2 ∗ dsem d i cc0_scoped3 ∗ dsem d i cc0_scoped4 ∗ dsem d i cc0_scoped5)

/-- What the first part starts from. -/
def startR (q : PosShare TreeShare) : sProp (MM F) :=
  iprop(ctxB (pay (jn A)) d (cV i) ∗ levAts (K (F := F)).L lv ∗ BS d (cV i) (jV i) O W 0
    ∗ inR d i A q ∗ insR d i
    ∗ (∃ f, pt (F := F) d i cc0_scratch0 f) ∗ (∃ f, pt (F := F) d i cc0_scratch1 f) ∗ (∃ f, pt (F := F) d i cc0_scratch2 f)
    ∗ (∃ f, pt (F := F) d i cc0_scratch3 f) ∗ (∃ f, pt (F := F) d i cc0_scratch4 f) ∗ (∃ f, pt (F := F) d i cc0_scratch5 f)
    ∗ (∃ f, pt (F := F) d i cc0_scratch11 f)
    ∗ (∃ f, pt (F := F) d i cc0_scratch7 f) ∗ (∃ f, pt (F := F) d i cc0_scratch8 f)
    ∗ (∃ f, sbL d (cV i) ↦[rowS (jV i)]{fullShare} f) ∗ dsem d i cc0_scoped6 ∗ dsem d i cc0_scoped7)

include hO hO0 hlv in
set_option maxHeartbeats 1000000 in
theorem part4_run (q : PosShare TreeShare) :
    startR d i A O W lv q ⊢ wp frame (wpE (defs₀ (F := F)) 𝒱₀ (V d (cV i) (jV i)) none) Set.univ (k0_part4 (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14)
      fun a => iprop(⌜a = ⟨BitVec.ofNat 32 (i 0).val, BitVec.ofNat 32 (i 1).val, lanes, k0_pay30, k0_pay31 (F := F), tst (jn A d)⟩⌝
        ∗ (inR d i A q ∗ insR d i ∗ boxR d i (jn A) ∗ bisR d i (jn A) O W lv 60)) := by
  have hO' : ∀ r g, (O + debt d (cV i) r) g none = 0 := fun r g => by rw [Pi.add_apply, Finsupp.add_apply, hO0 g, debt_none]
  rw [k0_part4_eq_skeleton]
  unfold k0_part4_skel startR inR insR
  iintro ⟨#HC, #Hlev, HB, ⟨I0, I1, I2, I3, I4, I5⟩, ⟨D0, D1, D2, D3, D4, D5⟩, ⟨%f0, H0⟩, ⟨%f1, H1⟩, ⟨%f2, H2⟩, ⟨%f3, H3⟩, ⟨%f4, H4⟩, ⟨%f5, H5⟩, ⟨%f11, H11⟩, H7, H8, Hs, D6, D7⟩
  unfold BS
  icases HB with ⟨HT, ⟨%W1, %hW1, HO⟩⟩
  ihave Hmw := (show levAts (K (F := F)).L lv ⊢ Transfers.MayWaits (V d (cV i) (jV i)) (default : HIx NR) (O + debt d (cV i) 0) from
    (K (F := F)).mayWaits_none (thr := V d (cV i) (jV i)) (hO' _) lv hlv) $$ Hlev
  sl_exec
  ihave H0 := (fetched d i cc0_scratch0 f0 (part4_run.sl.dma0 d i A) (ofBlk 1264 ((jn A d).x1 (wN i)))
    (slab_read (Memref.whole main_v2_scv) (A d).a (A d).a (View.read_whole ..) (k0_off1_inb i) (wN i) (i 1).isLt (Gen.k0_off1_eq i))) $$ H0
  ihave H1 := (fetched d i cc0_scratch1 f1 (part4_run.sl.dma0_1 d i A) (ofBlk 1264 ((jn A d).y1 (wN i)))
    (slab_read (Memref.whole main_v5_scv) (A d).b (A d).b (View.read_whole ..) (k0_off1_inb i) (wN i) (i 1).isLt (Gen.k0_off1_eq i))) $$ H1
  ihave H2 := (fetched d i cc0_scratch2 f2 (part4_run.sl.dma0_2 d i A) (ofBlk 1264 ((jn A d).x2 (wN i)))
    (slab_read (Memref.whole main_v8_scv) (A d).c (A d).c (View.read_whole ..) (k0_off1_inb i) (wN i) (i 1).isLt (Gen.k0_off1_eq i))) $$ H2
  ihave H3 := (fetched d i cc0_scratch3 f3 (part4_run.sl.dma0_3 d i A) (ofBlk 1264 ((jn A d).y2 (wN i)))
    (slab_read (Memref.whole main_v11_scv) (A d).e (A d).e (View.read_whole ..) (k0_off1_inb i) (wN i) (i 1).isLt (Gen.k0_off1_eq i))) $$ H3
  ihave H5 := (fetched d i cc0_scratch5 f5 (part4_run.sl.dma0_4 d i A) (ofBlk 1264 ((jn A d).ks (wN i)))
    (slab_read (Memref.whole main_v12_scv) (A d).k (A d).k (View.read_whole ..) (k0_off1_inb i) (wN i) (i 1).isLt (Gen.k0_off1_eq i))) $$ H5
  ihave H11 := (fetched d i cc0_scratch11 f11 (part4_run.sl.dma0_5 d i A) (ofBlk 1264 ((jn A d).sc (wN i)))
    (slab_read (Memref.whole main_v13_scv) (A d).s (A d).s (View.read_whole ..) (k0_off1_inb i) (wN i) (i 1).isLt (Gen.k0_off1_eq i))) $$ H11
  ihave H4 := (retell d i cc0_scratch4 f4 _ (ofBlk_toBlk 1264 (by decide) f4).symm) $$ H4
  iapply (t1_run d i (jn A d) (wN i) (toBlk 1264 (by decide) f4)) $$ [H0 H1 H2 H3 H4]
  · isplitl [H0]; · iexact H0
    isplitl [H1]; · iexact H1
    isplitl [H2]; · iexact H2
    isplitl [H3]; · iexact H3
    iexact H4
  iintro ⟨H0, H1, H2, H3, H4⟩
  iapply (t2_run d i (jn A) O W hO hO0 lv hlv) $$ [HT HO H5 H7 H8 Hs D6 D7]
  · unfold bisR BS
    isplitr; · iexact HC
    isplitr; · iexact Hlev
    isplitl [HT HO]
    · isplitl [HT]; · iexact HT
      iexists _
      isplitr [HO]; swap
      · iexact HO
      · ipureintro
        exact Wok_insert (Or.inl rfl) (Wok_insert (Or.inl rfl) (Wok_insert (Or.inl rfl) (Wok_insert (Or.inl rfl) (Wok_insert (Or.inl rfl) (Wok_insert (Or.inl rfl) hW1)))))
    isplitl [H5]; · iexact H5
    isplitl [H7]; · iexact H7
    isplitl [H8]; · iexact H8
    isplitl [Hs]; · iexact Hs
    isplitl [D6]; · iexact D6
    iexact D7
  iintro HR
  dsimp only
  rw [wp_pure]
  imodintro
  isplitr [HR H0 H1 H2 H3 H4 H11 I0 I1 I2 I3 I4 I5 D0 D1 D2 D3 D4 D5]
  · ipureintro
    rfl
  isplitl [I0 I1 I2 I3 I4 I5]
  · isplitl [I0]; · iexact I0
    isplitl [I1]; · iexact I1
    isplitl [I2]; · iexact I2
    isplitl [I3]; · iexact I3
    isplitl [I4]; · iexact I4
    iexact I5
  isplitl [D0 D1 D2 D3 D4 D5]
  · isplitl [D0]; · iexact D0
    isplitl [D1]; · iexact D1
    isplitl [D2]; · iexact D2
    isplitl [D3]; · iexact D3
    isplitl [D4]; · iexact D4
    iexact D5
  unfold boxR
  isplitr [HR]; swap
  · iexact HR
  isplitl [H0]; · iexact H0
  isplitl [H1]; · iexact H1
  isplitl [H2]; · iexact H2
  isplitl [H3]; · iexact H3
  isplitl [H4]; · iexact H4
  iexact H11

/-! ## The whole body -/

/-- The tile's own scratch arrays, whatever they hold. -/
def scrR : sProp (MM F) :=
  iprop((∃ f, pt (F := F) d i cc0_scratch0 f) ∗ (∃ f, pt (F := F) d i cc0_scratch1 f) ∗ (∃ f, pt (F := F) d i cc0_scratch2 f)
    ∗ (∃ f, pt (F := F) d i cc0_scratch3 f) ∗ (∃ f, pt (F := F) d i cc0_scratch4 f) ∗ (∃ f, pt (F := F) d i cc0_scratch5 f)
    ∗ (∃ f, pt (F := F) d i cc0_scratch6 f) ∗ (∃ f, pt (F := F) d i cc0_scratch7 f) ∗ (∃ f, pt (F := F) d i cc0_scratch8 f)
    ∗ (∃ f, pt (F := F) d i cc0_scratch9 f) ∗ (∃ f, pt (F := F) d i cc0_scratch11 f) ∗ (∃ f, pt (F := F) d i cc0_scratch12 f)
    ∗ (∃ f, pt (F := F) d i cc0_scratch13 f))

/-- The semaphores of its transfers. -/
def semR : sProp (MM F) :=
  iprop(dsem d i cc0_scoped0 ∗ dsem d i cc0_scoped1 ∗ dsem d i cc0_scoped2 ∗ dsem d i cc0_scoped3 ∗ dsem d i cc0_scoped4 ∗ dsem d i cc0_scoped5
    ∗ dsem d i cc0_scoped6 ∗ dsem d i cc0_scoped7 ∗ dsem d i cc0_scoped8 ∗ dsem d i cc0_scoped9 ∗ dsem d i cc0_scoped10 ∗ dsem d i cc0_scoped11
    ∗ dsem d i cc0_scoped12 ∗ dsem d i cc0_scoped13 ∗ dsem d i cc0_scoped14)

/-- Its rows of the shared tables. -/
def rowsR : sProp (MM F) :=
  iprop((∃ f, sbL d (cV i) ↦[rowS (jV i)]{fullShare} f) ∗ ∃ f, sfL d (cV i) ↦[rowS (jV i)]{fullShare} f)

/-- The result's array, which only the first tile of the first SparseCore holds. -/
def outR (R : sProp (MM F)) : sProp (MM F) := if (i 0).val = 0 ∧ (i 1).val = 0 then R else iprop(emp)

omit [FloatOps F] in
theorem outR_pos (R : sProp (MM F)) (h : (i 0).val = 0 ∧ (i 1).val = 0) : outR i R ⊢ R := by unfold outR; rw [if_pos h]
omit [FloatOps F] in
theorem outR_in (R : sProp (MM F)) (h : (i 0).val = 0 ∧ (i 1).val = 0) : R ⊢ outR i R := by unfold outR; rw [if_pos h]
omit [FloatOps F] in
theorem outR_neg (R R' : sProp (MM F)) (h : ¬ ((i 0).val = 0 ∧ (i 1).val = 0)) : outR i R ⊢ outR i R' := by unfold outR; rw [if_neg h, if_neg h]

theorem first_iff : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
    ↔ (i 0).val = 0 ∧ (i 1).val = 0 :=
  (show ∀ (a : Fin 2) (b : Fin 16), Scalar.cmpi .ne (Scalar.extui (Scalar.andi (Scalar.cmpi .eq (BitVec.ofNat 32 a.val) 0#32) (Scalar.cmpi .eq (BitVec.ofNat 32 b.val) 0#32)) : BitVec 32) 0#32 = 1#1
    ↔ a.val = 0 ∧ b.val = 0 by decide) (i 0) (i 1)

theorem debt_end (c : Fin τ.nSC) : debt d c NR = 0 := by
  unfold debt
  rw [Finset.Ico_self, Finset.sum_empty]

omit [FloatOps F] in
theorem ovs_zero [FloatOps F] (I : Inp F) (o : Vec F S500 .f32) : ovs I o 0 = o := by
  funext x
  unfold ovs
  exact if_neg (by omega)
theorem ovs_all (I : Inp F) (o : Vec F S500 .f32) : ovs I o 100 = out I := by
  funext x
  unfold ovs
  exact if_pos (show (x 0).val < 5 * 100 from (x 0).isLt)

/-- What the body ends with. -/
def endR (q : PosShare TreeShare) : sProp (MM F) :=
  iprop(inR d i A q ∗ scrR d i ∗ semR d i ∗ rowsR d i ∗ outR i (pt d i main_v14_scv (out (jn A d)))
    ∗ semVal (bcell d (cV i) (jV i)) 0 ∗ ∃ W' : Waits sig (HIx NR), ⌜Wok W W'⌝ ∗ owes (V d (cV i) (jV i)) O W')

/-- What the body holds after the rounds, and the result written. -/
def lastR (q : PosShare TreeShare) (R : sProp (MM F)) : sProp (MM F) :=
  iprop(ctxB (pay (jn A)) d (cV i) ∗ inR d i A q ∗ insR d i ∗ (dsem d i cc0_scoped6 ∗ dsem d i cc0_scoped7 ∗ dsem d i cc0_scoped8 ∗ dsem d i cc0_scoped9
    ∗ dsem d i cc0_scoped10 ∗ dsem d i cc0_scoped11 ∗ dsem d i cc0_scoped12 ∗ dsem d i cc0_scoped13 ∗ dsem d i cc0_scoped14)
    ∗ boxR d i (jn A) ∗ ((∃ f, pt (F := F) d i cc0_scratch5 f) ∗ (∃ f, pt (F := F) d i cc0_scratch6 f) ∗ (∃ f, pt (F := F) d i cc0_scratch7 f)
    ∗ (∃ f, pt (F := F) d i cc0_scratch8 f) ∗ (∃ f, pt (F := F) d i cc0_scratch9 f) ∗ (∃ f, pt (F := F) d i cc0_scratch12 f) ∗ (∃ f, pt (F := F) d i cc0_scratch13 f))
    ∗ rowsR d i ∗ R ∗ TS d (cV i) (jV i) NR ∗ ∃ W' : Waits sig (HIx NR), ⌜Wok W W'⌝ ∗ owes (V d (cV i) (jV i)) (O + debt d (cV i) NR) W')

theorem body_fin (q : PosShare TreeShare) :
    lastR d i A O W q (outR i (pt d i main_v14_scv (out (jn A d)))) ⊢ iprop(|={Set.univ}=> endR d i A O W q) := by
  unfold lastR endR insR boxR scrR semR
  rw [debt_end, add_zero]
  iintro ⟨#HC, HI, ⟨D0, D1, D2, D3, D4, D5⟩, ⟨D6, D7, D8, D9, D10, D11, D12, D13, D14⟩, ⟨H0, H1, H2, H3, H4, H11⟩, ⟨H5, H6, H7, H8, H9, H12, H13⟩, HR, HQ, HT, HO⟩
  imod (TS_close (pay := pay (jn A)) d (cV i) (jV i)) $$ [HT] with Hbar
  · isplitr; · iexact HC
    iexact HT
  imodintro
  isplitl [HI]; · iexact HI
  isplitl [H0 H1 H2 H3 H4 H5 H6 H7 H8 H9 H11 H12 H13]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexact H5
    isplitl [H6]; · iexact H6
    isplitl [H7]; · iexact H7
    isplitl [H8]; · iexact H8
    isplitl [H9]; · iexact H9
    isplitl [H11]; · iexists _; iexact H11
    isplitl [H12]; · iexact H12
    iexact H13
  isplitl [D0 D1 D2 D3 D4 D5 D6 D7 D8 D9 D10 D11 D12 D13 D14]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    iexact D14
  isplitl [HR]; · iexact HR
  isplitl [HQ]; · iexact HQ
  isplitl [Hbar]; · iexact Hbar
  iexact HO

include hO hO0 hlv in
set_option maxHeartbeats 1000000 in
theorem body_run (q : PosShare TreeShare) :
    iprop(ctxB (pay (jn A)) d (cV i) ∗ levAts (K (F := F)).L lv ∗ BS d (cV i) (jV i) O W 0 ∗ inR d i A q ∗ scrR d i ∗ semR d i ∗ rowsR d i
      ∗ outR i iprop(∃ f, pt (F := F) d i main_v14_scv f))
      ⊢ wp frame (wpE (defs₀ (F := F)) 𝒱₀ (V d (cV i) (jV i)) none) Set.univ (cc0__nms_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14) fun _ => endR d i A O W q := by
  have hO' : ∀ r g, (O + debt d (cV i) r) g none = 0 := fun r g => by rw [Pi.add_apply, Finsupp.add_apply, hO0 g, debt_none]
  rw [cc0__nms_body_eq_skeleton]
  unfold cc0__nms_body_skel scrR semR rowsR
  iintro ⟨#HC, #Hlev, HB, HI, ⟨H0, H1, H2, H3, H4, H5, ⟨%f6, H6⟩, H7, H8, ⟨%f9, H9⟩, H11, H12, H13⟩, ⟨D0, D1, D2, D3, D4, D5, D6, D7, D8, D9, D10, D11, D12, D13, D14⟩, ⟨Hs, Hf⟩, HQ⟩
  iapply (run_bind d i _ _ _ (part4_run d i A O W hO hO0 lv hlv q)) $$ [HB HI H0 H1 H2 H3 H4 H5 H11 H7 H8 Hs D0 D1 D2 D3 D4 D5 D6 D7]
  · unfold startR insR
    isplitr; · iexact HC
    isplitr; · iexact Hlev
    isplitl [HB]; · iexact HB
    isplitl [HI]; · iexact HI
    isplitl [D0 D1 D2 D3 D4 D5]
    · isplitl [D0]; · iexact D0
      isplitl [D1]; · iexact D1
      isplitl [D2]; · iexact D2
      isplitl [D3]; · iexact D3
      isplitl [D4]; · iexact D4
      iexact D5
    isplitl [H0]; · iexact H0
    isplitl [H1]; · iexact H1
    isplitl [H2]; · iexact H2
    isplitl [H3]; · iexact H3
    isplitl [H4]; · iexact H4
    isplitl [H5]; · iexact H5
    isplitl [H11]; · iexact H11
    isplitl [H7]; · iexact H7
    isplitl [H8]; · iexact H8
    isplitl [Hs]; · iexact Hs
    isplitl [D6]; · iexact D6
    iexact D7
  iintro ⟨HI, HD, HX, HR⟩
  unfold bisR
  icases HR with ⟨-, -, HB, H5, H7, H8, Hs, D6, D7⟩
  dsimp only
  iapply (run_bind d i _ _ _ (part5_run d i (jn A) O W hO hO0 lv hlv (BitVec.ofNat 32 (wN i)))) $$ [HB H5 H7 H8 Hs D8 D9]
  · unfold cntR
    isplitr; · iexact HC
    isplitr; · iexact Hlev
    isplitl [HB]; · iexact HB
    isplitl [H5]; · iexact H5
    isplitl [H7]; · iexact H7
    isplitl [H8]; · iexact H8
    isplitl [Hs]; · iexact Hs
    isplitl [D8]; · iexact D8
    iexact D9
  unfold cntR
  iintro ⟨-, -, HB, H5, H7, H8, Hs, D8, D9⟩
  dsimp only
  ihave H6 := (retell d i cc0_scratch6 f6 _ (ofBlk_toBlk 1264 (by decide) f6).symm) $$ H6
  iapply (t5_run d i (jn A d) (wN i) (toBlk 1264 (by decide) f6)) $$ [H5 H6]
  · isplitl [H5]; · iexact H5
    iexact H6
  iintro ⟨H5, H6⟩
  iapply (t6_run d i (jn A) O W hO hO0 lv hlv (BitVec.ofNat 32 (wN i)) f9) $$ [HB H7 H8 H12 Hs Hf D10 D11 D12 D13 H13 HX H6 H9]
  · unfold rndR exR
    rw [ovs_zero]
    isplitl [HB H7 H8 H12 Hs Hf D10 D11 D12 D13]
    · isplitr; · iexact HC
      isplitr; · iexact Hlev
      isplitl [HB]; · iexact HB
      isplitl [H7]; · iexact H7
      isplitl [H8]; · iexact H8
      isplitl [H12]; · iexact H12
      isplitl [Hs]; · iexact Hs
      isplitl [Hf]; · iexact Hf
      isplitl [D10]; · iexact D10
      isplitl [D11]; · iexact D11
      isplitl [D12]; · iexact D12
      iexact D13
    isplitl [H13]; · iexact H13
    isplitl [HX]; · iexact HX
    isplitl [H6]; · iexact H6
    iexact H9
  unfold rndR exR
  iintro ⟨⟨-, -, HB, H7, H8, H12, Hs, Hf, D10, D11, D12, D13⟩, H13, HX, H6, H9⟩
  rw [ovs_all]
  unfold BS
  icases HB with ⟨HT, ⟨%W1, %hW1, HO⟩⟩
  ihave Hmw := (show levAts (K (F := F)).L lv ⊢ Transfers.MayWaits (V d (cV i) (jV i)) (default : HIx NR) (O + debt d (cV i) (2 * (31 + 100))) from
    (K (F := F)).mayWaits_none (thr := V d (cV i) (jV i)) (hO' _) lv hlv) $$ Hlev
  by_cases hi : (i 0).val = 0 ∧ (i 1).val = 0
  · ihave HQ := (outR_pos i _ hi) $$ HQ
    rw [dif_pos ((first_iff i).mpr hi)]
    icases HQ with ⟨%fo, HQ⟩
    sl_exec
    ihave HQ := (fetched d i main_v14_scv fo (body_run.sl.dma0 d A) (out (jn A d)) (View.read_whole cc0_scratch9 (out (jn A d)))) $$ HQ
    ihave HQ := (outR_in i _ hi) $$ HQ
    rw [wp_ret]
    iapply (body_fin d i A O W q)
    unfold lastR rowsR
    isplitr; · iexact HC
    isplitl [HI]; · iexact HI
    isplitl [HD]; · iexact HD
    isplitl [D6 D7 D8 D9 D10 D11 D12 D13 D14]
    · isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      iexact D14
    isplitl [HX]; · iexact HX
    isplitl [H5 H6 H7 H8 H9 H12 H13]
    · isplitl [H5]; · iexists _; iexact H5
      isplitl [H6]; · iexists _; iexact H6
      isplitl [H7]; · iexact H7
      isplitl [H8]; · iexact H8
      isplitl [H9]; · iexists _; iexact H9
      isplitl [H12]; · iexact H12
      iexact H13
    isplitl [Hs Hf]
    · isplitl [Hs]; · iexact Hs
      iexact Hf
    isplitl [HQ]; · iexact HQ
    isplitl [HT]; · iexact HT
    iexists _
    isplitr [HO]; swap
    · iexact HO
    · ipureintro
      exact Wok_insert (Or.inl rfl) hW1
  · ihave HQ := (outR_neg i _ (pt d i main_v14_scv (out (jn A d))) hi) $$ HQ
    rw [dif_neg (fun h => hi ((first_iff i).mp h)), wp_pure]
    iapply (body_fin d i A O W q)
    unfold lastR rowsR
    isplitr; · iexact HC
    isplitl [HI]; · iexact HI
    isplitl [HD]; · iexact HD
    isplitl [D6 D7 D8 D9 D10 D11 D12 D13 D14]
    · isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      iexact D14
    isplitl [HX]; · iexact HX
    isplitl [H5 H6 H7 H8 H9 H12 H13]
    · isplitl [H5]; · iexists _; iexact H5
      isplitl [H6]; · iexists _; iexact H6
      isplitl [H7]; · iexact H7
      isplitl [H8]; · iexact H8
      isplitl [H9]; · iexists _; iexact H9
      isplitl [H12]; · iexact H12
      iexact H13
    isplitl [Hs Hf]
    · isplitl [Hs]; · iexact Hs
      iexact Hf
    isplitl [HQ]; · iexact HQ
    isplitl [HT]; · iexact HT
    iexists _
    isplitr [HO]; swap
    · iexact HO
    · ipureintro
      exact hW1

end Cert.Proof.Nms

end

end
-- ==== Proof.Tile.lean ====
/-
  What the call carries to the tiles and back, and a tile's task from its own memory and what it is dealt.
-/
module

public import proofs.«01_k».proof.Proof.Bar
public import proofs.«01_k».proof.Proof.Model
public import proofs.«01_k».proof.Proof.Body

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What the call carries -/

abbrev aL (d : Dev nD) : Loc nD τ sig := (SparseCore.T d).loc main_v2
abbrev bL (d : Dev nD) : Loc nD τ sig := (SparseCore.T d).loc main_v5
abbrev cL (d : Dev nD) : Loc nD τ sig := (SparseCore.T d).loc main_v8
abbrev eL (d : Dev nD) : Loc nD τ sig := (SparseCore.T d).loc main_v11
abbrev kL (d : Dev nD) : Loc nD τ sig := (SparseCore.T d).loc main_v12
abbrev sL (d : Dev nD) : Loc nD τ sig := (SparseCore.T d).loc main_v13
abbrev oL (d : Dev nD) : Loc nD τ sig := (SparseCore.T d).loc main_v14

variable (A : Dev nD → Arrs F)

/-- A share of the six arrays. -/
def arrs (d : Dev nD) (q : PosShare TreeShare) : sProp (MM F) :=
  iprop((aL d ↦{q} (A d).a) ∗ (bL d ↦{q} (A d).b) ∗ (cL d ↦{q} (A d).c) ∗ (eL d ↦{q} (A d).e) ∗ (kL d ↦{q} (A d).k) ∗ (sL d ↦{q} (A d).s))

theorem arrs_deal {n : ℕ} (d : Dev nD) (q : PosShare TreeShare) (hn : (Finset.univ : Finset (Fin n)).Nonempty) :
    arrs A d q = bigSep Finset.univ fun j : Fin n => arrs A d (Transfers.dealOf q Finset.univ j) := by
  unfold arrs
  rw [bigSep_sep', bigSep_sep', bigSep_sep', bigSep_sep', bigSep_sep', ← Transfers.pointsTo_deal Finset.univ hn q, ← Transfers.pointsTo_deal Finset.univ hn q,
    ← Transfers.pointsTo_deal Finset.univ hn q, ← Transfers.pointsTo_deal Finset.univ hn q, ← Transfers.pointsTo_deal Finset.univ hn q,
    ← Transfers.pointsTo_deal Finset.univ hn q]

instance arrs_storable (d : Dev nD) (q : PosShare TreeShare) : BI.Storable (upEmb : UEmb _ (MM F)) (arrs A d q) := by unfold arrs; infer_instance

/-- A SparseCore's share of them; a tile's. -/
def coreQ (c : Fin 2) : PosShare TreeShare := Transfers.dealOf fullShare Finset.univ c
def tileQ (c : Fin 2) (i : Fin 16) : PosShare TreeShare := Transfers.dealOf (coreQ c) Finset.univ i

/-- What only the first of all holds. -/
def only (p : Prop) [Decidable p] (R : sProp (MM F)) : sProp (MM F) := if p then R else iprop(emp)
instance only_storable (p : Prop) [Decidable p] (R : sProp (MM F)) [BI.Storable (upEmb : UEmb _ (MM F)) R] : BI.Storable (upEmb : UEmb _ (MM F)) (only p R) := by
  unfold only; split <;> infer_instance

/-- A tile's rows of the shared tables. -/
def rows (d : Dev nD) (c : Fin τ.nSC) (i : Fin 16) : sProp (MM F) :=
  iprop((∃ f, sbL d c ↦[rowS i]{fullShare} f) ∗ ∃ f, sfL d c ↦[rowS i]{fullShare} f)
set_option synthInstance.maxHeartbeats 400000 in
instance rows_storable (d : Dev nD) (c : Fin τ.nSC) (i : Fin 16) : BI.Storable (upEmb : UEmb _ (MM F)) (rows d c i) := by unfold rows; infer_instance

abbrev coreOf (c : Fin ((K (F := F)).nCore 0)) : Fin τ.nSC := (K (F := F)).core 0 c
theorem nCore_zero : (K (F := F)).nCore 0 = 2 := rfl
theorem nSub_zero : (K (F := F)).nSub 0 = 16 := rfl
abbrev c2 (c : Fin ((K (F := F)).nCore 0)) : Fin 2 := Fin.cast nCore_zero c
abbrev i16 (i : Fin ((K (F := F)).nSub 0)) : Fin 16 := Fin.cast nSub_zero i

/-- The barrier semaphores of a SparseCore's tiles, at zero. -/
abbrev bars (d : Dev nD) (c : Fin τ.nSC) : sProp (MM F) := bigSep Finset.univ fun i : Fin 16 => semVal (bcell d c i) 0

variable [FloatOps F]

/-- What a tile is dealt at the launch. -/
def kit (d : Dev nD) (c : Fin τ.nSC) (i : Fin 16) : sProp (MM F) := iprop(ctxB (pay (jn A)) d c ∗ TS d c i 0)

abbrev stP (d : Dev nD) (c : Fin ((K (F := F)).nCore 0)) : sProp (MM F) :=
  iprop(arrs A d (coreQ (c2 c)) ∗ only ((c2 c).val = 0) iprop(∃ f, oL d ↦{fullShare} f))
abbrev dnP (d : Dev nD) (c : Fin ((K (F := F)).nCore 0)) : sProp (MM F) :=
  iprop((arrs A d (coreQ (c2 c)) ∗ only ((c2 c).val = 0) (oL d ↦{fullShare} out (jn A d))) ∗ bars d (coreOf c))
abbrev goP (d : Dev nD) (c : Fin ((K (F := F)).nCore 0)) (i : Fin 16) : sProp (MM F) :=
  iprop(arrs A d (tileQ (c2 c) i) ∗ rows d (coreOf c) i ∗ only ((c2 c).val = 0 ∧ i.val = 0) iprop(∃ f, oL d ↦{fullShare} f))
abbrev tdP (d : Dev nD) (c : Fin ((K (F := F)).nCore 0)) (i : Fin 16) : sProp (MM F) :=
  iprop(arrs A d (tileQ (c2 c) i) ∗ rows d (coreOf c) i ∗ only ((c2 c).val = 0 ∧ i.val = 0) (oL d ↦{fullShare} out (jn A d))
    ∗ semVal (bcell d (coreOf c) i) 0)

set_option backward.proofsInPublic true in
/-- The call takes the six arrays and the result's; the first SparseCore's first tile has the latter. -/
def P : (K (F := F)).Pay (nD := nD) (Val := Elt F) (Name := ℕ) (U := UU) (N := NR) where
  st := fun q d c => match q with | 0 => stP A d c
  dn := fun q d c => match q with | 0 => dnP A d c
  go := fun q d c i => match q with | 0 => goP A d c (i16 i)
  td := fun q d c i => match q with | 0 => tdP A d c (i16 i)
  x := fun _ thr => match thr with
    | (d, .scVector c i) => kit A d c i
    | _ => iprop(emp)
  ox := fun _ thr => match thr with
    | (d, .scVector c _) => debt d c 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨s, j, -, hs, rfl, rfl⟩ := debt_pos d c 0 g ι h
      rw [lev_bcell d c j hs]
      have hs' : s < 262 := hs
      refine ⟨?_, ?_⟩
      · show 8 * 0 + 3 ≤ 8 * s + 3; omega
      · show 8 * s + 3 ≤ 8 * 261 + 5; omega
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) A).IsStorable where
  st q d c := match q with | 0 => (inferInstance : BI.Storable (upEmb : UEmb _ (MM F)) (stP A d c))
  dn q d c := match q with | 0 => (inferInstance : BI.Storable (upEmb : UEmb _ (MM F)) (dnP A d c))
  go q d c i := match q with | 0 => (inferInstance : BI.Storable (upEmb : UEmb _ (MM F)) (goP A d c (i16 i)))
  td q d c i := match q with | 0 => (inferInstance : BI.Storable (upEmb : UEmb _ (MM F)) (tdP A d c (i16 i)))

/-! ## A tile's own memory -/

omit [FloatOps F]
/-- A set's conjuncts out of a larger set's. -/
theorem bigSep_part {I : Type} [DecidableEq I] {T S : Finset I} (hT : T ⊆ S) (Φ : I → sProp (MM F)) :
    bigSep S Φ = iprop(bigSep T Φ ∗ bigSep (S \ T) Φ) := by
  conv_lhs => rw [← Finset.union_sdiff_of_subset hT]
  exact bigSep_union Finset.disjoint_sdiff

def semS : Finset (SemLoc sig) := {.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem, .dma cc0_scoped14.sem}
def bufS : Finset (Ref sig .scVector) := {cc0_scratch0, cc0_scratch1, cc0_scratch2, cc0_scratch3, cc0_scratch4, cc0_scratch5, cc0_scratch6, cc0_scratch7, cc0_scratch8, cc0_scratch9, cc0_scratch11, cc0_scratch12, cc0_scratch13}

theorem ownSems_V (d : Dev nD) (i : grid0.Coords) :
    (ownSems0 (V d (cV i) (jV i)) : sProp (MM F)) = iprop(semR d i ∗ bigSep (ownCells (V d (cV i) (jV i)) \ semS.image (fun sm => (V d (cV i) (jV i), sm))) fun g => semVal g 0) := by
  unfold SparseCore.Cfg.ownSems0
  rw [bigSep_part (T := semS.image (fun sm => ((V d (cV i) (jV i), sm) : GSem nD τ sig))) (by
      intro g hg
      obtain ⟨sm, hsm, rfl⟩ := Finset.mem_image.mp hg
      exact mem_ownCells.mpr ⟨rfl, (show ∀ sm ∈ semS, sm.isScoped .scVector = true by decide) sm hsm⟩),
    SparseCore.bigSep_image_of_injOn (fun a _ b _ e => (Prod.mk.inj e).2)]
  congr 1
  unfold semS semR
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bufS_owner (c : Fin τ.nSC) (j : Fin τ.nSub) (b : Ref sig .scVector) (hb : b ∈ bufS) : ((Proc.scVector c j).devRef b).owner = .proc (.scVector c j) := by
  simp only [bufS, Finset.mem_insert, Finset.mem_singleton] at hb
  rcases hb with rfl | rfl | rfl | rfl | rfl | rfl | rfl | rfl | rfl | rfl | rfl | rfl | rfl <;> rfl

set_option maxHeartbeats 1000000 in
theorem bufS_sep (Φ : Ref sig .scVector → sProp (MM F)) : bigSep bufS Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7 ∗ Φ cc0_scratch8 ∗ Φ cc0_scratch9 ∗ Φ cc0_scratch11 ∗ Φ cc0_scratch12 ∗ Φ cc0_scratch13) := by
  unfold bufS
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem ownBufs_V (d : Dev nD) (i : grid0.Coords) :
    (ownBufs (V d (cV i) (jV i)) : sProp (MM F)) = iprop(scrR d i ∗ bigSep (ownRefs (τ := τ) (.scVector (cV i) (jV i)) \ bufS.image (Proc.scVector (cV i) (jV i)).devRef)
      fun b => iprop(∃ f, ((d, b) : Loc nD τ sig) ↦{fullShare} f)) := by
  unfold SparseCore.Cfg.ownBufs
  rw [bigSep_part (T := bufS.image (Proc.scVector (cV i) (jV i)).devRef) (by
      intro g hg
      obtain ⟨b, hb, rfl⟩ := Finset.mem_image.mp hg
      refine SparseCore.Cfg.mem_ownRefs_of_owner (p := Proc.scVector (cV i) (jV i)) ?_
      exact bufS_owner _ _ b hb),
    SparseCore.bigSep_image_of_injOn (fun a _ b _ e => Proc.devRef_injective _ e)]
  congr 1
  exact bufS_sep fun b => iprop(∃ f, pt (F := F) d i b f)

/-! ## The task -/

variable [FloatOps F]

theorem inR_arrs (d : Dev nD) (i : grid0.Coords) (q : PosShare TreeShare) : inR d i A q = arrs A d q := rfl
theorem rowsR_rows (d : Dev nD) (i : grid0.Coords) : (rowsR d i : sProp (MM F)) = rows d (cV i) (jV i) := rfl
theorem outR_some (d : Dev nD) (i : grid0.Coords) :
    outR i iprop(∃ f, pt (F := F) d i main_v14_scv f) = only ((i 0).val = 0 ∧ (i 1).val = 0) (iprop(∃ f, oL d ↦{fullShare} f) : sProp (MM F)) := rfl
theorem outR_out (d : Dev nD) (i : grid0.Coords) :
    outR i (pt d i main_v14_scv (out (jn A d))) = only ((i 0).val = 0 ∧ (i 1).val = 0) (oL d ↦{fullShare} out (jn A d)) := rfl

theorem tile_body (hF : (K (F := F)).Facts) (d : Dev nD) (i : grid0.Coords) (q : PosShare TreeShare) (O : CellTallies nD τ sig (HIx NR)) (W : Waits sig (HIx NR))
    (hO0 : ∀ g, O g none = 0) (hO : ∀ g ι, 0 < O g ι → 8 * 261 + 6 ≤ (K (F := F)).lev g ι) :
    iprop(levAts (K (F := F)).L (K (F := F)).lev ∗ kit A d (cV i) (jV i)
        ∗ (arrs A d q ∗ rows d (cV i) (jV i) ∗ only ((i 0).val = 0 ∧ (i 1).val = 0) iprop(∃ f, oL d ↦{fullShare} f))
        ∗ scopedBufs (V d (cV i) (jV i)) ∗ scopedSems0 (V d (cV i) (jV i)) ∗ owes (V d (cV i) (jV i)) (O + debt d (cV i) 0) W)
      ⊢ wp frame (wpE (defs₀ (F := F)) 𝒱₀ (V d (cV i) (jV i)) none) Set.univ (cc0__nms_body (F := F) i (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14)
          fun _ => iprop((arrs A d q ∗ rows d (cV i) (jV i) ∗ only ((i 0).val = 0 ∧ (i 1).val = 0) (oL d ↦{fullShare} out (jn A d)) ∗ semVal (bcell d (cV i) (jV i)) 0)
            ∗ scopedBufs (V d (cV i) (jV i)) ∗ scopedSems0 (V d (cV i) (jV i))
            ∗ ∃ W', ⌜∀ p ∈ W', p ∈ W ∨ p.2 = none ∨ ∃ j, p.2 = some j⌝ ∗ owes (V d (cV i) (jV i)) O W') := by
  rw [(K (F := F)).scopedBufs_V hF d (cV i) (jV i), SparseCore.Cfg.scopedSems0_V (Val := Elt F) d (cV i) (jV i), ownSems_V, ownBufs_V]
  rw [← inR_arrs A d i q, ← rowsR_rows, ← outR_some, ← outR_out]
  unfold kit
  iintro ⟨#Hlev, ⟨#HC, HT⟩, ⟨HI, HR, HQ⟩, ⟨Hb, Hbs⟩, ⟨Hs, Hss⟩, HO⟩
  ihave H := (body_run d i A O W hO hO0 (K (F := F)).lev (by sl_refines_lev) q) $$ [HT HI HR HQ Hb Hs HO]
  · isplitr; · iexact HC
    isplitr; · iexact Hlev
    isplitl [HT HO]
    · unfold BS
      isplitl [HT]; · iexact HT
      iexists W
      isplitr; · ipureintro; exact fun p hp => .inl hp
      iexact HO
    isplitl [HI]; · iexact HI
    isplitl [Hb]; · iexact Hb
    isplitl [Hs]; · iexact Hs
    isplitl [HR]; · iexact HR
    iexact HQ
  iapply wp_wand $$ H
  iintro %_ H
  unfold endR
  icases H with ⟨HI, Hb, Hs, HR, HQ, Hz, HO⟩
  isplitl [HI HR HQ Hz]
  · isplitl [HI]; · iexact HI
    isplitl [HR]; · iexact HR
    isplitl [HQ]; · iexact HQ
    iexact Hz
  isplitl [Hb Hbs]
  · isplitl [Hb] <;> iassumption
  isplitl [Hs Hss]
  · isplitl [Hs] <;> iassumption
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__nms_body (F := F) (coordsV c s) (Memref.whole main_v2_scv) (Memref.isWhole_whole _) (Memref.whole main_v5_scv) (Memref.isWhole_whole _) (Memref.whole main_v8_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14) ⟨⟩ c s := rfl

set_option maxRecDepth 16384 in
theorem tileObl (hF : (K (F := F)).Facts) : (K (F := F)).TileObl (D (F := F)) 𝒱 (P A) v₀ 0 := by
  intro d c i O W hO hOlev _
  have hci : ((K (F := F)).core 0 c).val < grid0.bound 0 ∧ ((K (F := F)).sub 0 i).val < grid0.bound 1 := ⟨c.isLt, i.isLt⟩
  rw [show (P A).ox 0 (V d ((K (F := F)).core 0 c) ((K (F := F)).sub 0 i)) = debt d ((K (F := F)).core 0 c) 0 from rfl,
    show (P A).x 0 (V d ((K (F := F)).core 0 c) ((K (F := F)).sub 0 i)) = kit A d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A hF d (coordsV ⟨_, hci.1⟩ ⟨_, hci.2⟩) (tileQ (c2 c) (i16 i)) O W hO hOlev

end Cert.Proof.Nms

end

end
-- ==== Proof.Launch.lean ====
/-
  The launch of the call: the operands split among the tiles and joined again, and the ghost state the tiles are dealt.
-/
module

public import proofs.«01_k».proof.Proof.Bar
public import proofs.«01_k».proof.Proof.Model
public import proofs.«01_k».proof.Proof.Tile

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} (A : Dev nD → Arrs F)

/-! ## The operands split and join -/

theorem bigSep_i16 (Φ : Fin 16 → sProp (MM F)) : (bigSep Finset.univ fun i : Fin ((K (F := F)).nSub 0) => Φ (i16 i)) = bigSep Finset.univ Φ := rfl

theorem emp_all {I : Type} (s : Finset I) : (bigSep s fun _ => iprop(emp)) = (iprop(emp) : sProp (MM F)) := bigSep_emp_const s

/-- What only the first of the tiles holds. -/
theorem only_tiles (p : Prop) [Decidable p] (R : sProp (MM F)) :
    only p R = bigSep Finset.univ fun i : Fin 16 => only (p ∧ i.val = 0) R := by
  rw [SparseCore.bigSep_erase' (Finset.mem_univ (0 : Fin 16)),
    show (bigSep (Finset.univ.erase (0 : Fin 16)) fun i : Fin 16 => only (p ∧ i.val = 0) R) = bigSep (Finset.univ.erase (0 : Fin 16)) fun _ => (iprop(emp) : sProp (MM F)) from
      bigSep_congr fun i hi => if_neg fun h => (Finset.mem_erase.mp hi).1 (Fin.ext h.2), emps]
  refine Eq.trans ?_ (show only p R = iprop(only p R ∗ emp) from (sep_emp_eq _).symm) |>.trans ?_
  · rfl
  · congr 1
    unfold only
    simp

theorem rows_join {ℓ : Loc nD τ sig} [Nonempty (Buf (Elt F) ℓ)] (S : Fin 16 → Finset (Idx ℓ)) (hd : ∀ w ∈ (Finset.univ : Finset (Fin 16)), ∀ w' ∈ (Finset.univ : Finset (Fin 16)), w ≠ w' → Disjoint (S w) (S w'))
    (hc : Finset.univ.biUnion S = Finset.univ) :
    (bigSep Finset.univ fun i : Fin 16 => iprop(∃ f, ℓ ↦[S i]{fullShare} f)) ⊢ (iprop(∃ f, ℓ ↦{fullShare} f) : sProp (MM F)) := by
  refine (bigSep_exists_pi Finset.univ (fun i (f : Buf (Elt F) ℓ) => (ℓ ↦[S i]{fullShare} f : sProp (MM F)))).trans ?_
  iintro ⟨%fs, H⟩
  ihave H' := (pointsTo_biUnion_join Finset.univ S fs (fs 0) hd) $$ H
  icases H' with ⟨%g, -, Hg⟩
  rw [hc]
  iexists g; iexact Hg

theorem rows_split {ℓ : Loc nD τ sig} (S : Fin 16 → Finset (Idx ℓ)) (hd : ∀ w ∈ (Finset.univ : Finset (Fin 16)), ∀ w' ∈ (Finset.univ : Finset (Fin 16)), w ≠ w' → Disjoint (S w) (S w'))
    (hc : Finset.univ.biUnion S = Finset.univ) :
    (iprop(∃ f, ℓ ↦{fullShare} f) : sProp (MM F)) ⊢ (bigSep Finset.univ fun i : Fin 16 => iprop(∃ f, ℓ ↦[S i]{fullShare} f)) := by
  iintro ⟨%f, H⟩
  ihave H := (show (ℓ ↦{fullShare} f : sProp (MM F)) ⊢ bigSep Finset.univ fun i : Fin 16 => ℓ ↦[S i]{fullShare} f from by
    rw [← pointsTo_biUnion (ℓ := ℓ) Finset.univ S hd, hc]) $$ H
  ihave H := (SparseCore.ent (bigSep_mono (Φ := fun i => (ℓ ↦[S i]{fullShare} f : sProp (MM F))) (Ψ := fun i => iprop(∃ f, ℓ ↦[S i]{fullShare} f))
      fun i _ => BI.BIClass.exists_intro (Φ := fun f => (ℓ ↦[S i]{fullShare} f : sProp (MM F))) f)) $$ H
  iexact H

abbrev sbRef (c : Fin τ.nSC) : DevRef τ sig := ⟨.shared, ⟨0, by decide⟩, c⟩
abbrev sfRef (c : Fin τ.nSC) : DevRef τ sig := ⟨.shared, ⟨1, by decide⟩, c⟩

theorem ownBufs_S (d : Dev nD) (c : Fin τ.nSC) :
    (ownBufs (S d c) : sProp (MM F))
      = iprop((∃ f, sbL d c ↦{fullShare} f) ∗ (∃ f, sfL d c ↦{fullShare} f)
        ∗ bigSep (((ownRefs (τ := τ) (.scScalar c)).erase (sbRef c)).erase (sfRef c)) fun b => iprop(∃ f, ((d, b) : Loc nD τ sig) ↦{fullShare} f)) := by
  unfold SparseCore.Cfg.ownBufs
  rw [SparseCore.bigSep_erase' (show sbRef c ∈ ownRefs (τ := τ) (sig := sig) (.scScalar c) from (mem_ownRefs (p := Proc.scScalar c) (b := sbRef c)).mpr rfl),
    SparseCore.bigSep_erase' (Finset.mem_erase.mpr ⟨(by intro h; simp at h : sfRef c ≠ sbRef c),
      (show sfRef c ∈ ownRefs (τ := τ) (sig := sig) (.scScalar c) from (mem_ownRefs (p := Proc.scScalar c) (b := sfRef c)).mpr rfl)⟩)]
  rfl

variable [FloatOps F]

theorem vecSplit : (K (F := F)).VecSplit (P A) 0 := by
  intro d c
  show iprop(stP A d c ∗ ownBufs (S d (coreOf c))) ⊢ |={Set.univ}=> iprop(
      (bigSep Finset.univ fun i : Fin 16 => goP A d c i)
      ∗ ((bigSep Finset.univ fun i : Fin 16 => tdP A d c i) -∗ iprop(dnP A d c ∗ ownBufs (S d (coreOf c)))))
  rw [ownBufs_S, bigSep_sep', bigSep_sep', bigSep_sep', bigSep_sep', bigSep_sep', ← only_tiles, ← only_tiles]
  unfold stP dnP rows
  rw [bigSep_sep', arrs_deal A d (coreQ (c2 c)) (n := 16) ⟨0, Finset.mem_univ _⟩]
  iintro ⟨⟨HI, HQ⟩, Hs, Hf, Hrest⟩
  imodintro
  isplitl [HI HQ Hs Hf]
  · isplitl [HI]; · iexact HI
    isplitl [Hs Hf]
    · isplitl [Hs]
      · iapply (rows_split (ℓ := sbL d (coreOf c)) rowS rows_disjoint rows_cover); iexact Hs
      · iapply (rows_split (ℓ := sfL d (coreOf c)) rowS rows_disjoint rows_cover); iexact Hf
    iexact HQ
  iintro ⟨HI, ⟨Hs, Hf⟩, HQ, Hz⟩
  isplitl [HI HQ Hz]
  · isplitr [Hz]; swap; · iexact Hz
    isplitl [HI]; · iexact HI
    iexact HQ
  isplitl [Hs]; · iapply (rows_join (ℓ := sbL d (coreOf c)) rowS rows_disjoint rows_cover); iexact Hs
  isplitl [Hf]; · iapply (rows_join (ℓ := sfL d (coreOf c)) rowS rows_disjoint rows_cover); iexact Hf
  iexact Hrest

/-! ## The launch's ghost state -/

omit [FloatOps F]

abbrev DCI : Type := Dev nD × Fin τ.nSC × Fin 16
abbrev cellOf (x : DCI) : GSem nD τ sig := bcell x.1 x.2.1 x.2.2

def bCells : Finset (GSem nD τ sig) := Finset.univ.image cellOf
/-- Tile `i`'s token for barrier `s` at tile `j`. -/
def bTok (x : DCI × (ℕ × Fin 16)) : GSem nD τ sig × ℕ × ℕ := (bcell x.1.1 x.1.2.1 x.2.2, 0, duty x.2.1 x.1.2.2)
def bToks : Finset (GSem nD τ sig × ℕ × ℕ) := ((Finset.univ : Finset DCI) ×ˢ (Finset.Ico 0 NR ×ˢ (Finset.univ : Finset (Fin 16)))).image bTok
def aCells : Finset GA := Finset.univ
def u₀ : UU := (initOf (K (F := F)).hsCells (K (F := F)).hsToks, (initOf bCells bToks, (initOf aCells ∅, 1)))

theorem cellOf_injective : Function.Injective (cellOf : DCI → GSem nD τ sig) := fun a b e => by
  obtain ⟨h1, h2⟩ := Prod.mk.inj (Prod.mk.inj e).1; obtain ⟨h3, h4⟩ := Proc.scVector.inj h2
  exact Prod.ext h1 (Prod.ext h3 h4)

theorem bTok_injective : Function.Injective bTok := by
  rintro ⟨⟨d, c, i⟩, s, j⟩ ⟨⟨d', c', i'⟩, s', j'⟩ e
  have e1 : bcell d c j = bcell d' c' j' := (Prod.mk.inj e).1
  have e2 : duty s i = duty s' i' := (Prod.mk.inj (Prod.mk.inj e).2).2
  have h := cellOf_injective (a₁ := (d, c, j)) (a₂ := (d', c', j')) e1
  have hs : s = s' := by rw [← duty_div s i, ← duty_div s' i', e2]
  have hi : i = i' := by rw [← dutyTile_duty s i, ← dutyTile_duty s' i', e2]
  have h1 := (Prod.mk.inj h).1
  have h2 := Prod.mk.inj (Prod.mk.inj h).2
  rw [h1, h2.1, h2.2, hs, hi]

theorem ownU_split₁ (a : UH) (b : UB × (UA × Counters)) :
    (ownU ((a, b) : UU) : sProp (MM F)) ⊢ iprop(BI.own (EH a) ∗ ownU ((1, b) : UU)) :=
  BI.own_op_elim ((uEmb (nD := nD) (sig := sig) (Ix := HIx NR) (Val := Elt F) (Name := ℕ) (U := UU) (Lvl := ℕ)).toEmb.op_of_mem
    (Prod.mk_mem_op (URA.mem_op_one a) (URA.mem_one_op b)))
theorem ownU_split₂ (b : UB) (c : UA) : (ownU ((1, (b, (c, 1))) : UU) : sProp (MM F)) ⊢ iprop(BI.own (EB b) ∗ BI.own (EA c)) :=
  BI.own_op_elim ((uEmb (nD := nD) (sig := sig) (Ix := HIx NR) (Val := Elt F) (Name := ℕ) (U := UU) (Lvl := ℕ)).toEmb.op_of_mem
    (Prod.mk_mem_op (URA.mem_op_one (1 : UH)) (Prod.mk_mem_op (URA.mem_op_one b) (URA.mem_one_op (c, (1 : Counters))))))

theorem bCells_eq (Φ : GSem nD τ sig → sProp (MM F)) : bigSep bCells Φ = bigSep Finset.univ fun x : DCI => Φ (cellOf x) := by
  unfold bCells; exact SparseCore.bigSep_image_of_injOn (fun a _ b _ e => cellOf_injective e) Φ

theorem sems_b : ((K (F := F)).freeOn (· ∈ bCells) : sProp (MM F)) ⊢ bigSep bCells fun g => semVal g 0 := by
  rw [bCells_eq]
  unfold SparseCore.Cfg.freeOn
  refine sep_elim_right.trans (bigSep_mono fun dci _ => ?_)
  exact bigSep_elim (Φ := fun sm : SemLoc sig => (semVal (V dci.1 dci.2.1 dci.2.2, sm) 0 : sProp (MM F))) (Finset.mem_filter.mpr
      ⟨Finset.mem_erase.mpr ⟨fun h => sc_bar0_ne_go (SemLoc.reg.inj h), Finset.mem_filter.mpr ⟨Finset.mem_univ _, by decide⟩⟩,
        Finset.mem_image_of_mem cellOf (Finset.mem_univ dci)⟩)

theorem invs_b : iprop((bigSep bCells fun g => (semVal g 0 : sProp (MM F))) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hinv⟩
  imodintro; iexists κ; iexact Hinv

theorem toks_eq : (bigSep bToks fun x => (dutyTok EB x.1 x.2.1 x.2.2 : sProp (MM F)))
    = bigSep Finset.univ fun x : DCI => bigSep (Finset.Ico 0 NR) fun s => bigSep Finset.univ fun j : Fin 16 => dutyTok EB (bcell x.1 x.2.1 j) 0 (duty s x.2.2) := by
  unfold bToks
  rw [SparseCore.bigSep_image_of_injOn (fun a _ b _ e => bTok_injective e), SparseCore.bigSep_product]
  refine bigSep_congr fun x _ => ?_
  rw [SparseCore.bigSep_product]
  rfl

theorem debts_dues (d : Dev nD) (c : Fin τ.nSC) : ∑ _ : Fin 16, debt d c 0 = ∑ j : Fin 16, dues d c j 0 := by
  unfold debt dues
  rw [Finset.sum_const, Finset.card_univ, Fintype.card_fin, Finset.sum_comm, Finset.smul_sum]
  refine Finset.sum_congr rfl fun j _ => ?_
  rw [Finset.smul_sum]
  refine Finset.sum_congr rfl fun s _ => ?_
  exact (nsmul_tally _ _ 16)
where
  nsmul_tally (g : GSem nD τ sig) (ι : HIx NR) : ∀ n : ℕ, n • (tallyAt g ι 1 : CellTallies nD τ sig (HIx NR)) = tallyAt g ι n
    | 0 => by rw [zero_smul, tallyAt_zero]
    | n + 1 => by rw [succ_nsmul, nsmul_tally g ι n, tallyAt_add]

variable [FloatOps F]

theorem creds_b : ((P (F := F) A).oxCred : sProp (MM F)) ⊢ bigSep Finset.univ fun x : DCI => cred (dues x.1 x.2.1 x.2.2 0) := by
  unfold SparseCore.Cfg.Pay.oxCred
  rw [SparseCore.Cfg.bigSep_threads (fun thr : Thread nD τ => (cred ((P (F := F) A).oxFrom 0 thr) : sProp (MM F)))]
  refine sep_elim_right.trans (sep_elim_right.trans ?_)
  rw [bigSep_univ_prod, bigSep_univ_prod (fun x : DCI => (cred (dues x.1 x.2.1 x.2.2 0) : sProp (MM F)))]
  refine bigSep_mono fun d _ => ?_
  rw [bigSep_univ_prod, bigSep_univ_prod (fun ci : Fin τ.nSC × Fin 16 => (cred (dues d ci.1 ci.2 0) : sProp (MM F)))]
  refine bigSep_mono fun c _ => ?_
  dsimp only
  have hox : ∀ i, (P (F := F) A).oxFrom 0 (V d c i) = debt d c 0 := fun i => by
    rw [show (0 : ℕ) = (0 : Fin 1).val from rfl, (P A).oxFrom_step, (P A).oxFrom_end _ (n := (0 : Fin 1).val + 1) le_rfl, add_zero]; rfl
  simp only [hox]
  rw [← SparseCore.Cfg.cred_finsum, ← SparseCore.Cfg.cred_finsum]
  rw [debts_dues]
  exact BI.Entails.refl _

omit [FloatOps F] in
/-- A persistent resource beside a big separating conjunction goes to each conjunct. -/
theorem frame_each {I : Type} {R : sProp (MM F)} [BI.Persistent R] [DecidableEq I] (s : Finset I) {Φ Ψ : I → sProp (MM F)}
    (h : ∀ i ∈ s, iprop(R ∗ Φ i) ⊢ Ψ i) : iprop(R ∗ bigSep s Φ) ⊢ bigSep s Ψ := by
  induction s using Finset.induction_on with
  | empty =>
    rw [show bigSep ∅ Ψ = iprop(emp) from bigSep_empty]
    iintro -; iempintro
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

/-- The arrival and departure counters of all, dealt to their tiles. -/
theorem ga_deal (Φ : GA → sProp (MM F)) : bigSep aCells Φ
    = bigSep Finset.univ fun dc : Dev nD × Fin τ.nSC => iprop((bigSep Finset.univ fun i : Fin 16 => Φ (arr dc.1 dc.2 i)) ∗ bigSep Finset.univ fun i : Fin 16 => Φ (pas dc.1 dc.2 i)) := by
  unfold aCells
  rw [bigSep_univ_prod, bigSep_univ_prod (fun dc : Dev nD × Fin τ.nSC => iprop((bigSep Finset.univ fun i : Fin 16 => Φ (arr dc.1 dc.2 i)) ∗ bigSep Finset.univ fun i : Fin 16 => Φ (pas dc.1 dc.2 i)))]
  refine bigSep_congr fun d _ => ?_
  rw [bigSep_univ_prod]
  refine bigSep_congr fun c _ => ?_
  rw [bigSep_univ_prod, ← bigSep_sep']
  refine bigSep_congr fun i _ => ?_
  rw [show (Finset.univ : Finset Bool) = {false, true} from by decide, SparseCore.bigSep_insert' (by decide), bigSep_singleton]

/-! ## What the tiles are dealt -/

omit [FloatOps F] in
theorem init_auth (g : GA) : (initState EA g : sProp (MM F)) ⊢ roundAuth EA g 0 ∅ 0 := by
  unfold initState; iintro ⟨H, -⟩; iexact H

omit [FloatOps F] in
theorem init_auths (f : Fin 16 → GA) :
    (bigSep Finset.univ fun i : Fin 16 => (initState EA (f i) : sProp (MM F))) ⊢ bigSep Finset.univ fun i : Fin 16 => roundAuth EA (f i) 0 ∅ 0 :=
  bigSep_mono fun i _ => by exact init_auth (f i)

theorem bar_bodies (d : Dev nD) (c : Fin τ.nSC) :
    iprop((bigSep Finset.univ fun i : Fin 16 => initState EA (arr d c i)) ∗ bigSep Finset.univ fun i : Fin 16 => initState EA (pas d c i))
      ⊢ barBody (pay (jn A)) d c := by
  iintro ⟨H1, H2⟩
  iapply (barBody_init (pay (jn A)) d c)
  isplitl [H1]
  · iapply (init_auths (arr d c)); iexact H1
  · iapply (init_auths (pas d c)); iexact H2

theorem invs_a : (bigSep aCells fun g => (initState EA g : sProp (MM F)))
    ⊢ |={Set.univ}=> iprop(∃ κ : Dev nD × Fin τ.nSC → ℕ, bigSep Finset.univ fun dc => inv (κ dc) (barBody (pay (jn A)) dc.1 dc.2)) := by
  rw [ga_deal]
  refine (bigSep_mono (Ψ := fun dc : Dev nD × Fin τ.nSC => barBody (pay (jn A)) dc.1 dc.2) fun dc _ => bar_bodies A dc.1 dc.2).trans
    ((inv_alloc_family Finset.univ (fun dc : Dev nD × Fin τ.nSC => barBody (pay (jn A)) dc.1 dc.2) ∅ (E := Set.univ)).trans ?_)
  iintro H
  imod H with ⟨%κ, -, Hinv⟩
  imodintro; iexists κ; iexact Hinv

/-- What every tile is dealt alike. -/
def common : sProp (MM F) :=
  iprop((∃ κ : GSem nD τ sig → ℕ, bigSep Finset.univ fun x : DCI => cellInv EB bRd (κ (cellOf x)) (cellOf x))
    ∗ (∃ κ : Dev nD × Fin τ.nSC → ℕ, bigSep Finset.univ fun dc => inv (κ dc) (barBody (pay (jn A)) dc.1 dc.2))
    ∗ bigSep Finset.univ fun x : DCI => reached EB (cellOf x) 0)
instance common_persistent : BI.Persistent (common A) := by unfold common; infer_instance

omit [FloatOps F] in
theorem bigSep_sub_one {I J : Type} [Fintype I] [DecidableEq I] [Fintype J] (f : J → I) (Φ : I → sProp (MM F)) (j : J) (_ : j ∈ Finset.univ) :
    iprop(bigSep Finset.univ Φ ∗ emp) ⊢ Φ (f j) := by
  iintro ⟨H, -⟩
  iapply (SparseCore.ent (bigSep_elim (Φ := Φ) (Finset.mem_univ (f j)))); iexact H

omit [FloatOps F] in
theorem bigSep_sub {I J : Type} [Fintype I] [DecidableEq I] [Fintype J] [DecidableEq J] (f : J → I) (Φ : I → sProp (MM F)) [∀ i, BI.Persistent (Φ i)] :
    bigSep Finset.univ Φ ⊢ bigSep Finset.univ fun j => Φ (f j) := by
  iintro #H
  iapply (frame_each (R := bigSep Finset.univ Φ) (Φ := fun _ => iprop(emp)) (Ψ := fun j => Φ (f j)) Finset.univ (bigSep_sub_one f Φ))
  isplitl; · iexact H
  rw [emp_all]; iempintro

theorem common_ctxB (d : Dev nD) (c : Fin τ.nSC) : common A ⊢ ctxB (pay (jn A)) d c := by
  unfold common ctxB
  iintro ⟨⟨%κ, #H1⟩, ⟨%κ', #H2⟩, #H3⟩
  isplitr
  · iexists fun j => κ (bcell d c j)
    iapply (bigSep_sub (fun j : Fin 16 => ((d, c, j) : DCI)) (fun x : DCI => cellInv EB bRd (κ (cellOf x)) (cellOf x))); iexact H1
  isplitr
  · iexists κ' (d, c)
    iapply (SparseCore.ent (bigSep_elim (Φ := fun dc : Dev nD × Fin τ.nSC => inv (κ' dc) (barBody (pay (jn A)) dc.1 dc.2)) (Finset.mem_univ (d, c)))); iexact H2
  iapply (bigSep_sub (fun j : Fin 16 => ((d, c, j) : DCI)) (fun x : DCI => (reached EB (cellOf x) 0 : sProp (MM F)))); iexact H3

/-- What each is dealt of its own. -/
def own (x : DCI) : sProp (MM F) :=
  iprop((bigSep (Finset.Ico 0 NR) fun s => bigSep Finset.univ fun j : Fin 16 => dutyTok EB (bcell x.1 x.2.1 j) 0 (duty s x.2.2))
    ∗ cred (dues x.1 x.2.1 x.2.2 0) ∗ atPos EB (cellOf x) 0 ∅ 0 ∗ atPos EA (arr x.1 x.2.1 x.2.2) 0 ∅ 0 ∗ atPos EA (pas x.1 x.2.1 x.2.2) 0 ∅ 0)

omit [FloatOps F] in
theorem own_deal :
    iprop((bigSep Finset.univ fun x : DCI => bigSep (Finset.Ico 0 NR) fun s => bigSep Finset.univ fun j : Fin 16 => dutyTok EB (bcell x.1 x.2.1 j) 0 (duty s x.2.2))
      ∗ (bigSep Finset.univ fun x : DCI => cred (dues x.1 x.2.1 x.2.2 0)) ∗ (bigSep Finset.univ fun x : DCI => atPos EB (cellOf x) 0 ∅ 0)
      ∗ bigSep Finset.univ fun x : DCI => iprop(atPos EA (arr x.1 x.2.1 x.2.2) 0 ∅ 0 ∗ atPos EA (pas x.1 x.2.1 x.2.2) 0 ∅ 0))
    ⊢ (bigSep Finset.univ fun x : DCI => own x : sProp (MM F)) := by
  unfold own
  rw [← bigSep_sep', ← bigSep_sep', ← bigSep_sep']

theorem kit_intro (x : DCI) : iprop(common A ∗ own x) ⊢ kit A x.1 x.2.1 x.2.2 := by
  obtain ⟨d, c, i⟩ := x
  unfold own kit TS
  iintro ⟨#HC, H1, H2, H3, H4, H5⟩
  isplitr; · iapply (common_ctxB A d c); iexact HC
  isplitl [H1]; · iexact H1
  isplitl [H2]; · iexact H2
  isplitl [H3]; · iapply (drained_zero (E := EB) (Rd := bRd) (g := bcell d c i) (R := 0) (N := 16)); iexact H3
  isplitl [H4] <;> iassumption

theorem Px_T (d : Dev nD) : (bigSep Finset.univ fun q : Fin 1 => (P (F := F) A).x q (SparseCore.T d)) = iprop(emp) :=
  bigSep_univ_of_subsingleton (0 : Fin 1)
theorem Px_S (d : Dev nD) (c : Fin τ.nSC) : (bigSep Finset.univ fun q : Fin 1 => (P (F := F) A).x q (S d c)) = iprop(emp) :=
  bigSep_univ_of_subsingleton (0 : Fin 1)
theorem Px_V (d : Dev nD) (c : Fin τ.nSC) (i : Fin τ.nSub) : (bigSep Finset.univ fun q : Fin 1 => (P (F := F) A).x q (V d c i)) = kit A d c i :=
  bigSep_univ_of_subsingleton (0 : Fin 1)

theorem kits_deal : iprop(common A ∗ bigSep Finset.univ fun x : DCI => own x)
    ⊢ (bigSep Finset.univ fun thr : Thread nD τ => bigSep Finset.univ fun q : Fin 1 => (P (F := F) A).x q thr : sProp (MM F)) := by
  rw [SparseCore.Cfg.bigSep_threads (fun thr : Thread nD τ => bigSep Finset.univ fun q : Fin 1 => (P A).x q thr)]
  simp only [Px_T, Px_S, Px_V, emp_all]
  iintro ⟨#HC, H⟩
  isplitr; · iempintro
  isplitr; · iempintro
  iapply (frame_each (R := common A) (Φ := fun x : DCI => own x) (Ψ := fun x : DCI => kit A x.1 x.2.1 x.2.2) Finset.univ fun x _ => kit_intro A x)
  isplitr; · iexact HC
  iexact H

theorem ga_own (Φ : GA → sProp (MM F)) : bigSep aCells Φ = bigSep Finset.univ fun x : DCI => iprop(Φ (arr x.1 x.2.1 x.2.2) ∗ Φ (pas x.1 x.2.1 x.2.2)) := by
  rw [ga_deal, bigSep_univ_prod, bigSep_univ_prod (fun x : DCI => iprop(Φ (arr x.1 x.2.1 x.2.2) ∗ Φ (pas x.1 x.2.1 x.2.2)))]
  refine bigSep_congr fun d _ => ?_
  rw [bigSep_univ_prod]
  exact bigSep_congr fun c _ => (bigSep_sep' _ _ _).symm

theorem hu₀ : iprop(ownU (u₀ (F := F)) ∗ (P (F := F) A).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P A).x q thr) : sProp (MM F)) := by
  unfold u₀
  iintro ⟨Hu, Hcred, Hfree⟩
  ihave H := (ownU_split₁ _ _) $$ Hu
  icases H with ⟨HH, Hu⟩
  ihave H := (ownU_split₂ _ _) $$ Hu
  icases H with ⟨HB, HA⟩
  imod (Rounds.fund EB (bRd (F := F)) bCells bToks) $$ HB with ⟨Hst, Hr, Hat, Htok⟩
  imod (Rounds.fund_init EA aCells ∅) $$ HA with ⟨Hast, -, Haat, -⟩
  ihave Hsems := (sems_b (F := F)) $$ Hfree
  imod (invs_b (F := F)) $$ [Hsems Hst] with ⟨%κ, Hinv⟩
  · isplitl [Hsems] <;> iassumption
  imod (invs_a A) $$ Hast with Hinva
  ihave Hcred' := (creds_b A) $$ Hcred
  ihave Hinv' := (Entails.of_eq (bCells_eq (F := F) fun g => cellInv EB (bRd (F := F)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  ihave Haat' := (Entails.of_eq (ga_own (F := F) fun g => atPos EA g 0 ∅ 0)) $$ Haat
  imodintro
  isplitl [HH]; · iexact HH
  isplitr; · rw [emp_all]; iempintro
  iapply (kits_deal A)
  isplitl [Hinv' Hinva Hr']
  · unfold common
    isplitl [Hinv']; · iexists κ; iexact Hinv'
    isplitl [Hinva] <;> iassumption
  iapply own_deal
  isplitl [Htok']; · iexact Htok'
  isplitl [Hcred']; · iexact Hcred'
  isplitl [Hat'] <;> iassumption

end Cert.Proof.Nms

end

end
-- ==== Proof.Main.lean ====
/-
The program: the operations around the call, the whole run and what it leaves.
-/
module

public import proofs.«01_k».proof.Proof.Bar
public import proofs.«01_k».proof.Proof.Model
public import proofs.«01_k».proof.Proof.Launch
public import Idealize.ShloMosaic.Lib.Pipeline.Frame

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (seq seqK after)

variable {F : FTy → Type} [FloatOps F]
variable (m : (ℓ : Loc nD τ sig) → Buf (Elt F) ℓ) (ρ : Dev nD → PrngReg)

/-! ## The host operations -/

/-- The operations before the call: four columns padded, the keys padded, their words as floats. -/
def opsPre : List (HloOp τ sig (Elt F)) :=
  [StableHlo.unary main_arg0 main_v0 ((extractStridedSlice S20000x1 ![0, 0] · slices_S20000x4_S20000x1_0_0) : (⟨S20000x4, .f32⟩ : BufTy).Contents (Elt F) → (⟨S20000x1, .f32⟩ : BufTy).Contents (Elt F)),
   StableHlo.reshape main_v0 main_v1 (rfl : (.f32 : EltTy) = .f32) shapeCasts_S20000x1_S20000,
   StableHlo.nullary main_c (constantI S_ 32 0#32),
   StableHlo.TRef.unary (StableHlo.TRef.of main_c : StableHlo.TRef sig ⟨S_, .i32⟩) main_call0.v0 (sitofp .f32),
   StableHlo.TRef.binary (StableHlo.TRef.of main_v1 : StableHlo.TRef sig ⟨S20000, .f32⟩) main_call0.v0 main_call0.v1 (fun x v => pad S20224 ![0] ![224] ![0] x v pads_S20000_S20224_02240 h_S_),
   StableHlo.unary main_arg0 main_v3 ((extractStridedSlice S20000x1 ![0, 1] · slices_S20000x4_S20000x1_0_1) : (⟨S20000x4, .f32⟩ : BufTy).Contents (Elt F) → (⟨S20000x1, .f32⟩ : BufTy).Contents (Elt F)),
   StableHlo.reshape main_v3 main_v4 (rfl : (.f32 : EltTy) = .f32) shapeCasts_S20000x1_S20000,
   StableHlo.nullary main_c_0 (constantI S_ 32 0#32),
   StableHlo.TRef.unary (StableHlo.TRef.of main_c_0 : StableHlo.TRef sig ⟨S_, .i32⟩) main_call1.v0 (sitofp .f32),
   StableHlo.TRef.binary (StableHlo.TRef.of main_v4 : StableHlo.TRef sig ⟨S20000, .f32⟩) main_call1.v0 main_call1.v1 (fun x v => pad S20224 ![0] ![224] ![0] x v pads_S20000_S20224_02240 h_S_),
   StableHlo.unary main_arg0 main_v6 ((extractStridedSlice S20000x1 ![0, 2] · slices_S20000x4_S20000x1_0_2) : (⟨S20000x4, .f32⟩ : BufTy).Contents (Elt F) → (⟨S20000x1, .f32⟩ : BufTy).Contents (Elt F)),
   StableHlo.reshape main_v6 main_v7 (rfl : (.f32 : EltTy) = .f32) shapeCasts_S20000x1_S20000,
   StableHlo.nullary main_c_1 (constantI S_ 32 0#32),
   StableHlo.TRef.unary (StableHlo.TRef.of main_c_1 : StableHlo.TRef sig ⟨S_, .i32⟩) main_call2.v0 (sitofp .f32),
   StableHlo.TRef.binary (StableHlo.TRef.of main_v7 : StableHlo.TRef sig ⟨S20000, .f32⟩) main_call2.v0 main_call2.v1 (fun x v => pad S20224 ![0] ![224] ![0] x v pads_S20000_S20224_02240 h_S_),
   StableHlo.unary main_arg0 main_v9 ((extractStridedSlice S20000x1 ![0, 3] · slices_S20000x4_S20000x1_0_3) : (⟨S20000x4, .f32⟩ : BufTy).Contents (Elt F) → (⟨S20000x1, .f32⟩ : BufTy).Contents (Elt F)),
   StableHlo.reshape main_v9 main_v10 (rfl : (.f32 : EltTy) = .f32) shapeCasts_S20000x1_S20000,
   StableHlo.nullary main_c_2 (constantI S_ 32 0#32),
   StableHlo.TRef.unary (StableHlo.TRef.of main_c_2 : StableHlo.TRef sig ⟨S_, .i32⟩) main_call3.v0 (sitofp .f32),
   StableHlo.TRef.binary (StableHlo.TRef.of main_v10 : StableHlo.TRef sig ⟨S20000, .f32⟩) main_call3.v0 main_call3.v1 (fun x v => pad S20224 ![0] ![224] ![0] x v pads_S20000_S20224_02240 h_S_),
   StableHlo.nullary main_c_3 (constantI S_ 32 4294967295#32),
   StableHlo.TRef.unary (StableHlo.TRef.of main_c_3 : StableHlo.TRef sig ⟨S_, .i32⟩) main_call4.v0 id,
   StableHlo.TRef.binary (StableHlo.TRef.of main_arg1 : StableHlo.TRef sig ⟨S20000, .i32⟩) main_call4.v0 main_call4.v1 (fun x v => pad S20224 ![0] ![224] ![0] x v pads_S20000_S20224_02240 h_S_),
   StableHlo.unary main_v12 main_v13 (bitcastToFloat .f32 : (⟨S20224, .i32⟩ : BufTy).Contents (Elt F) → (⟨S20224, .f32⟩ : BufTy).Contents (Elt F))]

abbrev opR : HloOp τ sig (Elt F) := StableHlo.reshape main_v14 main_v15 (rfl : (.f32 : EltTy) = .f32) shapeCasts_S500_S100x5

set_option maxHeartbeats 1000000 in
theorem main_eq (d : Dev nD) : main (F := F) d = seq opsPre >>= fun _ => (sc (F := F)).run d 0 >>= fun _ => (hlo rfl (opR (F := F)) (fun _ => .ret (⟨⟩ : PUnit))) >>= fun _ => pure ⟨⟩ := by
  rw [StableHlo.seq_bind_seqK]
  unfold main fn_pad.body fn_pad_0.body opsPre
  simp only [seqK, bind_assoc, pure_bind]

abbrev uc : Finset (DevRef τ sig) := Pipeline.ucRefs τ sig

set_option maxHeartbeats 1000000 in
theorem opsPre_sub : ∀ op ∈ (opsPre : List (HloOp τ sig (Elt F))), op.bufs ⊆ uc := by
  have h : (opsPre : List (HloOp τ sig (Elt F))).Forall fun op => op.bufs ⊆ StableHlo.tcRefs τ sig := by
    unfold opsPre
    simp only [List.forall_cons]
    exact ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., trivial⟩
  exact fun op hop => Pipeline.sub_ucRefs op (List.forall_iff_forall_mem.mp h op hop)

theorem opsPre_fresh : ∀ op ∈ (opsPre : List (HloOp τ sig (Elt F))), op.fresh = ∅ := by
  exact List.forall_iff_forall_mem.mp (StableHlo.forall_fresh_of_map rfl)

/-- The contents at the launch, and before the call. -/
def V0 (d : Dev nD) : Valuation τ sig (Elt F) := fun b => m (d, b)
def V1 (d : Dev nD) : Valuation τ sig (Elt F) := after opsPre (V0 m d)

abbrev dr (b : Ref sig .tc) : DevRef τ sig := Proc.devRef .tc b

/-- What the call's tiles are given. -/
def args (d : Dev nD) : Arrs F := ⟨V1 m d (dr main_v2), V1 m d (dr main_v5), V1 m d (dr main_v8), V1 m d (dr main_v11), V1 m d (dr main_v12), V1 m d (dr main_v13)⟩

/-- After the call; at the end. -/
def V2 (d : Dev nD) : Valuation τ sig (Elt F) := Function.update (V1 m d) (dr main_v14) (out (jn (args m) d))
def V3 (d : Dev nD) : Valuation τ sig (Elt F) := (opR (F := F)).result (V2 m d)

abbrev S7 : Finset (DevRef τ sig) := {dr main_v2, dr main_v5, dr main_v8, dr main_v11, dr main_v12, dr main_v13, dr main_v14}
abbrev S3 : Finset (DevRef τ sig) := {dr main_arg0, dr main_arg1, dr main_v15}

theorem mem_uc (b : Ref sig .tc) (h : (dr b).isScoped = false) : dr b ∈ uc :=
  Finset.mem_filter.mpr ⟨StableHlo.devRef_mem_tcRefs b, by rw [h]; exact Bool.false_ne_true⟩

theorem S7_sub : S7 ⊆ uc := by
  intro b hb
  simp only [S7, Finset.mem_insert, Finset.mem_singleton] at hb
  rcases hb with rfl | rfl | rfl | rfl | rfl | rfl | rfl <;> exact mem_uc _ rfl
theorem S3_sub : S3 ⊆ uc := by
  intro b hb
  simp only [S3, Finset.mem_insert, Finset.mem_singleton] at hb
  rcases hb with rfl | rfl | rfl <;> exact mem_uc _ rfl

omit [FloatOps F] in
theorem sep_right (P Q R : sProp (MM F)) : iprop((P ∗ Q) ∗ R) = iprop(P ∗ Q ∗ R) := Idealize.SL.BI.Entails.antisymm Idealize.SL.BI.sep_assoc Idealize.SL.BI.sep_assoc'

omit [FloatOps F] in
theorem held_S7 (d : Dev nD) (W : Valuation τ sig (Elt F)) :
    (StableHlo.held (T d) S7 W : sProp (MM F))
      = iprop((aL d ↦{fullShare} W (dr main_v2)) ∗ (bL d ↦{fullShare} W (dr main_v5)) ∗ (cL d ↦{fullShare} W (dr main_v8)) ∗ (eL d ↦{fullShare} W (dr main_v11))
          ∗ (kL d ↦{fullShare} W (dr main_v12)) ∗ (sL d ↦{fullShare} W (dr main_v13)) ∗ oL d ↦{fullShare} W (dr main_v14)) := by
  unfold StableHlo.held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_part (d : Dev nD) {T' : Finset (DevRef τ sig)} (h : T' ⊆ uc) (W : Valuation τ sig (Elt F)) :
    (StableHlo.held (T d) uc W : sProp (MM F)) = iprop(StableHlo.held (T d) T' W ∗ StableHlo.held (T d) (uc \ T') W) := bigSep_part h _

theorem held_V1 (d : Dev nD) : (StableHlo.held (T d) uc (V1 m d) : sProp (MM F))
    = iprop((arrs (args m) d fullShare ∗ oL d ↦{fullShare} V1 m d (dr main_v14)) ∗ StableHlo.held (T d) (uc \ S7) (V1 m d)) := by
  rw [held_part d S7_sub, held_S7]
  unfold arrs
  simp only [sep_right]
  rfl

theorem V2_of_ne (d : Dev nD) {b : DevRef τ sig} (h : b ≠ dr main_v14) : V2 m d b = V1 m d b := Function.update_of_ne h _ _

theorem held_V2 (d : Dev nD) : (StableHlo.held (T d) uc (V2 m d) : sProp (MM F))
    = iprop((arrs (args m) d fullShare ∗ oL d ↦{fullShare} out (jn (args m) d)) ∗ StableHlo.held (T d) (uc \ S7) (V1 m d)) := by
  rw [held_part d S7_sub, held_S7, V2_of_ne m d (by decide), V2_of_ne m d (by decide), V2_of_ne m d (by decide), V2_of_ne m d (by decide), V2_of_ne m d (by decide),
    V2_of_ne m d (by decide), show V2 m d (dr main_v14) = out (jn (args m) d) from Function.update_self _ _ _,
    show (StableHlo.held (T d) (uc \ S7) (V2 m d) : sProp (MM F)) = StableHlo.held (T d) (uc \ S7) (V1 m d) from
      bigSep_congr fun b hb => by
        rw [V2_of_ne m d (fun h => (Finset.mem_sdiff.mp hb).2 (by rw [h]; decide))]]
  unfold arrs
  simp only [sep_right]
  rfl

/-! ## The call's hands -/

omit [FloatOps F] in
/-- What only the first of the two SparseCores holds. -/
theorem only_cores (R : sProp (MM F)) : R = bigSep Finset.univ fun c : Fin 2 => only (c.val = 0) R := by
  rw [SparseCore.bigSep_erase' (Finset.mem_univ (0 : Fin 2)),
    show (bigSep (Finset.univ.erase (0 : Fin 2)) fun c : Fin 2 => only (c.val = 0) R) = bigSep (Finset.univ.erase (0 : Fin 2)) fun _ => (iprop(emp) : sProp (MM F)) from
      bigSep_congr fun c hc => if_neg fun h => (Finset.mem_erase.mp hc).1 (Fin.ext h), emp_all]
  exact (sep_emp_eq _).symm

theorem st0_eq (A : Dev nD → Arrs F) (d : Dev nD) : (bigSep Finset.univ fun c : Fin ((K (F := F)).nCore 0) => (P A).st 0 d c)
    = iprop(arrs A d fullShare ∗ ∃ f, oL d ↦{fullShare} f) := by
  show (bigSep Finset.univ fun c : Fin 2 => iprop(arrs A d (coreQ c) ∗ only (c.val = 0) iprop(∃ f, oL d ↦{fullShare} f))) = _
  rw [bigSep_sep', ← only_cores, arrs_deal A d fullShare (n := 2) ⟨0, Finset.mem_univ _⟩]
  rfl
theorem dn0_eq (A : Dev nD → Arrs F) (d : Dev nD) : (bigSep Finset.univ fun c : Fin ((K (F := F)).nCore 0) => (P A).dn 0 d c)
    = iprop((arrs A d fullShare ∗ oL d ↦{fullShare} out (jn A d)) ∗ bigSep Finset.univ fun c : Fin ((K (F := F)).nCore 0) => bars d (coreOf c)) := by
  show (bigSep Finset.univ fun c : Fin ((K (F := F)).nCore 0) => iprop((arrs A d (coreQ (c2 c)) ∗ only ((c2 c).val = 0) (oL d ↦{fullShare} out (jn A d))) ∗ bars d (coreOf c))) = _
  rw [bigSep_sep', bigSep_sep', arrs_deal A d fullShare (n := 2) ⟨0, Finset.mem_univ _⟩]
  refine congrArg (fun X : sProp (MM F) => iprop(X ∗ bigSep Finset.univ fun c : Fin ((K (F := F)).nCore 0) => bars d (coreOf c))) ?_
  refine congrArg (fun X : sProp (MM F) => iprop((bigSep Finset.univ fun j : Fin 2 => arrs A d (Transfers.dealOf fullShare Finset.univ j)) ∗ X)) ?_
  exact (only_cores _).symm

/-! ## The TensorCore's part -/

abbrev FIN (d : Dev nD) : sProp (MM F) := iprop(StableHlo.held (T d) S3 (V3 m d) ∗ bigSep Finset.univ fun c : Fin ((K (F := F)).nCore 0) => bars d (coreOf c))

theorem opR_sub : (opR (F := F)).bufs ⊆ uc := Pipeline.sub_ucRefs _ (StableHlo.reshape_bufs_sub ..)

set_option maxHeartbeats 1000000 in
theorem hmain (κ : GSem nD τ sig → ℕ) (d : Dev nD) :
    iprop((K (F := F)).ctx EH (P (args m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (MM F)) = StableHlo.held (T d) uc (V0 m d) from Pipeline.unscopedBufs_held d (V0 m d), main_eq]
  iintro ⟨#Hctx, Hst, ⟨Hb, Hheld, Hts, -⟩, -⟩
  iapply (StableHlo.wp_seq 𝒱 none Set.univ d uc _ opsPre opsPre_sub opsPre_fresh (V0 m d)) $$ [Hb Hheld]
  · isplitl [Hb] <;> iassumption
  iintro ⟨Hb, Hheld⟩
  ihave Hheld := (show (StableHlo.held (d.tc : Thread nD τ) uc (after opsPre (V0 m d)) : sProp (MM F)) ⊢ iprop((arrs (args m) d fullShare ∗ oL d ↦{fullShare} V1 m d (dr main_v14)) ∗ StableHlo.held (T d) (uc \ S7) (V1 m d)) from
    BI.BIBase.Entails.of_eq (held_V1 m d)) $$ Hheld
  icases Hheld with ⟨⟨HA, Ho⟩, HR⟩
  rw [wp_bind]
  iapply ((K (F := F)).wp_run (D (F := F)) 𝒱 (EH := EH) (P := P (args m)) κ d 0) $$ [Hst HA Ho Hb HR Hts]
  isplitr; · iexact Hctx
  isplitl [Hst]; · iexact Hst
  isplitl [HA Ho]
  · rw [st0_eq]
    isplitl [HA]; · iexact HA
    iexists _; iexact Ho
  iintro ⟨Hst, Hdn⟩
  ihave Hdn := (SparseCore.ent (BI.BIBase.Entails.of_eq (dn0_eq (args m) d))) $$ Hdn
  icases Hdn with ⟨HAo, Hbars⟩
  rw [wp_bind]
  iapply (StableHlo.wp_hlo_within 𝒱 (SparseCore.T d) none Set.univ (op := opR) (S := uc) opR_sub (V := V2 m d)) $$ [Hb HAo HR]
  · isplitl [Hb]; · iexact Hb
    rw [held_V2]
    isplitl [HAo] <;> iassumption
  iintro ⟨Hb, Hheld⟩
  ihave Hheld := (show (StableHlo.held (T d) uc ((opR (F := F)).result (V2 m d)) : sProp (MM F)) ⊢ iprop(StableHlo.held (T d) S3 (V3 m d) ∗ StableHlo.held (T d) (uc \ S3) (V3 m d)) from
    BI.BIBase.Entails.of_eq (held_part d S3_sub (V3 m d))) $$ Hheld
  icases Hheld with ⟨H3, -⟩
  rw [wp_ret]; imodintro
  rw [wp_pure]; imodintro
  isplitl [Hst]; · iexact Hst
  isplitr [Hb Hts]
  · isplitl [H3] <;> iassumption
  isplitl [Hb] <;> iassumption

/-! ## The run -/

theorem not_mem_singleton_ref {a b : DevRef τ sig} (h : a ≠ b) : a ∉ ({b} : Finset (DevRef τ sig)) := fun h' => h (Finset.mem_singleton.mp h')

theorem V3_arg0 (d : Dev nD) : V3 m d (dr main_arg0) = m ((SparseCore.T d).loc main_arg0) := by
  unfold V3
  rw [StableHlo.reshape_result_ne _ _ _ _ _ _ _ (by decide), V2_of_ne m d (by decide)]
  unfold V1
  rw [StableHlo.after_of_forall_not_mem]
  · rfl
  · refine List.forall_iff_forall_mem.mp ?_
    unfold opsPre
    simp only [List.forall_cons]
    refine ⟨?_, ?_, ?_, ?_, ?_, ?_, ?_, ?_, ?_, ?_, ?_, ?_, ?_, ?_, ?_, ?_, ?_, ?_, ?_, ?_, ?_, ?_, ?_, ?_, trivial⟩ <;> exact not_mem_singleton_ref (by decide)
theorem V3_arg1 (d : Dev nD) : V3 m d (dr main_arg1) = m ((SparseCore.T d).loc main_arg1) := by
  unfold V3
  rw [StableHlo.reshape_result_ne _ _ _ _ _ _ _ (by decide), V2_of_ne m d (by decide)]
  unfold V1
  rw [StableHlo.after_of_forall_not_mem]
  · rfl
  · refine List.forall_iff_forall_mem.mp ?_
    unfold opsPre
    simp only [List.forall_cons]
    refine ⟨?_, ?_, ?_, ?_, ?_, ?_, ?_, ?_, ?_, ?_, ?_, ?_, ?_, ?_, ?_, ?_, ?_, ?_, ?_, ?_, ?_, ?_, ?_, ?_, trivial⟩ <;> exact not_mem_singleton_ref (by decide)
theorem V3_v15 (d : Dev nD) : V3 m d (dr main_v15) = (shapeCast S100x5 (out (jn (args m) d) : Vec F S500 .f32) shapeCasts_S500_S100x5 : Vec F S100x5 .f32) := by
  unfold V3
  rw [StableHlo.reshape_result, show V2 m d (dr main_v14) = out (jn (args m) d) from Function.update_self _ _ _]
  rfl

def fq (d : Dev nD) (s' : Phys nD τ sig (Elt F)) : Prop :=
  (s'.mem.mem ((SparseCore.T d).loc main_v15) = V3 m d (dr main_v15) ∧ s'.mem.mem ((SparseCore.T d).loc main_arg0) = V3 m d (dr main_arg0)
    ∧ s'.mem.mem ((SparseCore.T d).loc main_arg1) = V3 m d (dr main_arg1))
  ∧ ∀ (c : Fin ((K (F := F)).nCore 0)) (i : Fin 16), s'.mem.sem (bcell d (coreOf c) i) = 0

theorem hfin_b (d : Dev nD) (b : Ref sig .tc) (hb : dr b ∈ S3) (s' : Phys nD τ sig (Elt F)) :
    iprop(StableHlo.held (T d) S3 (V3 m d) ∗ SI s') ⊢ (⌜s'.mem.mem ((SparseCore.T d).loc b) = V3 m d (dr b)⌝ : sProp (MM F)) := by
  unfold StableHlo.held
  iintro ⟨H, HSI⟩
  ihave H := (SparseCore.ent (bigSep_elim (Φ := fun r : DevRef τ sig => (((d, r) : Loc nD τ sig) ↦{fullShare} V3 m d r : sProp (MM F))) hb)) $$ H
  ihave H := (SI_pointsTo_agree (st := s') (ℓ := ((d, dr b) : Loc nD τ sig)) (I := Finset.univ) (q := fullShare) (f := V3 m d (dr b))) $$ [HSI H]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp (MM F)) :=
  fun x hx => ⟨⟨((sep_mono_left sep_elim_left).trans (hfin_b m d main_v15 (by decide) s')) x hx,
      ((sep_mono_left sep_elim_left).trans (hfin_b m d main_arg0 (by decide) s')) x hx,
      ((sep_mono_left sep_elim_left).trans (hfin_b m d main_arg1 (by decide) s')) x hx⟩, fun c i =>
    ((sep_mono_left (sep_elim_right.trans (SparseCore.ent ((bigSep_elim (Finset.mem_univ c)).trans (bigSep_elim (Finset.mem_univ i)))))).trans (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  obtain ⟨c', rfl⟩ : ∃ c' : Fin ((K (F := F)).nCore 0), coreOf c' = c := ⟨Fin.cast nCore_zero.symm (Fin.cast (show τ.nSC = 2 from rfl) c), Fin.ext rfl⟩
  exact (h d).2 c' i

def QC : PUnit × MemSt nD τ sig (Elt F) → Prop := fun r =>
  (∀ c : Dev nD, r.2.mem ((SparseCore.T c).loc main_v15) = (shapeCast S100x5 (out (jn (args m) c) : Vec F S500 .f32) shapeCasts_S500_S100x5 : Vec F S100x5 .f32)
      ∧ r.2.mem ((SparseCore.T c).loc main_arg0) = m ((SparseCore.T c).loc main_arg0) ∧ r.2.mem ((SparseCore.T c).loc main_arg1) = m ((SparseCore.T c).loc main_arg1))
    ∧ r.2.sem = fun _ => 0

/-- The program's run: the result, the arguments, the semaphores. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (args m)) (hA := hA m) facts v₀
    (fun q hq => match q with | 0 => nomatch hq)
    (fun q _ => match q with | 0 => tileObl (args m) facts)
    (fun q _ => match q with | 0 => vecSplit (args m))
    m ρ main (fun _ => iprop(emp)) (FIN m) (u₀ (F := F)) (hu₀ (args m)) (hmain m ρ) (fq m) (hfin m) (QC m)
    (fun _ h hz => ⟨fun c => ⟨(h c).1.1.trans (V3_v15 m c), (h c).1.2.1.trans (V3_arg0 m c), (h c).1.2.2.trans (V3_arg1 m c)⟩, hz⟩)

end Cert.Proof.Nms

end

end
-- ==== Proof.Rank.lean ====
/-
  The order of the candidates: by falling key, and by place among equal keys. Who is among the first so many, by a threshold and by a
  sorted list, and the two ways of running greedy suppression over them.
-/
module

public import proofs.«01_k».proof.Proof.Model
public import Mathlib.Data.Nat.Count
public import Mathlib.Data.Finset.Card
public import Mathlib.Order.Interval.Finset.Nat
public import Mathlib.Tactic.Ring

@[expose] public section

noncomputable section

namespace Cert.Proof.Nms

open Finset

variable (key : ℕ → ℤ)

/-- `p` comes before `q`. -/
def Prec (p q : ℕ) : Prop := key q < key p ∨ (key p = key q ∧ p < q)

instance (p q : ℕ) : Decidable (Prec key p q) := by unfold Prec; infer_instance

/-- How many of the first `n` places come before `p`. -/
def rank (n p : ℕ) : ℕ := Nat.count (fun q => Prec key q p) n

/-- Among the first `k`, by the threshold: above it, or at it and early enough. -/
theorem sel_iff (n k : ℕ) (t : ℤ) (hge : k ≤ Nat.count (fun q => t ≤ key q) n) (hlt : Nat.count (fun q => t < key q) n < k) (p : ℕ) (hp : p < n) :
    (t < key p ∨ key p = t ∧ Nat.count (fun q => key q = t) p + Nat.count (fun q => t < key q) n < k) ↔ rank key n p < k := by
  unfold rank
  simp only [Nat.count_eq_card_filter_range] at *
  rcases lt_trichotomy (key p) t with h | h | h
  · have : k ≤ #{q ∈ range n | Prec key q p} := hge.trans (card_le_card fun q hq => by
      simp only [mem_filter, mem_range] at hq ⊢
      exact ⟨hq.1, .inl (by omega)⟩)
    constructor
    · rintro (h' | ⟨h', -⟩) <;> omega
    · omega
  · have : #{q ∈ range n | Prec key q p} = #{q ∈ range p | key q = t} + #{q ∈ range n | t < key q} := by
      rw [← card_union_of_disjoint]
      · congr 1
        ext q
        simp only [mem_filter, mem_range, mem_union]
        unfold Prec
        constructor
        · rintro ⟨h1, h2 | ⟨h2, h3⟩⟩
          · exact .inr ⟨h1, by omega⟩
          · exact .inl ⟨h3, by omega⟩
        · rintro (⟨h1, h2⟩ | ⟨h1, h2⟩)
          · exact ⟨by omega, .inr ⟨by omega, h1⟩⟩
          · exact ⟨h1, .inl (by omega)⟩
      · rw [disjoint_left]
        intro q hq hq'
        simp only [mem_filter, mem_range] at hq hq'
        omega
    rw [this]
    constructor
    · rintro (h' | ⟨-, h'⟩)
      · omega
      · exact h'
    · intro h'
      exact .inr ⟨h, h'⟩
  · have : #{q ∈ range n | Prec key q p} ≤ #{q ∈ range n | t < key q} := card_le_card fun q hq => by
      simp only [mem_filter, mem_range] at hq ⊢
      unfold Prec at hq
      exact ⟨hq.1, by rcases hq.2 with h' | h' <;> omega⟩
    constructor
    · intro _; omega
    · intro _; exact .inl h

theorem prec_irrefl (p : ℕ) : ¬ Prec key p p := by unfold Prec; omega
theorem prec_asymm {p q : ℕ} (h : Prec key p q) : ¬ Prec key q p := by unfold Prec at *; omega
theorem prec_trans {p q r : ℕ} (h : Prec key p q) (h' : Prec key q r) : Prec key p r := by unfold Prec at *; omega

/-- Among the first `k`, by a sorted list of the first `n` places; the places after them all have smaller keys. -/
theorem rank_lt_iff (n N k : ℕ) (hkn : k ≤ n) (hnN : n ≤ N) (ρ : ℕ → ℕ) (hs : ∀ i j, i < j → j < n → Prec key (ρ i) (ρ j)) (hn : ∀ j, j < n → ρ j < n)
    (ho : ∀ p, p < n → ∃ j, j < n ∧ ρ j = p) (hpad : ∀ p q, p < n → n ≤ q → q < N → key q < key p) (p : ℕ) (hp : p < N) :
    rank key N p < k ↔ ∃ j, j < k ∧ p = ρ j := by
  unfold rank
  rw [Nat.count_eq_card_filter_range]
  have inj : ∀ i j, i < n → j < n → ρ i = ρ j → i = j := fun i j hi hj e => by
    rcases lt_trichotomy i j with h | h | h
    · exact absurd (e ▸ hs i j h hj) (prec_irrefl key _)
    · exact h
    · exact absurd (e ▸ hs j i h hi) (prec_irrefl key _)
  by_cases hpn : p < n
  · obtain ⟨j, hj, rfl⟩ := ho p hpn
    have : {q ∈ range N | Prec key q (ρ j)} = (range j).image ρ := by
      ext q
      simp only [mem_filter, mem_range, mem_image]
      constructor
      · rintro ⟨h1, h2⟩
        have hq : q < n := by
          by_contra hq
          have := hpad (ρ j) q hpn (by omega) h1
          unfold Prec at h2; omega
        obtain ⟨i, hi, rfl⟩ := ho q hq
        refine ⟨i, ?_, rfl⟩
        rcases lt_trichotomy i j with h | h | h
        · exact h
        · exact absurd (h ▸ h2) (prec_irrefl key _)
        · exact absurd h2 (prec_asymm key (hs j i h hi))
      · rintro ⟨i, hi, rfl⟩
        exact ⟨(hn i (hi.trans hj)).trans_le hnN, hs i j hi hj⟩
    rw [this, card_image_of_injOn (fun a ha b hb e => inj a b ((mem_range.mp ha).trans hj) ((mem_range.mp hb).trans hj) e), card_range]
    constructor
    · exact fun h => ⟨j, h, rfl⟩
    · rintro ⟨i, hi, e⟩
      rw [inj j i hj (hi.trans_le hkn) e]; exact hi
  · have : n ≤ #{q ∈ range N | Prec key q p} := by
      calc n = #(range n) := (card_range n).symm
        _ ≤ _ := card_le_card fun q hq => by
          simp only [mem_filter, mem_range] at hq ⊢
          exact ⟨by omega, .inl (hpad q p hq (by omega) hp)⟩
    constructor
    · intro h; omega
    · rintro ⟨i, hi, rfl⟩
      exact absurd (hn i (hi.trans_le hkn)) hpn

/-- Suppression over the places and over the sorted list keep the same ones, and pick the same one in each round. -/
theorem rounds_match (N k : ℕ) (hk : 0 < k) (ρ : ℕ → ℕ) (ov : ℕ → ℕ → Prop) (A B : ℕ → ℕ → Prop) (g f : ℕ → ℕ)
    (hs : ∀ i j, i < j → j < k → Prec key (ρ i) (ρ j)) (hN : ∀ j, j < k → ρ j < N)
    (hA0 : ∀ p, p < N → (A 0 p ↔ ∃ j, j < k ∧ p = ρ j)) (hAs : ∀ t p, p < N → (A (t + 1) p ↔ A t p ∧ ¬ ov (g t) p))
    (hg : ∀ t, (∃ p, p < N ∧ A t p) → g t < N ∧ A t (g t) ∧ ∀ p, p < N → A t p → ¬ Prec key p (g t))
    (hB0 : ∀ j, j < k → B 0 j) (hBs : ∀ t j, j < k → (B (t + 1) j ↔ B t j ∧ ¬ (ov (ρ (f t)) (ρ j) ∨ j = f t)))
    (hf : ∀ t, (∃ j, j < k ∧ B t j) → f t < k ∧ B t (f t) ∧ ∀ j, j < k → B t j → f t ≤ j) (hf0 : ∀ t, ¬ (∃ j, j < k ∧ B t j) → f t = 0)
    (hself : ∀ j, j < k → ov (ρ j) (ρ j)) (t : ℕ) :
    (∀ p, p < N → (A t p ↔ ∃ j, j < k ∧ B t j ∧ p = ρ j)) ∧ ((∃ p, p < N ∧ A t p) → g t = ρ (f t)) ∧ (¬ (∃ p, p < N ∧ A t p) → g 0 = ρ (f t)) := by
  have inj : ∀ i j, i < k → j < k → ρ i = ρ j → i = j := fun i j hi hj e => by
    rcases lt_trichotomy i j with h | h | h
    · exact absurd (e ▸ hs i j h hj) (prec_irrefl key _)
    · exact h
    · exact absurd (e ▸ hs j i h hi) (prec_irrefl key _)
  have pick : ∀ t, (∀ p, p < N → (A t p ↔ ∃ j, j < k ∧ B t j ∧ p = ρ j)) → (∃ p, p < N ∧ A t p) → g t = ρ (f t) := by
    intro t h ⟨p, hp, hA⟩
    obtain ⟨h1, h2, h3⟩ := hg t ⟨p, hp, hA⟩
    obtain ⟨j, hj, hB, e⟩ := (h _ h1).mp h2
    obtain ⟨hf1, hf2, hf3⟩ := hf t ⟨j, hj, hB⟩
    have h4 := h3 (ρ (f t)) (hN _ hf1) ((h _ (hN _ hf1)).mpr ⟨_, hf1, hf2, rfl⟩)
    rcases (hf3 j hj hB).lt_or_eq with h5 | h5
    · exact absurd (e ▸ hs _ _ h5 hj) h4
    · rw [e, h5]
  have main : ∀ t, ∀ p, p < N → (A t p ↔ ∃ j, j < k ∧ B t j ∧ p = ρ j) := by
    intro t
    induction t with
    | zero =>
      intro p hp
      rw [hA0 p hp]
      exact ⟨fun ⟨j, hj, e⟩ => ⟨j, hj, hB0 j hj, e⟩, fun ⟨j, hj, _, e⟩ => ⟨j, hj, e⟩⟩
    | succ t ih =>
      intro p hp
      rw [hAs t p hp, ih p hp]
      constructor
      · rintro ⟨⟨j, hj, hB, rfl⟩, ho⟩
        have e := pick t ih ⟨_, hp, (ih _ hp).mpr ⟨j, hj, hB, rfl⟩⟩
        refine ⟨j, hj, (hBs t j hj).mpr ⟨hB, ?_⟩, rfl⟩
        rintro (h | h)
        · exact ho (e ▸ h)
        · refine ho ?_
          rw [e, ← h]; exact hself j hj
      · rintro ⟨j, hj, hB, rfl⟩
        obtain ⟨hB, ho⟩ := (hBs t j hj).mp hB
        have e := pick t ih ⟨_, hp, (ih _ hp).mpr ⟨j, hj, hB, rfl⟩⟩
        refine ⟨⟨j, hj, hB, rfl⟩, fun h => ho (.inl (e ▸ h))⟩
  refine ⟨main t, pick t (main t), fun h => ?_⟩
  have e0 : g 0 = ρ (f 0) := pick 0 (main 0) ⟨ρ 0, hN 0 hk, (main 0 _ (hN 0 hk)).mpr ⟨0, hk, hB0 0 hk, rfl⟩⟩
  have hz : f 0 = 0 := by
    have := (hf 0 ⟨0, hk, hB0 0 hk⟩).2.2 0 hk (hB0 0 hk)
    omega
  have hz' : f t = 0 := hf0 t fun ⟨j, hj, hB⟩ => h ⟨ρ j, hN j hj, (main t _ (hN j hj)).mpr ⟨j, hj, hB, rfl⟩⟩
  rw [e0, hz, hz']

end Cert.Proof.Nms

end

end
-- ==== Proof.Count.lean ====
/-
  The counts the kernel takes of the words: the bisection finds the word of the 2000th largest, and the mask marks the first 2000.
-/
module

public import proofs.«01_k».proof.Proof.Bar
public import proofs.«01_k».proof.Proof.Model
public import proofs.«01_k».proof.Proof.Scan
public import proofs.«01_k».proof.Proof.Rank

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Places -/

/-- The word of a place, out of blocks by tile. -/
def at_ {α : Type} (P : ℕ → ℕ → S16.Idx → α) (p : ℕ) : α := P (p / 1264) (p % 1264 / 16) (lane p)

theorem at_eq {α : Type} (P : ℕ → ℕ → S16.Idx → α) (w t j : ℕ) (ht : t < 79) (hj : j < 16) : at_ P (1264 * w + (16 * t + j)) = P w t (lane j) := by
  unfold at_
  rw [show (1264 * w + (16 * t + j)) / 1264 = w by omega, show (1264 * w + (16 * t + j)) % 1264 / 16 = t by omega,
    ← lane_mod (1264 * w + (16 * t + j)), show (1264 * w + (16 * t + j)) % 16 = j by omega]

theorem at_split {p : ℕ} (hp : p < 20224) : ∃ w t j, w < 16 ∧ t < 79 ∧ j < 16 ∧ p = 1264 * w + (16 * t + j) :=
  ⟨p / 1264, p % 1264 / 16, p % 16, by omega, by omega, by omega, by omega⟩

/-! ## Sums of sixteen -/

/-- The sum of the first so many. -/
def tot (c : ℕ → ℕ) : ℕ → ℕ
  | 0 => 0
  | n + 1 => tot c n + c n

theorem tot_count (P : ℕ → Prop) [DecidablePred P] (m n : ℕ) : tot (fun w => Nat.count (fun q => P (m * w + q)) m) n = Nat.count P (m * n) := by
  induction n with
  | zero => simp [tot]
  | succ n ih => rw [tot, ih, Nat.mul_succ, Nat.count_add]

theorem tot_ind (P : ℕ → Prop) [DecidablePred P] (n : ℕ) : tot (fun q => if P q then 1 else 0) n = Nat.count P n := by
  induction n with
  | zero => simp [tot]
  | succ n ih => rw [tot, ih, Nat.count_succ]

theorem tot_congr {c c' : ℕ → ℕ} (n : ℕ) (h : ∀ k, k < n → c k = c' k) : tot c n = tot c' n := by
  induction n with
  | zero => rfl
  | succ n ih => rw [tot, tot, ih fun k hk => h k (by omega), h n (by omega)]

theorem tot_cut (c : ℕ → ℕ) (w n : ℕ) (h : w ≤ n) : tot (fun k => if k < w then c k else 0) n = tot c w := by
  induction n with
  | zero => obtain rfl : w = 0 := by omega
            rfl
  | succ n ih =>
    by_cases hw : w = n + 1
    · subst hw
      exact tot_congr _ fun k hk => if_pos hk
    · rw [tot, ih (by omega), if_neg (by omega), Nat.add_zero]

theorem foldl_sum (g : ℕ → BitVec 32) (c : ℕ → ℕ) (j : ℕ) (h : ∀ k, k < j + 1 → g k = BitVec.ofNat 32 (c k)) :
    (List.range' 1 j).foldl (fun r n => r + g n) (g 0) = BitVec.ofNat 32 (tot c (j + 1)) := by
  induction j with
  | zero => rw [h 0 (by omega)]; simp [tot]
  | succ j ih =>
    rw [List.range'_1_concat, List.foldl_append, ih fun k hk => h k (by omega)]
    show _ + g (1 + j) = _
    rw [Nat.add_comm 1 j, h (j + 1) (by omega), ← BitVec.ofNat_add]; rfl

theorem scan_sum (v : IVec S16 32) (c : ℕ → ℕ) (h : ∀ k, k < 16 → v (lane k) = BitVec.ofNat 32 (c k)) (j : ℕ) (hj : j < 16) :
    scan .sum v (lane j) = BitVec.ofNat 32 (tot c (j + 1)) := by
  have e1 : ∀ j : Fin 16, ((List.finRange 16).filter fun k => decide (0 < k.val ∧ k.val ≤ j.val)).map Fin.val = List.range' 1 j.val := by decide
  have e2 := e1 ⟨j, hj⟩
  have e3 : scan .sum v (lane j) = ((List.finRange 16).filter fun k => decide (0 < k.val ∧ k.val ≤ j)).foldl (fun r k => r + v (lane k.val)) (v (lane 0)) := by
    unfold scan
    have e' : (fun (r : BitVec 32) (k : Fin 16) => ScanKind.sum.step r (v (Shape.ofLane k : S16.Idx))) = fun r k => r + v (lane k.val) := by
      funext r k
      rw [lane_ofLane]; rfl
    have e4 : ((lane j : S16.Idx) 0).val = j := Nat.mod_eq_of_lt hj
    have e5 : (fun k : Fin 16 => decide (0 < k.val ∧ k.val ≤ ((lane j : S16.Idx) 0).val)) = fun k => decide (0 < k.val ∧ k.val ≤ j) := by rw [e4]
    exact (congrArg₂ (fun (f : BitVec 32 → Fin 16 → BitVec 32) x => ((List.finRange 16).filter fun k => decide (0 < k.val ∧ k.val ≤ ((lane j : S16.Idx) 0).val)).foldl f x) e'
      (congrArg v (lane_ofLane 0))).trans (congrArg (fun p => ((List.finRange 16).filter p).foldl (fun r k => r + v (lane k.val)) (v (lane 0))) e5)
  rw [e3, ← foldl_sum (fun n => v (lane n)) c j (fun k hk => h k (by omega)), ← e2, List.foldl_map]

theorem scan_count (v : IVec S16 32) (P : ℕ → Prop) [DecidablePred P] (h : ∀ k, k < 16 → v (lane k) = if P k then 1#32 else 0#32) (j : ℕ) (hj : j < 16) :
    scan .sum v (lane j) = BitVec.ofNat 32 (Nat.count P (j + 1)) := by
  rw [← tot_ind]
  refine scan_sum v _ (fun k hk => ?_) j hj
  rw [h k hk]
  split <;> rfl

/-! ## Compares -/

theorem sge_iff (a b : BitVec 32) : IntOp.cmpi .sge a b = 1#1 ↔ b.toInt ≤ a.toInt := (ofBool_eq _).trans (by simp [BitVec.sle])
theorem sgt_iff (a b : BitVec 32) : IntOp.cmpi .sgt a b = 1#1 ↔ b.toInt < a.toInt := (ofBool_eq _).trans (by simp [BitVec.slt])
theorem slt_iff (a b : BitVec 32) : IntOp.cmpi .slt a b = 1#1 ↔ a.toInt < b.toInt := (ofBool_eq _).trans (by simp [BitVec.slt])

variable (I : Inp F)

/-- The word at a place, as an integer. -/
def ky (p : ℕ) : BitVec 32 := at_ I.ks p
def kyi (p : ℕ) : ℤ := (ky I p).toInt

theorem ks_at (w t j : ℕ) (ht : t < 79) (hj : j < 16) : I.ks w t (lane j) = ky I (1264 * w + (16 * t + j)) := (at_eq I.ks w t j ht hj).symm

/-- The count a block adds. -/
theorem block_count (P : ℕ → Prop) [DecidablePred P] (w t : ℕ) (v : IVec S16 32)
    (h : ∀ k, k < 16 → v (lane k) = if P (1264 * w + (16 * t + k)) then 1#32 else 0#32) (j : ℕ) (hj : j < 16) :
    BitVec.ofNat 32 (Nat.count (fun q => P (1264 * w + q)) (16 * t)) + scan .sum v (lane j) = BitVec.ofNat 32 (Nat.count (fun q => P (1264 * w + q)) (16 * t + (j + 1))) := by
  rw [scan_count v (fun k => P (1264 * w + (16 * t + k))) h j hj, ← BitVec.ofNat_add]
  exact congrArg _ (Nat.count_add ..).symm

/-- A tile's count, block by block. -/
theorem tile_count (P : ℕ → Prop) [DecidablePred P] (w : ℕ) (c : ℕ → BitVec 32) (v : ℕ → IVec S16 32) (h0 : c 0 = 0#32)
    (hc : ∀ t, c (t + 1) = Scalar.addi (c t) (scan .sum (v t) (lane 15)))
    (h : ∀ t k, t < 79 → k < 16 → v t (lane k) = if P (1264 * w + (16 * t + k)) then 1#32 else 0#32) (t : ℕ) (ht : t ≤ 79) :
    c t = BitVec.ofNat 32 (Nat.count (fun q => P (1264 * w + q)) (16 * t)) := by
  induction t with
  | zero => rw [h0]; simp
  | succ t ih =>
    rw [hc, ih (by omega)]
    exact block_count P w t (v t) (fun k hk => h t k (by omega) hk) 15 (by decide)

/-! ## The bisection -/

/-- How many words are at least `x`. -/
def nGe (x : ℤ) : ℕ := Nat.count (fun q => x ≤ kyi I q) 20224

theorem cnt_eq (w : ℕ) (lo hi : BitVec 32) (t : ℕ) (ht : t ≤ 79) :
    cnt (I.ks w) lo hi t = BitVec.ofNat 32 (Nat.count (fun q => (Scalar.shrsi (Scalar.addi lo hi) 1#32).toInt ≤ kyi I (1264 * w + q)) (16 * t)) :=
  tile_count (fun q => (Scalar.shrsi (Scalar.addi lo hi) 1#32).toInt ≤ kyi I q) w (cnt (I.ks w) lo hi)
    (fun t => select (cmpi .sge (I.ks w t) (broadcast S16 (Scalar.shrsi (Scalar.addi lo hi) 1#32))) (broadcast S16 1#32) (broadcast S16 0#32)) rfl
    (fun t => by
      show Scalar.addi _ (last _) = _
      rw [last_eq]; rfl)
    (fun t k ht hk => by
      rw [select_at, cmpi_at]
      refine ite_congr (propext ((sge_iff _ _).trans ?_)) (fun _ => rfl) fun _ => rfl
      rw [ks_at I w t k ht hk]; rfl) t ht

theorem gath_at {α : Type} (P : ℕ → S16.Idx → α) (v : IVec S16 32) (x : S16.Idx) (w j : ℕ) (hw : w < 16) (hj : j < 16) (h : v x = BitVec.ofNat 32 (16 * w + j)) :
    gath 256 (by decide) (ofBlk 256 P) v x = P w (lane j) := by
  have e : (v x).toNat % 256 = 16 * w + j := by rw [h, BitVec.toNat_ofNat]; omega
  unfold gath ofBlk
  dsimp only
  rw [e, show (16 * w + j) / 16 = w by omega, ← lane_mod (16 * w + j), show (16 * w + j) % 16 = j by omega]

theorem pay35_at (j : ℕ) (hj : j < 16) : k0_pay35 (lane j) = BitVec.ofNat 32 (16 * j + 0) := by
  have h : ∀ j : Fin 16, k0_pay35 (lane j.val) = BitVec.ofNat 32 (16 * j.val + 0) := by decide
  exact h ⟨j, hj⟩
theorem pay40_at (j : ℕ) (hj : j < 16) : k0_pay40 lanes (lane j) = BitVec.ofNat 32 (16 * j + 0) := by
  have h : ∀ j : Fin 16, k0_pay40 lanes (lane j.val) = BitVec.ofNat 32 (16 * j.val + 0) := by decide
  exact h ⟨j, hj⟩
theorem pay41_at (j : ℕ) (hj : j < 16) : k0_pay41 lanes (lane j) = BitVec.ofNat 32 (16 * j + 1) := by
  have h : ∀ j : Fin 16, k0_pay41 lanes (lane j.val) = BitVec.ofNat 32 (16 * j.val + 1) := by decide
  exact h ⟨j, hj⟩

theorem bTot_eq (p : BitVec 32 × BitVec 32) :
    last (k0_pay36 (F := F) (bCnt I p)) = BitVec.ofNat 32 (nGe I (Scalar.shrsi (Scalar.addi p.1 p.2) 1#32).toInt) := by
  rw [last_eq]
  show scan .sum (bCnt I p) (lane 15) = _
  rw [scan_sum (bCnt I p) (fun w => Nat.count (fun q => (Scalar.shrsi (Scalar.addi p.1 p.2) 1#32).toInt ≤ kyi I (1264 * w + q)) 1264) (fun k hk => ?_) 15 (by decide),
    tot_count (fun q => (Scalar.shrsi (Scalar.addi p.1 p.2) 1#32).toInt ≤ kyi I q) 1264 16]
  · rfl
  · unfold bCnt
    rw [gath_at _ _ _ k 0 hk (by decide) (pay35_at k hk)]
    exact cnt_eq I k p.1 p.2 79 le_rfl

theorem mid_eq (lo hi : ℕ) (h : lo + hi < 2147483648) : Scalar.shrsi (Scalar.addi (BitVec.ofNat 32 lo) (BitVec.ofNat 32 hi)) 1#32 = BitVec.ofNat 32 ((lo + hi) / 2) := by
  show IntOp.shrsi .scalar (BitVec.ofNat 32 lo + BitVec.ofNat 32 hi) 1#32 = _
  rw [← BitVec.ofNat_add]
  unfold IntOp.shrsi
  rw [if_pos (by decide)]
  apply BitVec.eq_of_toInt_eq
  show ((BitVec.ofNat 32 (lo + hi)).sshiftRight (1#32 : BitVec 32).toNat).toInt = _
  rw [BitVec.toInt_sshiftRight, toInt_small h, toInt_small (by omega), show (1#32 : BitVec 32).toNat = 1 from rfl, Int.shiftRight_eq_div_pow]
  omega

variable (hk : ∀ q, q < 20224 → kyi I q < 1065353216) (h0 : 2000 ≤ nGe I 0)

include hk h0 in
theorem bis_inv (k : ℕ) (hk30 : k ≤ 30) : ∃ lo hi : ℕ, bis I k = (BitVec.ofNat 32 lo, BitVec.ofNat 32 hi) ∧ lo < hi ∧ hi ≤ 1065353216 ∧ hi - lo ≤ 2 ^ (30 - k)
    ∧ 2000 ≤ nGe I lo ∧ nGe I hi < 2000 := by
  induction k with
  | zero =>
    refine ⟨0, 1065353216, rfl, by decide, le_rfl, by decide, h0, ?_⟩
    have : nGe I ((1065353216 : ℕ) : ℤ) = 0 := by
      unfold nGe
      rw [Nat.count_iff_forall_not]
      intro q hq
      have := hk q hq
      push_cast
      omega
    omega
  | succ k ih =>
    obtain ⟨lo, hi, e, hlt, hle, hd, hlo, hhi⟩ := ih (by omega)
    have hm : Scalar.shrsi (Scalar.addi (bis I k).1 (bis I k).2) 1#32 = BitVec.ofNat 32 ((lo + hi) / 2) := by rw [e]; exact mid_eq lo hi (by omega)
    have ht := bTot_eq I (bis I k)
    rw [hm, toInt_small (by omega)] at ht
    have hp : 2 ^ (30 - k) = 2 * 2 ^ (30 - (k + 1)) := by rw [show 30 - k = (30 - (k + 1)) + 1 by omega, pow_succ]; omega
    have hb : nGe I (((lo + hi) / 2 : ℕ) : ℤ) < 2147483648 := lt_of_le_of_lt (Nat.count_le _) (by decide)
    have hsge : Scalar.cmpi .sge (BitVec.ofNat 32 (nGe I (((lo + hi) / 2 : ℕ) : ℤ))) 2000#32 = 1#1 ↔ 2000 ≤ nGe I (((lo + hi) / 2 : ℕ) : ℤ) := by
      refine (sge_iff _ _).trans ?_
      rw [toInt_small hb, show (2000#32 : BitVec 32).toInt = 2000 from by decide]
      omega
    have hs : bis I (k + 1) = (Scalar.select (Scalar.cmpi .sge (last (k0_pay36 (F := F) (bCnt I (bis I k)))) 2000#32) (Scalar.shrsi (Scalar.addi (bis I k).1 (bis I k).2) 1#32) (bis I k).1,
        Scalar.select (Scalar.cmpi .sge (last (k0_pay36 (F := F) (bCnt I (bis I k)))) 2000#32) (bis I k).2 (Scalar.shrsi (Scalar.addi (bis I k).1 (bis I k).2) 1#32)) := rfl
    rw [hs, ht, hm, e]
    have sel : ∀ (c : BitVec 1) (a b : BitVec 32), Scalar.select c a b = if c = 1#1 then a else b := fun _ _ _ => rfl
    rw [sel, sel]
    by_cases hc : 2000 ≤ nGe I (((lo + hi) / 2 : ℕ) : ℤ)
    · rw [if_pos (hsge.mpr hc), if_pos (hsge.mpr hc)]
      exact ⟨(lo + hi) / 2, hi, rfl, by omega, hle, by omega, hc, hhi⟩
    · rw [if_neg (fun h => hc (hsge.mp h)), if_neg (fun h => hc (hsge.mp h))]
      have hne : lo ≠ (lo + hi) / 2 := fun h => hc (by rw [← h]; exact hlo)
      exact ⟨lo, (lo + hi) / 2, rfl, by omega, by omega, by omega, hlo, by omega⟩

include hk h0 in
/-- The threshold is the word of the 2000th largest. -/
theorem tst_spec : ∃ t : ℕ, tst I = BitVec.ofNat 32 t ∧ t < 1065353216 ∧ 2000 ≤ Nat.count (fun q => (t : ℤ) ≤ kyi I q) 20224 ∧ Nat.count (fun q => (t : ℤ) < kyi I q) 20224 < 2000 := by
  obtain ⟨lo, hi, e, hlt, hle, hd, hlo, hhi⟩ := bis_inv I hk h0 30 le_rfl
  refine ⟨lo, by unfold tst; rw [e], by omega, hlo, ?_⟩
  have : hi = lo + 1 := by omega
  subst this
  unfold nGe at hhi
  convert hhi using 3
  push_cast
  exact Iff.rfl

/-! ## The mask of the first 2000 -/

theorem sel_one {c : BitVec 1} {P : Prop} [Decidable P] (h : c = 1#1 ↔ P) : (if c = 1#1 then (1#32 : BitVec 32) else 0#32) = if P then 1#32 else 0#32 :=
  ite_congr (propext h) (fun _ => rfl) fun _ => rfl

theorem eqi_iff (a b : BitVec 32) : IntOp.cmpi .eq a b = 1#1 ↔ a.toInt = b.toInt := (eq_iff a b).trans BitVec.toInt_inj.symm

theorem pay2_at (t0 : BitVec 32) (w t k : ℕ) (ht : t < 79) (hk : k < 16) :
    k0_pay2 (F := F) t0 (I.ks w t) (lane k) = if kyi I (1264 * w + (16 * t + k)) = t0.toInt then 1#32 else 0#32 := by
  show select (cmpi .eq (I.ks w t) (broadcast S16 t0)) (broadcast S16 1#32) (broadcast S16 0#32) (lane k) = _
  rw [select_at, cmpi_at]
  refine sel_one ((eqi_iff _ _).trans ?_)
  rw [ks_at I w t k ht hk]; rfl

theorem geq1_eq (t0 : BitVec 32) (w t : ℕ) (ht : t ≤ 79) :
    (geq (I.ks w) t0 t).1 = BitVec.ofNat 32 (Nat.count (fun q => t0.toInt < kyi I (1264 * w + q)) (16 * t)) :=
  tile_count (fun q => t0.toInt < kyi I q) w (fun t => (geq (I.ks w) t0 t).1)
    (fun t => select (cmpi .sgt (I.ks w t) (broadcast S16 t0)) (broadcast S16 1#32) (broadcast S16 0#32)) rfl
    (fun t => by
      show Scalar.addi _ (last _) = _
      rw [last_eq]; rfl)
    (fun t k ht hk => by
      rw [select_at, cmpi_at]
      refine sel_one ((sgt_iff _ _).trans ?_)
      rw [ks_at I w t k ht hk]; rfl) t ht

theorem geq2_eq (t0 : BitVec 32) (w t : ℕ) (ht : t ≤ 79) :
    (geq (I.ks w) t0 t).2 = BitVec.ofNat 32 (Nat.count (fun q => kyi I (1264 * w + q) = t0.toInt) (16 * t)) :=
  tile_count (fun q => kyi I q = t0.toInt) w (fun t => (geq (I.ks w) t0 t).2) (fun t => k0_pay2 (F := F) t0 (I.ks w t)) rfl
    (fun t => by
      show Scalar.addi _ (last _) = _
      rw [last_eq]; rfl)
    (fun t k ht hk => pay2_at I t0 w t k ht hk) t ht

theorem car_eq (w t : ℕ) (ht : t ≤ 79) :
    car I w t = BitVec.ofNat 32 (Nat.count (fun q => kyi I (1264 * w + q) = (tst I).toInt) (16 * t)) :=
  tile_count (fun q => kyi I q = (tst I).toInt) w (car I w) (fun t => k0_pay2 (F := F) (tst I) (I.ks w t)) rfl
    (fun t => by
      show Scalar.addi _ (last _) = _
      rw [last_eq]; rfl)
    (fun t k ht hk => pay2_at I (tst I) w t k ht hk) t ht

theorem cGt_at (k : ℕ) (hk : k < 16) : cGt I (lane k) = BitVec.ofNat 32 (Nat.count (fun q => (tst I).toInt < kyi I (1264 * k + q)) 1264) := by
  unfold cGt
  rw [gath_at _ _ _ k 0 hk (by decide) (pay40_at k hk)]
  exact geq1_eq I (tst I) k 79 le_rfl

theorem cEq_at (k : ℕ) (hk : k < 16) : cEq I (lane k) = BitVec.ofNat 32 (Nat.count (fun q => kyi I (1264 * k + q) = (tst I).toInt) 1264) := by
  unfold cEq
  rw [gath_at _ _ _ k 1 hk (by decide) (pay41_at k hk)]
  exact geq2_eq I (tst I) k 79 le_rfl

theorem nEq_eq : nEq I = 2000#32 - BitVec.ofNat 32 (Nat.count (fun q => (tst I).toInt < kyi I q) 20224) := by
  unfold nEq
  rw [last_eq]
  show 2000#32 - scan .sum (cGt I) (lane 15) = _
  rw [scan_sum (cGt I) _ (fun k hk => cGt_at I k hk) 15 (by decide), tot_count (fun q => (tst I).toInt < kyi I q) 1264 16]

theorem or_iff (a b : BitVec 1) : a ||| b = 1#1 ↔ a = 1#1 ∨ b = 1#1 := by revert a b; decide
theorem and_iff (a b : BitVec 1) : a &&& b = 1#1 ↔ a = 1#1 ∧ b = 1#1 := by revert a b; decide

theorem pre_eq (w : ℕ) (hw : w < 16) : scan .sum (select (k0_pay43 (BitVec.ofNat 32 w) lanes) (cEq I) k0_pay44) (lane 15)
    = BitVec.ofNat 32 (Nat.count (fun q => kyi I q = (tst I).toInt) (1264 * w)) := by
  rw [scan_sum _ (fun k => if k < w then Nat.count (fun q => kyi I (1264 * k + q) = (tst I).toInt) 1264 else 0) (fun k hk => ?_) 15 (by decide),
    tot_cut _ w 16 (by omega), tot_count (fun q => kyi I q = (tst I).toInt) 1264 w]
  rw [select_at]
  have : k0_pay43 (BitVec.ofNat 32 w) lanes (lane k) = 1#1 ↔ k < w := by
    show IntOp.cmpi .slt (lanes (lane k)) (BitVec.ofNat 32 w) = 1#1 ↔ _
    rw [slt_iff, lanes_at, Nat.mod_eq_of_lt hk, toInt_small (by omega), toInt_small (by omega)]
    omega
  by_cases h : k < w
  · rw [if_pos (this.mpr h), if_pos h]; exact cEq_at I k hk
  · rw [if_neg (fun h' => h (this.mp h')), if_neg h]; rfl

theorem add_sub_word (a b s c i : BitVec 32) (h : b + s = c + i) : a + b + (s - i) = a + c := by grind

include hk h0 in
/-- The mask keeps the words of the first 2000 and no other. -/
theorem km₀_at (p : ℕ) (hp : p < 20224) : at_ (km₀ I) p = if rank (kyi I) 20224 p < 2000 then ky I p else 4294967295#32 := by
  obtain ⟨w, t, j, hw, ht, hj, rfl⟩ := at_split hp
  obtain ⟨t0, e0, hlt, hge, hgt⟩ := tst_spec I hk h0
  have et : (tst I).toInt = t0 := by rw [e0, toInt_small (by omega)]
  have hsel := sel_iff (kyi I) 20224 2000 (t0 : ℤ) hge hgt _ hp
  rw [at_eq _ w t j ht hj]
  have hx : km₀ I w t (lane j) = if (IntOp.cmpi .sgt (I.ks w t (lane j)) (tst I)) ||| (IntOp.cmpi .eq (I.ks w t (lane j)) (tst I) &&&
      IntOp.cmpi .slt ((last (scan .sum (select (k0_pay43 (BitVec.ofNat 32 w) lanes) (cEq I) k0_pay44)) + car I w t)
        + (scan .sum (k0_pay2 (F := F) (tst I) (I.ks w t)) (lane j) - k0_pay2 (F := F) (tst I) (I.ks w t) (lane j))) (nEq I)) = 1#1
      then I.ks w t (lane j) else 4294967295#32 := by
    show select _ _ _ (lane j) = _
    rw [select_at]; rfl
  rw [hx, ks_at I w t j ht hj]
  refine ite_congr (propext (Iff.trans ?_ hsel)) (fun _ => rfl) fun _ => rfl
  rw [or_iff, and_iff, sgt_iff, eqi_iff, slt_iff, last_eq, pre_eq I w hw, car_eq I w t ht.le, nEq_eq I]
  have hb := block_count (fun q => kyi I q = (tst I).toInt) w t _ (fun k hk => pay2_at I (tst I) w t k ht hk) j hj
  rw [pay2_at I (tst I) w t j ht hj]
  rw [et] at hb ⊢
  have hcount : Nat.count (fun q => kyi I q = (t0 : ℤ)) (1264 * w + (16 * t + j)) = Nat.count (fun q => kyi I q = (t0 : ℤ)) (1264 * w)
      + Nat.count (fun q => kyi I (1264 * w + q) = (t0 : ℤ)) (16 * t + j) := Nat.count_add ..
  have hle : Nat.count (fun q => kyi I q = (t0 : ℤ)) (1264 * w + (16 * t + j)) ≤ 1264 * w + (16 * t + j) := Nat.count_le _
  have e1 : BitVec.ofNat 32 (Nat.count (fun q => kyi I q = (t0 : ℤ)) (1264 * w)) + BitVec.ofNat 32 (Nat.count (fun q => kyi I (1264 * w + q) = (t0 : ℤ)) (16 * t))
      + (scan .sum (k0_pay2 (F := F) (tst I) (I.ks w t)) (lane j) - if kyi I (1264 * w + (16 * t + j)) = (t0 : ℤ) then 1#32 else 0#32)
      = BitVec.ofNat 32 (Nat.count (fun q => kyi I q = (t0 : ℤ)) (1264 * w + (16 * t + j))) := by
    rw [hcount, BitVec.ofNat_add]
    have hs : Nat.count (fun q => kyi I (1264 * w + q) = (t0 : ℤ)) (16 * t + (j + 1)) = Nat.count (fun q => kyi I (1264 * w + q) = (t0 : ℤ)) (16 * t + j)
        + if kyi I (1264 * w + (16 * t + j)) = (t0 : ℤ) then 1 else 0 := Nat.count_succ ..
    rw [hs, BitVec.ofNat_add] at hb
    have hi : (BitVec.ofNat 32 (if kyi I (1264 * w + (16 * t + j)) = (t0 : ℤ) then 1 else 0)) = if kyi I (1264 * w + (16 * t + j)) = (t0 : ℤ) then 1#32 else 0#32 := by split <;> rfl
    rw [hi] at hb
    exact add_sub_word _ _ _ _ _ hb
  have e2 : (2000#32 : BitVec 32) - BitVec.ofNat 32 (Nat.count (fun q => (t0 : ℤ) < kyi I q) 20224) = BitVec.ofNat 32 (2000 - Nat.count (fun q => (t0 : ℤ) < kyi I q) 20224) := by
    apply BitVec.eq_of_toNat_eq
    simp only [BitVec.toNat_sub, BitVec.toNat_ofNat]
    omega
  rw [e1, e2, toInt_small (by omega), toInt_small (by omega)]
  show _ ∨ (kyi I _ = (t0 : ℤ) ∧ _) ↔ _
  refine or_congr Iff.rfl (and_congr Iff.rfl ?_)
  omega

end Cert.Proof.Nms

end

end
-- ==== Proof.Pick.lean ====
/-
  A round of suppression: the place the kernel picks is the first of the largest words, and what it does to the words.
-/
module

public import proofs.«01_k».proof.Proof.Bar
public import proofs.«01_k».proof.Proof.Model
public import proofs.«01_k».proof.Proof.Count

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## A tile's best -/

/-- Lane by lane, the largest word and the first block that has it. -/
theorem am_spec (k : ℕ → Vec F S16 .i32) (x : S16.Idx) (n : ℕ) (hn : n + 1 ≤ 79) (h : ∀ t, t < 79 → -1 ≤ ((k t x : BitVec 32)).toInt) :
    ((am (F := F) k (n + 1)).2 x).toNat < n + 1 ∧ (am (F := F) k (n + 1)).1 x = k ((am (F := F) k (n + 1)).2 x).toNat x
      ∧ (∀ t, t < n + 1 → ((k t x : BitVec 32)).toInt ≤ ((am (F := F) k (n + 1)).1 x).toInt)
      ∧ ∀ t, t < ((am (F := F) k (n + 1)).2 x).toNat → ((k t x : BitVec 32)).toInt < ((am (F := F) k (n + 1)).1 x).toInt := by
  have e1 : ∀ n, (am (F := F) k (n + 1)).1 x = if IntOp.cmpi .sgt (k n x) ((am (F := F) k n).1 x) = 1#1 then k n x else (am (F := F) k n).1 x := fun n => by
    show (select (cmpi .sgt (k n) (am (F := F) k n).1) (k n) (am (F := F) k n).1 : IVec S16 32) x = _
    rw [select_at, cmpi_at]
  have e2 : ∀ n, (am (F := F) k (n + 1)).2 x = if IntOp.cmpi .sgt (k n x) ((am (F := F) k n).1 x) = 1#1 then BitVec.ofNat 32 n else (am (F := F) k n).2 x := fun n => by
    show (select (cmpi .sgt (k n) (am (F := F) k n).1) (broadcast S16 (BitVec.ofNat 32 n)) (am (F := F) k n).2 : IVec S16 32) x = _
    rw [select_at, cmpi_at]; rfl
  induction n with
  | zero =>
    have h0 : (am (F := F) k 0).1 x = 4294967294#32 := rfl
    have hc : IntOp.cmpi .sgt (k 0 x) ((am (F := F) k 0).1 x) = 1#1 := by
      rw [sgt_iff, h0, show (4294967294#32 : BitVec 32).toInt = -2 from by decide]
      have := h 0 (by decide)
      omega
    rw [e1 0, e2 0, if_pos hc, if_pos hc]
    refine ⟨by decide, rfl, fun t ht => ?_, fun t ht => absurd ht (by simp)⟩
    obtain rfl : t = 0 := by omega
    exact le_rfl
  | succ n ih =>
    obtain ⟨i1, i2, i3, i4⟩ := ih (by omega)
    rw [e1 (n + 1), e2 (n + 1)]
    by_cases hc : IntOp.cmpi .sgt (k (n + 1) x) ((am (F := F) k (n + 1)).1 x) = 1#1
    · rw [if_pos hc, if_pos hc]
      rw [sgt_iff] at hc
      have hn' : (BitVec.ofNat 32 (n + 1)).toNat = n + 1 := by rw [BitVec.toNat_ofNat]; omega
      rw [hn']
      refine ⟨by omega, rfl, fun t ht => ?_, fun t ht => (i3 t ht).trans_lt hc⟩
      by_cases h' : t = n + 1
      · rw [h']
      · exact (i3 t (by omega)).trans hc.le
    · rw [if_neg hc, if_neg hc]
      rw [sgt_iff] at hc
      refine ⟨by omega, i2, fun t ht => ?_, i4⟩
      by_cases h' : t = n + 1
      · rw [h']; omega
      · exact i3 t (by omega)

/-- The tile's best word and the first place that has it. -/
theorem tile_spec (k : ℕ → Vec F S16 .i32) (h : ∀ t j, t < 79 → j < 16 → -1 ≤ ((k t (lane j) : BitVec 32)).toInt) :
    ∃ b j, b < 79 ∧ j < 16 ∧ smin (cand (F := F) k) = BitVec.ofNat 32 (16 * b + j) ∧ smax (am (F := F) k 79).1 = k b (lane j)
      ∧ (∀ t i, t < 79 → i < 16 → ((k t (lane i) : BitVec 32)).toInt ≤ (smax (am (F := F) k 79).1).toInt)
      ∧ ∀ t i, t < 79 → i < 16 → 16 * t + i < 16 * b + j → ((k t (lane i) : BitVec 32)).toInt < (smax (am (F := F) k 79).1).toInt := by
  have ha := fun j (hj : j < 16) => am_spec k (lane j) 78 le_rfl fun t ht => h t j ht hj
  obtain ⟨⟨m, hm⟩, hmax⟩ := smax_spec (am (F := F) k 79).1
  obtain ⟨⟨j, hj⟩, hmin⟩ := smin_spec (cand (F := F) k)
  have hcj : (am (F := F) k 79).1 (lane j.val) = smax (am (F := F) k 79).1 := by
    by_contra hc
    have h1 := hmin m
    rw [hj, cand_at, if_neg hc, cand_at, if_pos hm.symm, show (1073741824#32 : BitVec 32).toInt = 1073741824 from by decide] at h1
    have hb : ((am (F := F) k 79).2 (lane m.val)).toNat < 79 := (ha m.val m.isLt).1
    have := m.isLt
    rw [toInt_small (by omega)] at h1
    omega
  have hle : ∀ t i, t < 79 → i < 16 → ((k t (lane i) : BitVec 32)).toInt ≤ (smax (am (F := F) k 79).1).toInt := fun t i ht hi =>
    ((ha i hi).2.2.1 t ht).trans (hmax ⟨i, hi⟩)
  refine ⟨((am (F := F) k 79).2 (lane j.val)).toNat, j.val, (ha j.val j.isLt).1, j.isLt, ?_, ?_, hle, ?_⟩
  · rw [hj, cand_at, if_pos hcj]
  · rw [← hcj]; exact (ha j.val j.isLt).2.1
  · intro t i ht hi hlt
    refine lt_of_le_of_ne (hle t i ht hi) fun he => ?_
    have h1 := (ha i hi).2.2.1 t ht
    have h2 := hmax ⟨i, hi⟩
    have h3 : (am (F := F) k 79).1 (lane i) = smax (am (F := F) k 79).1 := BitVec.toInt_inj.mp (by
      have h2' : ((am (F := F) k 79).1 (lane i)).toInt ≤ (smax (am (F := F) k 79).1).toInt := h2
      have h1' : ((k t (lane i) : BitVec 32)).toInt ≤ ((am (F := F) k 79).1 (lane i)).toInt := h1
      omega)
    have h4 : ¬ t < ((am (F := F) k 79).2 (lane i)).toNat := fun h5 => by
      have h6 : ((k t (lane i) : BitVec 32)).toInt < ((am (F := F) k 79).1 (lane i)).toInt := (ha i hi).2.2.2 t h5
      rw [h3] at h6
      omega
    have h5 := hmin ⟨i, hi⟩
    have h5' : (smin (cand (F := F) k)).toInt ≤ (cand (F := F) k (lane i)).toInt := h5
    have hci := cand_at (F := F) k ⟨i, hi⟩
    have hci' : cand (F := F) k (lane i) = BitVec.ofNat 32 (16 * ((am (F := F) k 79).2 (lane i)).toNat + i) := hci.trans (if_pos h3)
    have b1 := (ha j.val j.isLt).1
    have b2 := (ha i hi).1
    have := j.isLt
    have b1' : ((am (F := F) k 79).2 (lane j.val)).toNat < 79 := b1
    have b2' : ((am (F := F) k 79).2 (lane i)).toNat < 79 := b2
    rw [hj, cand_at, if_pos hcj, hci', toInt_small (by omega), toInt_small (by omega)] at h5'
    omega

/-! ## The best of all tiles -/

variable (I : Inp F) (km : ℕ → ℕ → Vec F S16 .i32)

/-- The place picked. -/
def gpos : ℕ := 1264 * (bestW (F := F) km).toNat + (smin (cand (F := F) (km (bestW (F := F) km).toNat))).toNat

theorem pay20_at (j : ℕ) (hj : j < 16) : k0_pay20 lanes (lane j) = BitVec.ofNat 32 (16 * j + 0) := by
  have h : ∀ j : Fin 16, k0_pay20 lanes (lane j.val) = BitVec.ofNat 32 (16 * j.val + 0) := by decide
  exact h ⟨j, hj⟩

theorem bests_at (w : ℕ) (hw : w < 16) : bests (F := F) km (lane w) = smax (am (F := F) (km w) 79).1 := by
  unfold bests
  rw [gath_at _ _ _ w 0 hw (by decide) (pay20_at w hw)]
  rfl

theorem gpos_lt : gpos (F := F) km < 20224 := by
  have h1 := bestW_lt (F := F) km
  have h2 := lid_lt (F := F) (km (bestW (F := F) km).toNat)
  unfold gpos
  omega

/-- The place picked is the first of the largest words. -/
theorem gpos_spec (h : ∀ p, p < 20224 → -1 ≤ ((at_ km p : BitVec 32)).toInt) :
    at_ km (gpos (F := F) km) = best (F := F) km ∧ (∀ p, p < 20224 → ((at_ km p : BitVec 32)).toInt ≤ (best (F := F) km).toInt)
      ∧ ∀ p, p < gpos (F := F) km → ((at_ km p : BitVec 32)).toInt < (best (F := F) km).toInt := by
  have ht := fun w (hw : w < 16) => tile_spec (F := F) (km w) fun t j ht hj => by
    have := h (1264 * w + (16 * t + j)) (by omega)
    rwa [at_eq km w t j ht hj] at this
  obtain ⟨⟨m, hm⟩, hmax⟩ := smax_spec (bests (F := F) km)
  obtain ⟨⟨j, hj⟩, hmin⟩ := smin_spec (candW (F := F) km)
  rw [← best_eq] at hm hmax
  rw [← bestW_eq] at hj hmin
  have hcj : bests (F := F) km (lane j.val) = best (F := F) km := by
    by_contra hc
    have h1 := hmin m
    have := m.isLt
    rw [hj, candW_at, if_neg hc, candW_at, if_pos hm.symm, show (999#32 : BitVec 32).toInt = 999 from by decide, toInt_small (by omega)] at h1
    omega
  have hbw : (bestW (F := F) km).toNat = j.val := by
    rw [hj, candW_at, if_pos hcj, BitVec.toNat_ofNat]
    have := j.isLt
    omega
  obtain ⟨b, i, hb, hi, e1, e2, e3, e4⟩ := ht j.val j.isLt
  have hg : gpos (F := F) km = 1264 * j.val + (16 * b + i) := by
    unfold gpos
    rw [hbw, e1, BitVec.toNat_ofNat]
    omega
  have hsm : smax (am (F := F) (km j.val) 79).1 = best (F := F) km := by rw [← hcj, bests_at km j.val j.isLt]
  have hle : ∀ p, p < 20224 → ((at_ km p : BitVec 32)).toInt ≤ (best (F := F) km).toInt := fun p hp => by
    obtain ⟨w, t, i', hw, ht', hi', rfl⟩ := at_split hp
    rw [at_eq km w t i' ht' hi']
    obtain ⟨-, -, -, -, -, -, h3, -⟩ := ht w hw
    have h4 := hmax ⟨w, hw⟩
    have h4' : (bests (F := F) km (lane w)).toInt ≤ (best (F := F) km).toInt := h4
    rw [bests_at km w hw] at h4'
    exact (h3 t i' ht' hi').trans h4'
  refine ⟨?_, hle, fun p hp => ?_⟩
  · rw [hg, at_eq km _ b i hb hi, ← e2, hsm]
  · have hp' : p < 20224 := hp.trans (gpos_lt km)
    refine lt_of_le_of_ne (hle p hp') fun he => ?_
    obtain ⟨w, t, i', hw, ht', hi', rfl⟩ := at_split hp'
    rw [hg] at hp
    rw [at_eq km w t i' ht' hi'] at he
    have hj' := j.isLt
    by_cases hwj : w = j.val
    · subst hwj
      have := e4 t i' ht' hi' (by omega)
      rw [hsm] at this
      omega
    · have hlt : w < j.val := by omega
      obtain ⟨-, -, -, -, -, -, h3, -⟩ := ht w hw
      have h4 := hmax ⟨w, hw⟩
      have h4' : (bests (F := F) km (lane w)).toInt ≤ (best (F := F) km).toInt := h4
      have h5 := h3 t i' ht' hi'
      rw [← bests_at km w hw] at h5
      have h6 : bests (F := F) km (lane w) = best (F := F) km := BitVec.toInt_inj.mp (by omega)
      have h7 := hmin ⟨w, hw⟩
      have h8 : candW (F := F) km (lane w) = BitVec.ofNat 32 w := (candW_at (F := F) km ⟨w, hw⟩).trans (if_pos h6)
      have h7' : (bestW (F := F) km).toInt ≤ (candW (F := F) km (lane w)).toInt := h7
      rw [h8, hj, candW_at, if_pos hcj, toInt_small (by omega), toInt_small (by omega)] at h7'
      omega

/-! ## What a round reads -/

/-- A column of a place: corners, score. -/
def bx (c p : ℕ) : F .f32 := if c = 0 then at_ I.x1 p else if c = 1 then at_ I.y1 p else if c = 2 then at_ I.x2 p else if c = 3 then at_ I.y2 p else at_ I.sc p

theorem gath_pick (P : ℕ → ℕ → S16.Idx → F .f32) (w : ℕ) (k : ℕ → Vec F S16 .i32) (x : S16.Idx) :
    gath 1264 (by decide) (ofBlk 1264 (P w)) (lid (F := F) k) x = at_ P (1264 * w + (smin (cand (F := F) k)).toNat) := by
  have h := lid_lt (F := F) k
  rw [lid_eq]
  unfold gath ofBlk at_
  have e : (broadcast S16 (smin (cand (F := F) k)) x).toNat % 1264 = (smin (cand (F := F) k)).toNat := Nat.mod_eq_of_lt h
  dsimp only
  rw [e, show (1264 * w + (smin (cand (F := F) k)).toNat) / 1264 = w by omega, show (1264 * w + (smin (cand (F := F) k)).toNat) % 1264 = (smin (cand (F := F) k)).toNat by omega,
    ← lane_mod (1264 * w + (smin (cand (F := F) k)).toNat), show (1264 * w + (smin (cand (F := F) k)).toNat) % 16 = (smin (cand (F := F) k)).toNat % 16 by omega, lane_mod]

/-- A word of the picked row: its score first, then its corners. -/
theorem nGet_at (v : IVec S16 32) (x : S16.Idx) (j : ℕ) (hj : j < 5) (hv : v x = BitVec.ofNat 32 (16 * (bestW (F := F) km).toNat + j)) :
    nGet I km v x = if j = 0 then bx I 4 (gpos (F := F) km) else bx I (j - 1) (gpos (F := F) km) := by
  have hw := bestW_lt (F := F) km
  unfold nGet
  rw [gath_at _ _ _ _ j hw (by omega) hv]
  have hl : ∀ n : Fin 16, ∀ c : Fin 4, (IntOp.cmpi .eq (lanes (lane n.val)) (BitVec.ofNat 32 c.val) = 1#1) = (n.val = c.val) := by decide
  have hs : nRowF I (bestW (F := F) km).toNat (km (bestW (F := F) km).toNat) (lane j) =
      if IntOp.cmpi .eq (lanes (lane j)) 0#32 = 1#1 then at_ I.sc (gpos (F := F) km) else if IntOp.cmpi .eq (lanes (lane j)) 1#32 = 1#1 then at_ I.x1 (gpos (F := F) km)
      else if IntOp.cmpi .eq (lanes (lane j)) 2#32 = 1#1 then at_ I.y1 (gpos (F := F) km) else if IntOp.cmpi .eq (lanes (lane j)) 3#32 = 1#1 then at_ I.x2 (gpos (F := F) km)
      else at_ I.y2 (gpos (F := F) km) := by
    unfold gpos
    rw [← gath_pick I.sc (bestW (F := F) km).toNat (km (bestW (F := F) km).toNat) (lane j), ← gath_pick I.x1 (bestW (F := F) km).toNat (km (bestW (F := F) km).toNat) (lane j),
      ← gath_pick I.y1 (bestW (F := F) km).toNat (km (bestW (F := F) km).toNat) (lane j), ← gath_pick I.x2 (bestW (F := F) km).toNat (km (bestW (F := F) km).toNat) (lane j),
      ← gath_pick I.y2 (bestW (F := F) km).toNat (km (bestW (F := F) km).toNat) (lane j)]
    rfl
  rw [hs]
  have hl' := hl ⟨j, by omega⟩
  have c0 := hl' 0
  have c1 := hl' 1
  have c2 := hl' 2
  have c3 := hl' 3
  have hj' : j = 0 ∨ j = 1 ∨ j = 2 ∨ j = 3 ∨ j = 4 := by omega
  rcases hj' with rfl | rfl | rfl | rfl | rfl
  all_goals rfl

theorem pay24_at (b : BitVec 32) (h : b.toNat < 16) (x : S16.Idx) : k0_pay24 b x = BitVec.ofNat 32 (16 * b.toNat + 1) := by
  have h1 : k0_pay24 b x = b * 16#32 + 1#32 := rfl
  rw [h1]; apply BitVec.eq_of_toNat_eq; simp only [BitVec.toNat_add, BitVec.toNat_mul, BitVec.toNat_ofNat]; omega
theorem pay25_at (b : BitVec 32) (h : b.toNat < 16) (x : S16.Idx) : k0_pay25 b x = BitVec.ofNat 32 (16 * b.toNat + 2) := by
  have h1 : k0_pay25 b x = b * 16#32 + 2#32 := rfl
  rw [h1]; apply BitVec.eq_of_toNat_eq; simp only [BitVec.toNat_add, BitVec.toNat_mul, BitVec.toNat_ofNat]; omega
theorem pay26_at (b : BitVec 32) (h : b.toNat < 16) (x : S16.Idx) : k0_pay26 b x = BitVec.ofNat 32 (16 * b.toNat + 3) := by
  have h1 : k0_pay26 b x = b * 16#32 + 3#32 := rfl
  rw [h1]; apply BitVec.eq_of_toNat_eq; simp only [BitVec.toNat_add, BitVec.toNat_mul, BitVec.toNat_ofNat]; omega
theorem pay27_at (b : BitVec 32) (h : b.toNat < 16) (x : S16.Idx) : k0_pay27 b x = BitVec.ofNat 32 (16 * b.toNat + 4) := by
  have h1 : k0_pay27 b x = b * 16#32 + 4#32 := rfl
  rw [h1]; apply BitVec.eq_of_toNat_eq; simp only [BitVec.toNat_add, BitVec.toNat_mul, BitVec.toNat_ofNat]; omega
theorem pay29_at (b : BitVec 32) (h : b.toNat < 16) (c : ℕ) (hc : c < 5) :
    k0_pay29 lanes b (lane c) = BitVec.ofNat 32 (16 * b.toNat + if c = 4 then 0 else c + 1) := by
  have e : ∀ n : Fin 16, ∀ c : Fin 5, k0_pay29 lanes (BitVec.ofNat 32 n.val) (lane c.val) = BitVec.ofNat 32 (16 * (BitVec.ofNat 32 n.val).toNat + if c.val = 4 then 0 else c.val + 1) := by
    decide +kernel
  exact small b h (fun b => k0_pay29 lanes b (lane c) = BitVec.ofNat 32 (16 * b.toNat + if c = 4 then 0 else c + 1)) fun n => e n ⟨c, hc⟩

theorem pick_at (c : ℕ) (hc : c < 5) : pick I km (lane c) = bx I c (gpos (F := F) km) := by
  unfold pick
  rw [nGet_at I km _ (lane c) (if c = 4 then 0 else c + 1) (by split <;> omega) (pay29_at _ (bestW_lt (F := F) km) c hc)]
  by_cases h : c = 4
  · subst h; rfl
  · rw [if_neg h, if_neg (by omega)]; rfl

/-! ## What a round does to a word -/

/-- The word of a place after the place `g` has been picked. -/
def kstep (g p : ℕ) (old : BitVec 32) : BitVec 32 :=
  k0_pay28 (broadcast S16 (at_ I.x1 g)) (broadcast S16 (at_ I.y1 g)) (broadcast S16 (at_ I.x2 g)) (broadcast S16 (at_ I.y2 g))
    (broadcast S16 (at_ I.x1 p)) (broadcast S16 (at_ I.y1 p)) (broadcast S16 (at_ I.x2 p)) (broadcast S16 (at_ I.y2 p))
    (k0_pay32 (broadcast S16 (at_ I.x2 p)) (broadcast S16 (at_ I.x1 p)) (broadcast S16 (at_ I.y2 p)) (broadcast S16 (at_ I.y1 p))) (broadcast S16 old) (lane 0)

/-- Whether the place `g`, picked, takes `p` away. -/
def hits (g p : ℕ) : Prop := kstep I g p 0#32 = 4294967295#32

open Classical in
theorem kstep_eq (g p : ℕ) (old : BitVec 32) : kstep I g p old = if hits I g p then 4294967295#32 else old := by
  have e : ∃ b : BitVec 1, ∀ old, kstep I g p old = if b = 1#1 then 4294967295#32 else old := ⟨_, fun old => rfl⟩
  obtain ⟨b, hb⟩ := e
  unfold hits
  rw [hb, hb]
  by_cases h : b = 1#1
  · rw [if_pos h, if_pos h, if_pos rfl]
  · rw [if_neg h, if_neg h, if_neg (by decide)]

theorem kmStep_at (p : ℕ) (hp : p < 20224) : at_ (kmStep I km) p = kstep I (gpos (F := F) km) p (at_ km p) := by
  obtain ⟨w, t, j, hw, ht, hj, rfl⟩ := at_split hp
  have hb := bestW_lt (F := F) km
  have g1 : nGet I km (k0_pay24 (bestW (F := F) km)) (lane j) = at_ I.x1 (gpos (F := F) km) := nGet_at I km _ (lane j) 1 (by decide) (pay24_at _ hb _)
  have g2 : nGet I km (k0_pay25 (bestW (F := F) km)) (lane j) = at_ I.y1 (gpos (F := F) km) := nGet_at I km _ (lane j) 2 (by decide) (pay25_at _ hb _)
  have g3 : nGet I km (k0_pay26 (bestW (F := F) km)) (lane j) = at_ I.x2 (gpos (F := F) km) := nGet_at I km _ (lane j) 3 (by decide) (pay26_at _ hb _)
  have g4 : nGet I km (k0_pay27 (bestW (F := F) km)) (lane j) = at_ I.y2 (gpos (F := F) km) := nGet_at I km _ (lane j) 4 (by decide) (pay27_at _ hb _)
  unfold kstep
  rw [at_eq _ w t j ht hj, ← g1, ← g2, ← g3, ← g4, at_eq I.x1 w t j ht hj, at_eq I.y1 w t j ht hj, at_eq I.x2 w t j ht hj, at_eq I.y2 w t j ht hj, at_eq km w t j ht hj]
  rfl

/-! ## The rounds -/

/-- The words and the place picked, by round. -/
def kmT (t : ℕ) : ℕ → ℕ → Vec F S16 .i32 := (nms I t).1
def gT (t : ℕ) : ℕ := gpos (F := F) (kmT I t)

open Classical in
theorem kmT_succ (t p : ℕ) (hp : p < 20224) : at_ (kmT I (t + 1)) p = if hits I (gT I t) p then 4294967295#32 else at_ (kmT I t) p := by
  rw [← kstep_eq]
  exact kmStep_at I (kmT I t) p hp

theorem none_iff : none? (F := F) km = 1#1 ↔ (best (F := F) km).toInt < 0 := by
  unfold none?
  exact (slt_iff _ _).trans (by rw [show (0#32 : BitVec 32).toInt = 0 from by decide])

theorem oRow_at (t c : ℕ) (hc : c < 5) : oRow I t (lane c) = if (best (F := F) (kmT I t)).toInt < 0 then (nms I t).2 (lane c) else bx I c (gT I t) := by
  have h : oRow I t (lane c) = if none? (F := F) (kmT I t) = 1#1 then (nms I t).2 (lane c) else pick I (kmT I t) (lane c) := by
    show (Scalar.select _ _ _ : FVec F S16 .f32) (lane c) = _
    unfold Scalar.select
    by_cases h : none? (F := F) (kmT I t) = 1#1
    · rw [if_pos h]; exact congrFun (if_pos h) _
    · rw [if_neg h]; exact congrFun (if_neg h) _
  rw [h, pick_at I _ c hc]
  exact ite_congr (propext (none_iff _)) (fun _ => rfl) fun _ => rfl

theorem first_row (t : ℕ) (ht : t < 1000) : (nms I (t + 1)).2 = oRow I 0 := by
  have e : ∀ t, (nms I (t + 1)).2 = Scalar.select (Scalar.cmpi .eq (BitVec.ofNat 32 t) 0#32) (oRow I t) (nms I t).2 := fun t => rfl
  induction t with
  | zero => rw [e]; rfl
  | succ t ih =>
    rw [e]
    have : ¬ Scalar.cmpi .eq (BitVec.ofNat 32 (t + 1)) 0#32 = 1#1 := by
      intro h
      have h' := (eq_iff _ _).mp h
      have := congrArg BitVec.toNat h'
      rw [BitVec.toNat_ofNat] at this
      simp at this
      omega
    exact (if_neg this).trans (ih (by omega))

/-- The result, by round and column. -/
theorem out_at (h0 : 0 ≤ (best (F := F) (kmT I 0)).toInt) (t c : ℕ) (ht : t < 100) (hc : c < 5) (x : S500.Idx) (hx : (x 0).val = 5 * t + c) :
    out I x = if (best (F := F) (kmT I t)).toInt < 0 then bx I c (gT I 0) else bx I c (gT I t) := by
  unfold out
  rw [hx, show (5 * t + c) / 5 = t by omega, show (5 * t + c) % 5 = c by omega, oRow_at I t c hc]
  refine ite_congr rfl (fun h => ?_) fun _ => rfl
  cases t with
  | zero => exact absurd h (by omega)
  | succ t => rw [first_row I t (by omega), oRow_at I 0 c hc, if_neg (by omega)]

end Cert.Proof.Nms

end

end
-- ==== Proof.KerArgs.lean ====
/-
  What the tiles are given, place by place: the boxes and the keys of the two arguments.
-/
module

public import proofs.«01_k».proof.Proof.Main
public import proofs.«01_k».proof.Proof.Pick
public import Idealize.ShloMosaic.Lib.StableHlo.ReadAt
public import Idealize.ShloMosaic.Lib.ValueIdxCore
public import Idealize.ShloMosaic.Lib.PointwiseCore

@[expose] public section

noncomputable section

namespace Cert.Proof.Nms

open Cert.KernelIdeal Cert.KernelIdeal.Gen
open Idealize.ShloMosaic
open Idealize.ShloMosaic.StableHlo (seq seqK after)

variable {F : FTy → Type} [FloatOps F]
variable (m : (ℓ : Loc nD τ sig) → Buf (Elt F) ℓ)

theorem slab_at {e : EltTy} (f : Vec F S20224 e) (p : ℕ) (hp : p < 20224) : at_ (slab f) p = f (ValueIdx.ix1 ⟨p, hp⟩) := by
  unfold at_ slab toBlk
  refine congrArg f (funext fun a => Fin.ext ?_)
  obtain rfl : a = (0 : Fin 1) := Subsingleton.elim _ _
  show (16 * (79 * (p / 1264) + p % 1264 / 16) + p % 16) % 20224 = p
  omega

theorem V1_v12 (d : Dev nD) : (V1 m d (dr main_v12) : Vec F S20224 .i32)
    = pad S20224 ![0] ![224] ![0] (m ((SparseCore.T d).loc main_arg1) : Vec F S20000 .i32) (constantI S_ 32 4294967295#32) pads_S20000_S20224_02240 h_S_ := by
  unfold V1 opsPre
  after_reads_simp
  rfl

theorem V1_v13 (d : Dev nD) : (V1 m d (dr main_v13) : Vec F S20224 .f32)
    = bitcastToFloat .f32 (pad S20224 ![0] ![224] ![0] (m ((SparseCore.T d).loc main_arg1) : Vec F S20000 .i32) (constantI S_ 32 4294967295#32) pads_S20000_S20224_02240 h_S_) := by
  unfold V1 opsPre
  after_reads_simp
  rfl

theorem V1_v2 (d : Dev nD) : (V1 m d (dr main_v2) : Vec F S20224 .f32)
    = pad S20224 ![0] ![224] ![0] (shapeCast S20000 (extractStridedSlice S20000x1 ![0, 0] (m ((SparseCore.T d).loc main_arg0) : Vec F S20000x4 .f32) slices_S20000x4_S20000x1_0_0) shapeCasts_S20000x1_S20000 : Vec F S20000 .f32) (sitofp .f32 (constantI S_ 32 0#32)) pads_S20000_S20224_02240 h_S_ := by
  unfold V1 opsPre
  after_reads_simp
  rfl

theorem V1_v5 (d : Dev nD) : (V1 m d (dr main_v5) : Vec F S20224 .f32)
    = pad S20224 ![0] ![224] ![0] (shapeCast S20000 (extractStridedSlice S20000x1 ![0, 1] (m ((SparseCore.T d).loc main_arg0) : Vec F S20000x4 .f32) slices_S20000x4_S20000x1_0_1) shapeCasts_S20000x1_S20000 : Vec F S20000 .f32) (sitofp .f32 (constantI S_ 32 0#32)) pads_S20000_S20224_02240 h_S_ := by
  unfold V1 opsPre
  after_reads_simp
  rfl

theorem V1_v8 (d : Dev nD) : (V1 m d (dr main_v8) : Vec F S20224 .f32)
    = pad S20224 ![0] ![224] ![0] (shapeCast S20000 (extractStridedSlice S20000x1 ![0, 2] (m ((SparseCore.T d).loc main_arg0) : Vec F S20000x4 .f32) slices_S20000x4_S20000x1_0_2) shapeCasts_S20000x1_S20000 : Vec F S20000 .f32) (sitofp .f32 (constantI S_ 32 0#32)) pads_S20000_S20224_02240 h_S_ := by
  unfold V1 opsPre
  after_reads_simp
  rfl

theorem V1_v11 (d : Dev nD) : (V1 m d (dr main_v11) : Vec F S20224 .f32)
    = pad S20224 ![0] ![224] ![0] (shapeCast S20000 (extractStridedSlice S20000x1 ![0, 3] (m ((SparseCore.T d).loc main_arg0) : Vec F S20000x4 .f32) slices_S20000x4_S20000x1_0_3) shapeCasts_S20000x1_S20000 : Vec F S20000 .f32) (sitofp .f32 (constantI S_ 32 0#32)) pads_S20000_S20224_02240 h_S_ := by
  unfold V1 opsPre
  after_reads_simp
  rfl

/-- Before the padding, -/
theorem pad_in {α : Type} (x : S20000.Idx → α) (v : S_.Idx → α) (p : ℕ) (hp : p < 20000) :
    pad S20224 ![0] ![224] ![0] x v pads_S20000_S20224_02240 h_S_ (ValueIdx.ix1 ⟨p, by omega⟩) = x (ValueIdx.ix1 ⟨p, hp⟩) := by
  unfold pad
  rw [dif_pos fun a => by
    obtain rfl : a = (0 : Fin 1) := Subsingleton.elim _ _
    show 0 ≤ p ∧ (p - 0) % (0 + 1) = 0 ∧ (p - 0) / (0 + 1) < 20000
    omega]
  refine congrArg x (funext fun a => Fin.ext ?_)
  obtain rfl : a = (0 : Fin 1) := Subsingleton.elim _ _
  show (p - 0) / (0 + 1) = p
  omega

/-- and in it. -/
theorem pad_out {α : Type} (x : S20000.Idx → α) (v : S_.Idx → α) (p : ℕ) (hp : p < 20224) (h : 20000 ≤ p) :
    pad S20224 ![0] ![224] ![0] x v pads_S20000_S20224_02240 h_S_ (ValueIdx.ix1 ⟨p, hp⟩) = v (Shape.Idx.first h_S_) := by
  unfold pad
  rw [dif_neg fun hin => by
    have h2 : (p - 0) / (0 + 1) < 20000 := (hin (0 : Fin 1)).2.2
    omega]

/-- A column of the boxes. -/
theorem col_at {α : Type} (x : S20000x4.Idx → α) (c : Fin 4) (h : S20000x4.Slices ![0, c.val] S20000x1) (p : Fin 20000) :
    shapeCast S20000 (extractStridedSlice S20000x1 ![0, c.val] x h) shapeCasts_S20000x1_S20000 (ValueIdx.ix1 p) = x (ValueIdx.ix2 p c) := by
  pointwise
  rfl

end Cert.Proof.Nms

end

end
-- ==== Proof.Row.lean ====
/-
  The two arguments as rows: a box with its score, and the keys as numbers.
-/
module

public import Idealize.ShloMosaic.Lib.ValueIdxCore
public import Idealize.ShloMosaic.PureOps.Ideal.Laws

@[expose] public section

noncomputable section

namespace Cert.Proof.Nms

open Idealize.ShloMosaic

/-- The keys as numbers. -/
def keys (x : (⟨1, ![20000]⟩ : Shape).Idx → BitVec 32) (p : ℕ) : ℤ := if h : p < 20000 then (x (ValueIdx.ix1 (⟨p, h⟩ : Fin 20000))).toInt else -1

theorem keys_at (x : (⟨1, ![20000]⟩ : Shape).Idx → BitVec 32) (p : Fin 20000) : keys x p.val = (x (ValueIdx.ix1 p)).toInt := dif_pos p.isLt

/-- A row of the two arguments: a box and its score. -/
def rowIn (x : (⟨2, ![20000, 4]⟩ : Shape).Idx → EReal) (y : (⟨1, ![20000]⟩ : Shape).Idx → BitVec 32) (p i : ℕ) : EReal :=
  if h : p < 20000 then if h' : i < 4 then x (ValueIdx.ix2 (⟨p, h⟩ : Fin 20000) (⟨i, h'⟩ : Fin 4)) else Ideal.ofBits .f32 (y (ValueIdx.ix1 (⟨p, h⟩ : Fin 20000))) else 0

end Cert.Proof.Nms

end

end
-- ==== Proof.KerIn.lean ====
/-
  The rows the tiles are given are the arguments' rows.
-/
module

public import proofs.«01_k».proof.Proof.KerArgs
public import proofs.«01_k».proof.Proof.Row

@[expose] public section

noncomputable section

namespace Cert.Proof.Nms

open Cert.KernelIdeal Cert.KernelIdeal.Gen
open Idealize.ShloMosaic

variable (m : (ℓ : Loc nD τ sig) → Buf (Elt Ideal) ℓ) (d : Dev nD)

/-- The boxes. -/
abbrev kArg0 : FVec Ideal S20000x4 .f32 := m ((SparseCore.T d).loc main_arg0)
/-- The keys. -/
abbrev kArg1 : IVec S20000 32 := m ((SparseCore.T d).loc main_arg1)

theorem ky_in (p : ℕ) (hp : p < 20000) : ky (jn (args m) d) p = kArg1 m d (ValueIdx.ix1 (⟨p, hp⟩ : Fin 20000)) := by
  have e : ky (jn (args m) d) p = at_ (slab (V1 m d (dr main_v12) : Vec Ideal S20224 .i32)) p := rfl
  rw [e, slab_at _ p (by omega), V1_v12]
  exact pad_in _ _ p hp

theorem ky_out (p : ℕ) (hp : p < 20224) (h : 20000 ≤ p) : ky (jn (args m) d) p = 4294967295#32 := by
  have e : ky (jn (args m) d) p = at_ (slab (V1 m d (dr main_v12) : Vec Ideal S20224 .i32)) p := rfl
  rw [e, slab_at _ p (by omega), V1_v12]
  exact pad_out _ _ p hp h

theorem kyi_keys (p : ℕ) (hp : p < 20224) : kyi (jn (args m) d) p = keys (kArg1 m d) p := by
  unfold kyi keys
  split
  · rename_i h
    rw [ky_in m d p h]
  · rename_i h
    rw [ky_out m d p hp (by omega)]
    decide

theorem bx_row (p : ℕ) (hp : p < 20000) (c : ℕ) (hc : c < 5) : (bx (jn (args m) d) c p : EReal) = rowIn (kArg0 m d) (kArg1 m d) p c := by
  unfold rowIn
  rw [dif_pos hp]
  obtain rfl | rfl | rfl | rfl | rfl : c = 0 ∨ c = 1 ∨ c = 2 ∨ c = 3 ∨ c = 4 := by omega
  · have e : bx (jn (args m) d) 0 p = at_ (slab (V1 m d (dr main_v2) : Vec Ideal S20224 .f32)) p := rfl
    rw [e, slab_at _ p (by omega), V1_v2, pad_in _ _ p hp]
    exact col_at _ 0 _ _
  · have e : bx (jn (args m) d) 1 p = at_ (slab (V1 m d (dr main_v5) : Vec Ideal S20224 .f32)) p := rfl
    rw [e, slab_at _ p (by omega), V1_v5, pad_in _ _ p hp]
    exact col_at _ 1 _ _
  · have e : bx (jn (args m) d) 2 p = at_ (slab (V1 m d (dr main_v8) : Vec Ideal S20224 .f32)) p := rfl
    rw [e, slab_at _ p (by omega), V1_v8, pad_in _ _ p hp]
    exact col_at _ 2 _ _
  · have e : bx (jn (args m) d) 3 p = at_ (slab (V1 m d (dr main_v11) : Vec Ideal S20224 .f32)) p := rfl
    rw [e, slab_at _ p (by omega), V1_v11, pad_in _ _ p hp]
    exact col_at _ 3 _ _
  · have e : bx (jn (args m) d) 4 p = at_ (slab (V1 m d (dr main_v13) : Vec Ideal S20224 .f32)) p := rfl
    rw [e, slab_at _ p (by omega), V1_v13]
    exact congrArg (Ideal.ofBits .f32) (pad_in _ _ p hp)

end Cert.Proof.Nms

end

end
-- ==== Proof.Drawn.lean ====
/-
  What the precondition says of each box and each key.
-/
module

public import proofs.«01_k».proof.Pre_drawn
public import Idealize.ShloMosaic.Lib.ReduceAll
public import Idealize.ShloMosaic.Lib.ValueIdxCore
public import proofs.«01_k».proof.Proof.Count

@[expose] public section

noncomputable section

namespace Cert.Proof.Nms

open Cert.Pre_drawn
open Idealize.ShloMosaic

theorem preFacts : Cert.Pre_drawn.Facts where
  bcast_S_S20000x4 := by decide
  slices_S20000x4_S20000x2_0_2 := by decide
  slices_S20000x4_S20000x2_0_0 := by decide
  bcast_S_S20000x2 := by decide
  bcast_S_S20000 := by decide
  reducesTo_S20000x4_S_d0_1 := by decide
  h_S_ := by decide
  reducesTo_S20000x2_S_d0_1 := by decide
  reducesTo_S20000_S_d0 := by decide

/-- The range the arguments are drawn from. -/
structure Ranged (x : S20000x4.Idx → EReal) (y : S20000.Idx → BitVec 32) : Prop where
  low : ∀ (p : Fin 20000) (c : Fin 4), Ideal.ofBits .f32 0x00000000#32 ≤ x (ValueIdx.ix2 p c)
  high : ∀ (p : Fin 20000) (c : Fin 4), x (ValueIdx.ix2 p c) ≤ Ideal.ofBits .f32 0x44480000#32
  wide : ∀ p : Fin 20000, Ideal.ofBits .f32 0x3F000000#32 ≤ x (ValueIdx.ix2 p 2) - x (ValueIdx.ix2 p 0)
  tall : ∀ p : Fin 20000, Ideal.ofBits .f32 0x3F000000#32 ≤ x (ValueIdx.ix2 p 3) - x (ValueIdx.ix2 p 1)
  key : ∀ p : Fin 20000, 0 ≤ (y (ValueIdx.ix1 p)).toInt ∧ (y (ValueIdx.ix1 p)).toInt < 1065353216

theorem cmp_oge (x y : EReal) : Ideal.cmp .oge x y = 1#1 ↔ y ≤ x := by
  unfold Ideal.cmp
  by_cases h : y ≤ x <;> simp [h]

theorem cmp_ole (x y : EReal) : Ideal.cmp .ole x y = 1#1 ↔ x ≤ y := by
  unfold Ideal.cmp
  by_cases h : x ≤ y <;> simp [h]

theorem ranged [Cert.Pre_drawn.Facts] (x : FVec Ideal S20000x4 .f32) (y : IVec S20000 32) (h : fn (F := Ideal) x y = fun _ => 1#1) : Ranged x y := by
  haveI : Subsingleton S_.Idx := ⟨fun a b => funext fun i => i.elim0⟩
  unfold fn fn_part1 at h
  dsimp only at h
  have h0 := congrFun h (fun a => a.elim0)
  obtain ⟨h1, hk⟩ := (and_iff _ _).mp h0
  obtain ⟨hb, hw⟩ := (and_iff _ _).mp h1
  have hb' := fun e => Host.reduce_andi_all _ _ _ _ _ hb e
  have hw' := fun e => Host.reduce_andi_all _ _ _ _ _ hw e
  have hk' := fun e => Host.reduce_andi_all _ _ _ _ _ hk e
  refine ⟨fun p c => ?_, fun p c => ?_, fun p => ?_, fun p => ?_, fun p => ⟨?_, ?_⟩⟩
  · exact (cmp_oge _ _).mp ((and_iff _ _).mp (hb' (ValueIdx.ix2 p c))).1
  · exact (cmp_ole _ _).mp ((and_iff _ _).mp (hb' (ValueIdx.ix2 p c))).2
  · have e := (cmp_oge _ _).mp (hw' (ValueIdx.ix2 p (0 : Fin 2)))
    refine e.trans_eq (congrArg₂ (fun a b : EReal => a - b) (congrArg x (funext fun a => Fin.ext ?_)) (congrArg x (funext fun a => Fin.ext ?_)))
    · match a with
      | ⟨0, _⟩ => exact Nat.zero_add _
      | ⟨1, _⟩ => rfl
    · match a with
      | ⟨0, _⟩ => exact Nat.zero_add _
      | ⟨1, _⟩ => rfl
  · have e := (cmp_oge _ _).mp (hw' (ValueIdx.ix2 p (1 : Fin 2)))
    refine e.trans_eq (congrArg₂ (fun a b : EReal => a - b) (congrArg x (funext fun a => Fin.ext ?_)) (congrArg x (funext fun a => Fin.ext ?_)))
    · match a with
      | ⟨0, _⟩ => exact Nat.zero_add _
      | ⟨1, _⟩ => rfl
    · match a with
      | ⟨0, _⟩ => exact Nat.zero_add _
      | ⟨1, _⟩ => rfl
  · exact (sge_iff _ _).mp ((and_iff _ _).mp (hk' (ValueIdx.ix1 p))).1
  · exact (slt_iff _ _).mp ((and_iff _ _).mp (hk' (ValueIdx.ix1 p))).2

end Cert.Proof.Nms

end

end
-- ==== Proof.Overlap.lean ====
/-
  When a picked box takes another away, on extended reals.
-/
module

public import proofs.«01_k».proof.Proof.Pick
public import Idealize.ShloMosaic.PureOps.Ideal
public import Idealize.ShloMosaic.PureOps.Ideal.Laws
public import Mathlib.Tactic.Linarith
public import Mathlib.Tactic.NormNum

@[expose] public section

noncomputable section

namespace Cert.Proof.Nms

open Idealize.ShloMosaic

/-- The area two boxes share; a box is its corners. -/
def inter (a b : ℕ → EReal) : EReal :=
  max (min (a 2) (b 2) - max (a 0) (b 0)) (Ideal.ofBits .f32 0x00000000#32) * max (min (a 3) (b 3) - max (a 1) (b 1)) (Ideal.ofBits .f32 0x00000000#32)

/-- The shared area over the joint one. -/
def quot (a b : ℕ → EReal) : EReal :=
  Ideal.div (inter a b) (((a 2 - a 0) * (a 3 - a 1) + (b 2 - b 0) * (b 3 - b 1) - inter a b) + Ideal.ofBits .f32 0x322BCC77#32)

/-- The box `a`, picked, takes `b` away. -/
def takes (a b : ℕ → EReal) : Prop := Ideal.ofBits .f32 0x3F000000#32 < quot a b

theorem cmp_ogt (x y : EReal) : Ideal.cmp .ogt x y = 1#1 ↔ y < x := by
  unfold Ideal.cmp
  by_cases h : y < x <;> simp [h]

theorem hits_iff (I : Inp Ideal) (g p : ℕ) : hits I g p ↔ takes (fun c => bx I c g) (fun c => bx I c p) := by
  have e : hits I g p ↔ (if Ideal.cmp .ogt (Ideal.div
      (max (min (bx I 2 p) (bx I 2 g) - max (bx I 0 p) (bx I 0 g)) (Ideal.ofBits .f32 0x00000000#32) * max (min (bx I 3 p) (bx I 3 g) - max (bx I 1 p) (bx I 1 g)) (Ideal.ofBits .f32 0x00000000#32))
      (((bx I 2 g - bx I 0 g) * (bx I 3 g - bx I 1 g) + (bx I 2 p - bx I 0 p) * (bx I 3 p - bx I 1 p) -
        (max (min (bx I 2 p) (bx I 2 g) - max (bx I 0 p) (bx I 0 g)) (Ideal.ofBits .f32 0x00000000#32) * max (min (bx I 3 p) (bx I 3 g) - max (bx I 1 p) (bx I 1 g)) (Ideal.ofBits .f32 0x00000000#32)))
        + Ideal.ofBits .f32 0x322BCC77#32)) (Ideal.ofBits .f32 0x3F000000#32) = 1#1 then 4294967295#32 else 0#32) = 4294967295#32 := Iff.rfl
  have he : ∀ c : BitVec 1, (if c = 1#1 then 4294967295#32 else 0#32) = 4294967295#32 ↔ c = 1#1 := by decide
  rw [e, he, cmp_ogt]
  unfold takes quot inter
  simp only [min_comm (bx I _ p), max_comm (bx I _ p)]

theorem half_val : Ideal.ofBits .f32 0x3F000000#32 = ((1 / 2 : ℝ) : EReal) := by
  have h1 : BitVec.extractLsb' (8 + 23) 1 0x3F000000#32 = 0#1 := by decide
  have h2 : BitVec.extractLsb' 23 8 0x3F000000#32 = 126#8 := by decide
  have h3 : BitVec.extractLsb' 0 23 0x3F000000#32 = 0#23 := by decide
  simp only [Ideal.ofBits, Ideal.ieee, h1, h2, h3]
  norm_num

theorem eps_val : ∃ e : ℝ, Ideal.ofBits .f32 0x322BCC77#32 = (e : EReal) ∧ 0 < e ∧ e < 1 / 8 := by
  refine ⟨11258999 * (2 : ℝ) ^ (-50 : ℤ), ?_, by positivity, by norm_num⟩
  have h1 : BitVec.extractLsb' (8 + 23) 1 0x322BCC77#32 = 0#1 := by decide
  have h2 : BitVec.extractLsb' 23 8 0x322BCC77#32 = 100#8 := by decide
  have h3 : BitVec.extractLsb' 0 23 0x322BCC77#32 = 2870391#23 := by decide
  simp only [Ideal.ofBits, Ideal.ieee, h1, h2, h3]
  norm_num

theorem big_val : Ideal.ofBits .f32 0x44480000#32 = ((800 : ℝ) : EReal) := by
  have h1 : BitVec.extractLsb' (8 + 23) 1 0x44480000#32 = 0#1 := by decide
  have h2 : BitVec.extractLsb' 23 8 0x44480000#32 = 136#8 := by decide
  have h3 : BitVec.extractLsb' 0 23 0x44480000#32 = 4718592#23 := by decide
  simp only [Ideal.ofBits, Ideal.ieee, h1, h2, h3]
  norm_num

/-- A box that is not small takes itself away. -/
theorem takes_self (a : ℕ → EReal) (h0 : ∀ c, c < 4 → Ideal.ofBits .f32 0x00000000#32 ≤ a c) (h1 : ∀ c, c < 4 → a c ≤ Ideal.ofBits .f32 0x44480000#32)
    (hx : Ideal.ofBits .f32 0x3F000000#32 ≤ a 2 - a 0) (hy : Ideal.ofBits .f32 0x3F000000#32 ≤ a 3 - a 1) : takes a a := by
  have hr : ∀ c, c < 4 → ∃ r : ℝ, a c = r := fun c hc => by
    refine ⟨(a c).toReal, (EReal.coe_toReal ?_ ?_).symm⟩
    · have := h1 c hc; rw [big_val] at this
      exact ne_of_lt (lt_of_le_of_lt this (EReal.coe_lt_top _))
    · have := h0 c hc; rw [Ideal.ofBits_zero_f32] at this
      exact ne_of_gt (lt_of_lt_of_le EReal.bot_lt_zero this)
  obtain ⟨a0, e0⟩ := hr 0 (by decide)
  obtain ⟨a1, e1⟩ := hr 1 (by decide)
  obtain ⟨a2, e2⟩ := hr 2 (by decide)
  obtain ⟨a3, e3⟩ := hr 3 (by decide)
  obtain ⟨e, he, he0, he1⟩ := eps_val
  rw [half_val, e0, e2, ← EReal.coe_sub, EReal.coe_le_coe_iff] at hx
  rw [half_val, e1, e3, ← EReal.coe_sub, EReal.coe_le_coe_iff] at hy
  have hA : (1 / 4 : ℝ) ≤ (a2 - a0) * (a3 - a1) := by nlinarith
  have hi : inter a a = (((a2 - a0) * (a3 - a1) : ℝ) : EReal) := by
    unfold inter
    rw [min_self, max_self, min_self, max_self, Ideal.ofBits_zero_f32, e0, e1, e2, e3, ← EReal.coe_sub, ← EReal.coe_sub,
      max_eq_left (EReal.coe_nonneg.mpr (by linarith)), max_eq_left (EReal.coe_nonneg.mpr (by linarith)), ← EReal.coe_mul]
  unfold takes quot
  rw [hi, half_val, he, e0, e1, e2, e3]
  simp only [← EReal.coe_sub, ← EReal.coe_mul, ← EReal.coe_add]
  set A := (a2 - a0) * (a3 - a1) with hAd
  have hp : A + A - A + e ≠ 0 := by linarith
  unfold Ideal.div
  rw [if_neg (by exact_mod_cast hp), ← EReal.coe_inv, ← EReal.coe_mul, EReal.coe_lt_coe_iff]
  have hpos : 0 < A + A - A + e := by linarith
  rw [← div_eq_mul_inv, lt_div_iff₀ hpos]
  linarith

end Cert.Proof.Nms

end

end
-- ==== Proof.TopK.lean ====
/-
  The reference's top k: the sorted places, and the keys as numbers.
-/
module

public import proofs.«01_k».proof.Proof.Rank
public import proofs.«01_k».proof.Proof.Gen.ReferenceIdeal
public import Idealize.ShloMosaic.Lib.SortFacts
public import Idealize.ShloMosaic.Lib.TotalOrder
public import Idealize.ShloMosaic.Lib.ValueIdxCore
public import Idealize.ShloMosaic.PureOps.Ideal.Laws

@[expose] public section

noncomputable section

namespace Cert.Proof.Ref

open Cert.ReferenceIdeal
open Idealize.ShloMosaic Idealize.ShloMosaic.ValueIdx
open Cert.Proof.Nms (Prec)

/-! ## The stable sort -/

section Sorting

variable {n : ℕ} (key : ℕ → ℤ)

/-- Larger keys sort before. -/
def bef (k k' : Fin n) : Bool := decide (key k'.val < key k.val)

theorem insert_prec (a : Fin n) (l : List (Fin n)) (hl : l.Pairwise fun b c => Prec key b.val c.val) (ha : ∀ b ∈ l, a < b) :
    (insertBefore (bef key) a l).Pairwise fun b c => Prec key b.val c.val := by
  induction l with
  | nil => exact List.pairwise_singleton _ _
  | cons b l ih =>
    rw [List.pairwise_cons] at hl
    have hab : a.val < b.val := ha b List.mem_cons_self
    unfold insertBefore
    by_cases h : bef key b a = true
    · rw [if_pos h, List.pairwise_cons]
      refine ⟨fun c hc => ?_, ih hl.2 fun c hc => ha c (List.mem_cons_of_mem _ hc)⟩
      rcases List.mem_cons.mp ((perm_insertBefore _ a l).mem_iff.mp hc) with rfl | hc
      · exact Or.inl (of_decide_eq_true h)
      · exact hl.1 c hc
    · rw [if_neg h, List.pairwise_cons]
      have h' : ¬ key a.val < key b.val := fun h2 => h (decide_eq_true h2)
      refine ⟨fun c hc => ?_, List.pairwise_cons.mpr hl⟩
      have hac : a.val < c.val := ha c hc
      unfold Prec
      rcases List.mem_cons.mp hc with rfl | hc
      · omega
      · have h2 := hl.1 c hc
        unfold Prec at h2
        omega

theorem sort_prec (l : List (Fin n)) (hl : l.Pairwise (· < ·)) : (stableSort (bef key) l).Pairwise fun b c => Prec key b.val c.val := by
  induction l with
  | nil => exact List.Pairwise.nil
  | cons a l ih =>
    rw [List.pairwise_cons] at hl
    unfold stableSort
    exact insert_prec key a _ (ih hl.2) fun b hb => hl.1 b ((perm_stableSort _ l).mem_iff.mp hb)

end Sorting

variable (n : ℕ) (key : ℕ → ℤ)

/-- The place that sorts to `j`. -/
def rho (j : ℕ) : ℕ := if h : j < n then (sortedFrom (n := n) (bef key) ⟨j, h⟩).val else 0

theorem rho_eq (j : Fin n) : rho n key j.val = (sortedFrom (bef key) j).val := dif_pos j.isLt

theorem rho_lt (j : ℕ) (hj : j < n) : rho n key j < n := by
  rw [rho_eq n key ⟨j, hj⟩]; exact Fin.isLt _

theorem rho_prec (i j : ℕ) (hij : i < j) (hj : j < n) : Prec key (rho n key i) (rho n key j) := by
  rw [rho_eq n key ⟨i, by omega⟩, rho_eq n key ⟨j, hj⟩]
  exact List.pairwise_iff_get.mp (sort_prec key (List.finRange n) (List.pairwise_lt_finRange _)) _ _ (Fin.lt_def.mpr hij)

theorem rho_onto (p : ℕ) (hp : p < n) : ∃ j, j < n ∧ rho n key j = p := by
  obtain ⟨j, hj⟩ := sortedFrom_surjective (bef (n := n) key) ⟨p, hp⟩
  exact ⟨j.val, j.isLt, by rw [rho_eq, hj]⟩

/-! ## The top k -/

theorem along1 {n : ℕ} (j : (⟨1, ![n]⟩ : Shape).Idx) (k : Fin n) : Shape.Idx.along (s := ⟨1, ![n]⟩) j (0 : Fin 1) k = ix1 k := by
  funext a
  obtain rfl : a = (0 : Fin 1) := Subsingleton.elim _ _
  exact Function.update_self _ _ _

theorem topK_at {k : ℕ} {α : Type} (gt : α → α → BitVec 1) (x : (⟨1, ![n]⟩ : Shape).Idx → α) (hs : (⟨1, ![n]⟩ : Shape).Slices (fun _ => 0) ⟨1, ![k]⟩) (hk : k ≤ n)
    (hx : ∀ i i' : Fin n, gt (x (ix1 i)) (x (ix1 i')) = 1#1 ↔ key i'.val < key i.val) (j : Fin k) :
    (Host.topK ⟨1, ![k]⟩ 0 gt x hs).1 (ix1 j) = x (ix1 ⟨rho n key j.val, rho_lt n key _ (Nat.lt_of_lt_of_le j.isLt hk)⟩)
      ∧ (Host.topK ⟨1, ![k]⟩ 0 gt x hs).2 (ix1 j) = BitVec.ofNat 32 (rho n key j.val) := by
  have hj : j.val < n := Nat.lt_of_lt_of_le j.isLt hk
  have hs : ∀ j' : (⟨1, ![n]⟩ : Shape).Idx, sortedFrom (n := n) (fun i i' => gt (x (Shape.Idx.along (s := ⟨1, ![n]⟩) j' (0 : Fin 1) i)) (x (Shape.Idx.along (s := ⟨1, ![n]⟩) j' (0 : Fin 1) i')) == 1#1) = sortedFrom (bef key) := fun j' =>
    congrArg sortedFrom (by
      funext i i'
      refine (congrArg₂ (fun a b => gt (x a) (x b) == 1#1) (along1 j' i) (along1 j' i')).trans ?_
      show (gt (x (ix1 i)) (x (ix1 i')) == 1#1) = _
      rw [Bool.eq_iff_iff, beq_iff_eq, hx]
      exact decide_eq_true_iff.symm)
  have hr : (⟨rho n key j.val, rho_lt n key _ hj⟩ : Fin n) = sortedFrom (bef key) ⟨j.val, hj⟩ := Fin.ext (rho_eq n key ⟨j.val, hj⟩)
  have hr' : rho n key j.val = (sortedFrom (bef key) (⟨j.val, hj⟩ : Fin n)).val := congrArg Fin.val hr
  constructor
  · rw [hr]
    unfold Host.topK Host.sort2 extractStridedSlice
    simp only [show (0 : ℕ) < (⟨1, ![n]⟩ : Shape).rank from Nat.one_pos, dif_pos]
    refine (congrArg x (along1 _ _)).trans ?_
    refine congrArg x (congrArg ix1 ?_)
    exact (congrFun (hs _) _).trans (congrArg _ (Fin.ext (Nat.zero_add _)))
  · rw [hr']
    unfold Host.topK Host.sort2 extractStridedSlice
    simp only [show (0 : ℕ) < (⟨1, ![n]⟩ : Shape).rank from Nat.one_pos, dif_pos]
    unfold iotaInDim
    refine congrArg (fun q : Fin n => BitVec.ofNat 32 q.val) ((congrFun (along1 _ _) (0 : Fin 1)).trans ?_)
    exact (congrFun (hs _) _).trans (congrArg _ (Fin.ext (Nat.zero_add _)))

/-! ## The keys as numbers -/

theorem small_facts {a : BitVec 32} (h0 : 0 ≤ a.toInt) (h1 : a.toInt < 1065353216) : ¬TotalOrder.IsNaN 8 23 a ∧ a.msb = false ∧ a.toNat < 1065353216 ∧ a.toInt = a.toNat := by
  have hn : a.toInt = a.toNat ∧ a.toNat < 1065353216 := by rw [BitVec.toInt_eq_toNat_cond] at *; have := a.isLt; split at h0 <;> omega
  refine ⟨?_, ?_, hn.2, hn.1⟩
  · rintro ⟨h, -⟩
    rw [TotalOrder.expo_eq] at h
    omega
  · rw [BitVec.msb_eq_decide]; exact decide_eq_false (by omega)

theorem ofBits_lt {a b : BitVec 32} (ha0 : 0 ≤ a.toInt) (ha1 : a.toInt < 1065353216) (hb0 : 0 ≤ b.toInt) (hb1 : b.toInt < 1065353216) :
    Ideal.ofBits .f32 a < Ideal.ofBits .f32 b ↔ a.toInt < b.toInt := by
  obtain ⟨ha, ma, na, ea⟩ := small_facts ha0 ha1
  obtain ⟨hb, mb, nb, eb⟩ := small_facts hb0 hb1
  have h := TotalOrder.lt_iff (e := 8) (m := 23) ha hb fun hz => hz.2.2 (ma.trans mb.symm)
  rw [TotalOrder.toNat_totalOrderKey (e := 8) (m := 23) a, TotalOrder.toNat_totalOrderKey (e := 8) (m := 23) b, ma, mb] at h
  refine Iff.trans h.symm ?_
  rw [ea, eb]
  simp only [Bool.false_eq_true, if_false]
  omega

theorem ofBits_ne_bot {a : BitVec 32} (h0 : 0 ≤ a.toInt) (h1 : a.toInt < 1065353216) : ⊥ < Ideal.ofBits .f32 a := by
  rcases eq_or_lt_of_le h0 with h | h
  · obtain rfl : a = 0#32 := BitVec.eq_of_toInt_eq h.symm
    show (⊥ : EReal) < Ideal.ofBits .f32 0x00000000#32
    rw [Ideal.ofBits_zero_f32]; exact EReal.bot_lt_zero
  · exact lt_of_le_of_lt bot_le ((ofBits_lt (a := 0#32) (by decide) (by decide) h0 h1).mpr h)

end Cert.Proof.Ref

end

end
-- ==== Proof.RefStep.lean ====
/-
  One trip of the reference's loop, element by element: the first of the largest scores left, its row, who is left after it, and the row
  written.
-/
module

public import proofs.«01_k».proof.Proof.TopK
public import proofs.«01_k».proof.Proof.Overlap
public import proofs.«01_k».proof.Proof.Gen.ReferenceIdeal.Run
public import Idealize.ShloMosaic.Lib.PointwiseCore
public import Idealize.ShloMosaic.Lib.WordCmp

@[expose] public section

noncomputable section

namespace Cert.Proof.Ref

open Cert.ReferenceIdeal Cert.ReferenceIdeal.Gen Cert.ReferenceIdeal.Value
open Idealize.ShloMosaic
open Cert.Proof.Nms (takes inter quot cmp_ogt)

/-! ## The reductions -/

theorem foldl_max {ι : Type} (g : ι → EReal) (l : List ι) (a : EReal) :
    a ≤ l.foldl (fun r i => max r (g i)) a ∧ (∀ i ∈ l, g i ≤ l.foldl (fun r i => max r (g i)) a)
      ∧ (l.foldl (fun r i => max r (g i)) a = a ∨ ∃ i, l.foldl (fun r i => max r (g i)) a = g i) := by
  induction l generalizing a with
  | nil => exact ⟨le_refl _, fun i hi => absurd hi (List.not_mem_nil), Or.inl rfl⟩
  | cons b l ih =>
    obtain ⟨h1, h2, h3⟩ := ih (max a (g b))
    rw [List.foldl_cons]
    refine ⟨(le_max_left _ _).trans h1, fun i hi => ?_, ?_⟩
    · rcases List.mem_cons.mp hi with rfl | hi
      · exact (le_max_right _ _).trans h1
      · exact h2 i hi
    · rcases h3 with h3 | h3
      · rw [h3]
        rcases max_choice a (g b) with h | h
        · exact Or.inl h
        · exact Or.inr ⟨b, h⟩
      · exact Or.inr h3

theorem minsi_cases (a b : BitVec 32) : IntOp.minsi a b = a ∧ a.toInt ≤ b.toInt ∨ IntOp.minsi a b = b ∧ b.toInt ≤ a.toInt := by
  unfold IntOp.minsi
  rw [BitVec.slt_eq_decide]
  by_cases h : a.toInt < b.toInt
  · left; simp [h]; omega
  · right; simp [h]; omega

theorem foldl_min {ι : Type} (g : ι → BitVec 32) (l : List ι) (a : BitVec 32) :
    (l.foldl (fun r i => IntOp.minsi r (g i)) a).toInt ≤ a.toInt ∧ (∀ i ∈ l, (l.foldl (fun r i => IntOp.minsi r (g i)) a).toInt ≤ (g i).toInt)
      ∧ (l.foldl (fun r i => IntOp.minsi r (g i)) a = a ∨ ∃ i, l.foldl (fun r i => IntOp.minsi r (g i)) a = g i) := by
  induction l generalizing a with
  | nil => exact ⟨le_refl _, fun i hi => absurd hi (List.not_mem_nil), Or.inl rfl⟩
  | cons b l ih =>
    obtain ⟨h1, h2, h3⟩ := ih (IntOp.minsi a (g b))
    rw [List.foldl_cons]
    have hc := minsi_cases a (g b)
    have hle : (IntOp.minsi a (g b)).toInt ≤ a.toInt ∧ (IntOp.minsi a (g b)).toInt ≤ (g b).toInt := by
      rcases hc with ⟨h, h'⟩ | ⟨h, h'⟩ <;> rw [h] <;> exact ⟨by omega, by omega⟩
    refine ⟨h1.trans hle.1, fun i hi => ?_, ?_⟩
    · rcases List.mem_cons.mp hi with rfl | hi
      · exact h1.trans hle.2
      · exact h2 i hi
    · rcases h3 with h3 | h3
      · rw [h3]
        rcases hc with h | h
        · exact Or.inl h.1
        · exact Or.inr ⟨b, h.1⟩
      · exact Or.inr h3

section Reduce

variable {s t u : Shape} {axes : List (Fin s.rank)} [Subsingleton t.Idx]

theorem mem_all (h : s.ReducesTo axes t) (j : t.Idx) (i : s.Idx) : s.rowMajor i ∈ (List.finRange s.numel).filter fun n => h.drop (s.rowMajor.symm n) = j :=
  List.mem_filter.mpr ⟨List.mem_finRange _, decide_eq_true (Subsingleton.elim _ _)⟩

theorem reduce_max (x : s.Idx → EReal) (init : u.Idx → EReal) (h : s.ReducesTo axes t) (hu : 0 < u.numel) (j : t.Idx) :
    (∀ i, x i ≤ Host.reduce max x init h hu j) ∧ (Host.reduce max x init h hu j = init (Shape.Idx.first hu) ∨ ∃ i, Host.reduce max x init h hu j = x i) := by
  obtain ⟨-, h2, h3⟩ := foldl_max (fun n => x (s.rowMajor.symm n)) ((List.finRange s.numel).filter fun n => h.drop (s.rowMajor.symm n) = j) (init (Shape.Idx.first hu))
  refine ⟨fun i => ?_, ?_⟩
  · have h4 := h2 _ (mem_all h j i)
    simp only [Equiv.symm_apply_apply] at h4
    exact h4
  · rcases h3 with h3 | ⟨i, h3⟩
    · exact Or.inl h3
    · exact Or.inr ⟨_, h3⟩

theorem reduce_min (x : s.Idx → BitVec 32) (init : u.Idx → BitVec 32) (h : s.ReducesTo axes t) (hu : 0 < u.numel) (j : t.Idx) :
    (∀ i, (Host.reduce IntOp.minsi x init h hu j).toInt ≤ (x i).toInt)
      ∧ (Host.reduce IntOp.minsi x init h hu j = init (Shape.Idx.first hu) ∨ ∃ i, Host.reduce IntOp.minsi x init h hu j = x i) := by
  obtain ⟨-, h2, h3⟩ := foldl_min (fun n => x (s.rowMajor.symm n)) ((List.finRange s.numel).filter fun n => h.drop (s.rowMajor.symm n) = j) (init (Shape.Idx.first hu))
  refine ⟨fun i => ?_, ?_⟩
  · have h4 := h2 _ (mem_all h j i)
    simp only [Equiv.symm_apply_apply] at h4
    exact h4
  · rcases h3 with h3 | ⟨i, h3⟩
    · exact Or.inl h3
    · exact Or.inr ⟨_, h3⟩

end Reduce

/-! ## The pieces of a trip -/

section Pieces

variable {F : FTy → Type} [FloatOps F]

/-- The first place of the largest score. -/
def firstOf (L : FVec F S2000 .f32) (P : IVec S2000 32) : IVec S_ 32 :=
  Host.reduce IntOp.minsi (select (cmpf .oeq L (broadcastInDim S2000 ![] bcast_S_S2000 (Host.reduce FloatOps.maximumf L (constant S_ .f32 0xFF800000#32) reducesTo_S2000_S_d0 h_S_))) P (broadcastInDim S2000 ![] bcast_S_S2000 (id (constantI S_ 32 2000#32)))) (constantI S_ 32 2147483647#32) reducesTo_S2000_S_d0 h_S_

/-- The row of a place. -/
def rowOf (R : FVec F S2000x5 .f32) (w : IVec S_ 32) : FVec F S1x5 .f32 :=
  Host.dynamicSlice S1x5 R (fun k => (((![select (cmpi .slt w (constantI S_ 32 0#32)) (addi w (constantI S_ 32 2000#32)) w, select (cmpi .slt (constantI S_ 32 0#32) (constantI S_ 32 0#32)) (addi (constantI S_ 32 0#32) (constantI S_ 32 5#32)) (constantI S_ 32 0#32)] : Fin 2 → IVec S_ 32)) k (Shape.Idx.first h_S_)).toInt) sliceFits_S2000x5_S1x5

/-- What the picked box shares with each. -/
def interOf (r : FVec F S1x5 .f32) (C : FVec F S2000x4 .f32) : FVec F S2000 .f32 :=
  mulf (maximumf (subf (minimumf (broadcastInDim S2000 ![0] bcast_S1_S2000_0 (shapeCast S1 (extractStridedSlice S1x1 ![0, 2] r slices_S1x5_S1x1_0_2) shapeCasts_S1x1_S1)) (shapeCast S2000 (extractStridedSlice S2000x1 ![0, 2] C slices_S2000x4_S2000x1_0_2) shapeCasts_S2000x1_S2000)) (maximumf (broadcastInDim S2000 ![0] bcast_S1_S2000_0 (shapeCast S1 (extractStridedSlice S1x1 ![0, 0] r slices_S1x5_S1x1_0_0) shapeCasts_S1x1_S1)) (shapeCast S2000 (extractStridedSlice S2000x1 ![0, 0] C slices_S2000x4_S2000x1_0_0) shapeCasts_S2000x1_S2000))) (broadcastInDim S2000 ![] bcast_S_S2000 (constant S_ .f32 0x00000000#32))) (maximumf (subf (minimumf (broadcastInDim S2000 ![0] bcast_S1_S2000_0 (shapeCast S1 (extractStridedSlice S1x1 ![0, 3] r slices_S1x5_S1x1_0_3) shapeCasts_S1x1_S1)) (shapeCast S2000 (extractStridedSlice S2000x1 ![0, 3] C slices_S2000x4_S2000x1_0_3) shapeCasts_S2000x1_S2000)) (maximumf (broadcastInDim S2000 ![0] bcast_S1_S2000_0 (shapeCast S1 (extractStridedSlice S1x1 ![0, 1] r slices_S1x5_S1x1_0_1) shapeCasts_S1x1_S1)) (shapeCast S2000 (extractStridedSlice S2000x1 ![0, 1] C slices_S2000x4_S2000x1_0_1) shapeCasts_S2000x1_S2000))) (broadcastInDim S2000 ![] bcast_S_S2000 (constant S_ .f32 0x00000000#32)))

/-- The scores left. -/
def leftOf (r : FVec F S1x5 .f32) (C : FVec F S2000x4 .f32) (w : IVec S_ 32) (P : IVec S2000 32) (L : FVec F S2000 .f32) : FVec F S2000 .f32 :=
  id (select (ori (cmpf .ogt (Host.divf (interOf r C) (addf (subf (addf (broadcastInDim S2000 ![0] bcast_S1_S2000_0 (mulf (subf (shapeCast S1 (extractStridedSlice S1x1 ![0, 2] r slices_S1x5_S1x1_0_2) shapeCasts_S1x1_S1) (shapeCast S1 (extractStridedSlice S1x1 ![0, 0] r slices_S1x5_S1x1_0_0) shapeCasts_S1x1_S1)) (subf (shapeCast S1 (extractStridedSlice S1x1 ![0, 3] r slices_S1x5_S1x1_0_3) shapeCasts_S1x1_S1) (shapeCast S1 (extractStridedSlice S1x1 ![0, 1] r slices_S1x5_S1x1_0_1) shapeCasts_S1x1_S1)))) (mulf (subf (shapeCast S2000 (extractStridedSlice S2000x1 ![0, 2] C slices_S2000x4_S2000x1_0_2) shapeCasts_S2000x1_S2000) (shapeCast S2000 (extractStridedSlice S2000x1 ![0, 0] C slices_S2000x4_S2000x1_0_0) shapeCasts_S2000x1_S2000)) (subf (shapeCast S2000 (extractStridedSlice S2000x1 ![0, 3] C slices_S2000x4_S2000x1_0_3) shapeCasts_S2000x1_S2000) (shapeCast S2000 (extractStridedSlice S2000x1 ![0, 1] C slices_S2000x4_S2000x1_0_1) shapeCasts_S2000x1_S2000)))) (interOf r C)) (broadcastInDim S2000 ![] bcast_S_S2000 (constant S_ .f32 0x322BCC77#32)))) (broadcastInDim S2000 ![] bcast_S_S2000 (constant S_ .f32 0x3F000000#32))) (cmpi .eq P (broadcastInDim S2000 ![] bcast_S_S2000 w))) (broadcastInDim S2000 ![] bcast_S_S2000 (id (constant S_ .f32 0xFF800000#32))) L)

/-- The rows written. -/
def outOf (O : FVec F S100x5 .f32) (r : FVec F S1x5 .f32) (T : IVec S_ 32) : FVec F S100x5 .f32 :=
  id (Host.dynamicUpdateSlice O r (fun k => (((![select (cmpi .slt T (constantI S_ 32 0#32)) (addi (id T) (constantI S_ 32 100#32)) T, select (cmpi .slt (constantI S_ 32 0#32) (constantI S_ 32 0#32)) (addi (constantI S_ 32 0#32) (constantI S_ 32 5#32)) (constantI S_ 32 0#32)] : Fin 2 → IVec S_ 32)) k (Shape.Idx.first h_S_)).toInt) updateFits_S100x5_S1x5)

end Pieces

instance : Subsingleton S_.Idx := ⟨fun a b => funext fun i => i.elim0⟩

theorem neg_inf : Ideal.ofBits .f32 0xFF800000#32 = ⊥ := by
  have h1 : BitVec.extractLsb' (8 + 23) 1 0xFF800000#32 = 1#1 := by decide
  have h2 : BitVec.extractLsb' 23 8 0xFF800000#32 = 255#8 := by decide
  have h3 : BitVec.extractLsb' 0 23 0xFF800000#32 = 0#23 := by decide
  simp only [Ideal.ofBits, Ideal.ieee, h1, h2, h3]
  norm_num

theorem toInt_nat (n : ℕ) (h : n < 2147483648) : (BitVec.ofNat 32 n).toInt = n := by
  rw [BitVec.toInt_eq_toNat_of_lt (by rw [BitVec.toNat_ofNat]; omega), BitVec.toNat_ofNat, Nat.mod_eq_of_lt (by omega)]

theorem eq1_iff (x y : EReal) : Ideal.cmp .oeq x y = 1#1 ↔ x = y := by
  unfold Ideal.cmp
  by_cases h : x = y <;> simp [h]

theorem firstOf_spec (L : FVec Ideal S2000 .f32) (P : IVec S2000 32) (hP : ∀ j : Fin 2000, P (ValueIdx.ix1 j) = BitVec.ofNat 32 j.val) :
    ∃ f : Fin 2000, (∀ i, firstOf L P i = BitVec.ofNat 32 f.val) ∧ (∀ j : Fin 2000, (L (ValueIdx.ix1 j) : EReal) ≤ L (ValueIdx.ix1 f))
      ∧ ∀ j : Fin 2000, j < f → (L (ValueIdx.ix1 j) : EReal) < L (ValueIdx.ix1 f) := by
  obtain ⟨M, hM⟩ : ∃ M : EReal, ∀ i, (Host.reduce FloatOps.maximumf L (constant S_ .f32 0xFF800000#32) reducesTo_S2000_S_d0 h_S_ : FVec Ideal S_ .f32) i = M :=
    ⟨_, fun i => congrArg _ (Subsingleton.elim i ValueIdx.ix0)⟩
  have h1 : (∀ i, (L i : EReal) ≤ M) ∧ (M = ⊥ ∨ ∃ i, M = L i) := by
    have h := reduce_max (fun i => (L i : EReal)) (constant (F := Ideal) S_ .f32 0xFF800000#32) reducesTo_S2000_S_d0 h_S_ ValueIdx.ix0
    have e : (Host.reduce max (fun i => (L i : EReal)) (constant (F := Ideal) S_ .f32 0xFF800000#32) reducesTo_S2000_S_d0 h_S_ : S_.Idx → EReal) ValueIdx.ix0 = M := hM ValueIdx.ix0
    rw [e] at h
    exact ⟨h.1, h.2.imp (fun h' => h'.trans neg_inf) id⟩
  have hat : ∃ j : Fin 2000, (L (ValueIdx.ix1 j) : EReal) = M := by
    rcases h1.2 with h | ⟨i, h⟩
    · exact ⟨⟨0, by decide⟩, le_antisymm (h1.1 _) (h ▸ bot_le)⟩
    · exact ⟨i 0, h ▸ congrArg L (ValueIdx.eq_ix1 i).symm⟩
  have hex : ∃ n, ∃ h : n < 2000, (L (ValueIdx.ix1 (⟨n, h⟩ : Fin 2000)) : EReal) = M := ⟨_, hat.choose.isLt, hat.choose_spec⟩
  classical
  obtain ⟨hf, hfM⟩ := Nat.find_spec hex
  have hmin : ∀ j : Fin 2000, (L (ValueIdx.ix1 j) : EReal) = M → Nat.find hex ≤ j.val := fun j hj => Nat.find_min' hex ⟨j.isLt, hj⟩
  refine ⟨⟨Nat.find hex, hf⟩, fun i => ?_, fun j => (h1.1 _).trans hfM.ge, fun j hj => (lt_of_le_of_ne (h1.1 _) fun h => absurd (hmin j h) (by have := Fin.lt_def.mp hj; simp only at this; omega)).trans_eq hfM.symm⟩
  have h2 := reduce_min (select (cmpf .oeq L (broadcastInDim S2000 ![] bcast_S_S2000 (Host.reduce FloatOps.maximumf L (constant S_ .f32 0xFF800000#32) reducesTo_S2000_S_d0 h_S_ : FVec Ideal S_ .f32))) P (broadcastInDim S2000 ![] bcast_S_S2000 (id (constantI S_ 32 2000#32)))) (constantI S_ 32 2147483647#32) reducesTo_S2000_S_d0 h_S_ i
  have hw : ∀ j : Fin 2000, select (cmpf .oeq L (broadcastInDim S2000 ![] bcast_S_S2000 (Host.reduce FloatOps.maximumf L (constant S_ .f32 0xFF800000#32) reducesTo_S2000_S_d0 h_S_ : FVec Ideal S_ .f32))) P (broadcastInDim S2000 ![] bcast_S_S2000 (id (constantI S_ 32 2000#32))) (ValueIdx.ix1 j)
      = if (L (ValueIdx.ix1 j) : EReal) = M then BitVec.ofNat 32 j.val else 2000#32 := fun j => by
    have e : select (cmpf .oeq L (broadcastInDim S2000 ![] bcast_S_S2000 (Host.reduce FloatOps.maximumf L (constant S_ .f32 0xFF800000#32) reducesTo_S2000_S_d0 h_S_ : FVec Ideal S_ .f32))) P (broadcastInDim S2000 ![] bcast_S_S2000 (id (constantI S_ 32 2000#32))) (ValueIdx.ix1 j)
      = if Ideal.cmp .oeq (L (ValueIdx.ix1 j)) ((Host.reduce FloatOps.maximumf L (constant S_ .f32 0xFF800000#32) reducesTo_S2000_S_d0 h_S_ : FVec Ideal S_ .f32) (fun a => a.elim0)) = 1#1 then P (ValueIdx.ix1 j) else 2000#32 := by
        unfold select cmpf broadcastInDim
        refine congrArg (fun z => if Ideal.cmp .oeq (L (ValueIdx.ix1 j)) ((Host.reduce FloatOps.maximumf L (constant S_ .f32 0xFF800000#32) reducesTo_S2000_S_d0 h_S_ : FVec Ideal S_ .f32) z) = 1#1 then P (ValueIdx.ix1 j) else 2000#32) (Subsingleton.elim _ _)
    rw [e, hM, hP]
    exact ite_congr (propext (eq1_iff _ _)) (fun _ => rfl) fun _ => rfl
  unfold firstOf
  obtain ⟨h3, h4⟩ := h2
  have h5 := h3 (ValueIdx.ix1 ⟨Nat.find hex, hf⟩)
  rw [hw, if_pos hfM, toInt_nat _ (show Nat.find hex < 2147483648 by omega)] at h5
  rcases h4 with h4 | ⟨x, h4⟩
  · rw [h4] at h5
    exact absurd h5 (by show ¬ (2147483647#32 : BitVec 32).toInt ≤ _; rw [show (2147483647#32 : BitVec 32).toInt = 2147483647 from by decide]; omega)
  · obtain ⟨y, rfl⟩ : ∃ y : Fin 2000, x = ValueIdx.ix1 y := ⟨x 0, ValueIdx.eq_ix1 x⟩
    rw [hw] at h4
    by_cases hx : (L (ValueIdx.ix1 y) : EReal) = M
    · rw [if_pos hx] at h4
      rw [h4, toInt_nat _ (by omega)] at h5
      have h6 := hmin y hx
      rw [h4]
      congr 1
      show y.val = Nat.find hex
      omega
    · rw [if_neg hx] at h4
      rw [h4, show (2000#32 : BitVec 32).toInt = 2000 from by decide] at h5
      omega

theorem start_at (w : IVec S_ 32) (f n : ℕ) (hf : f < 2000) (hw : ∀ i, w i = BitVec.ofNat 32 f) (i : S_.Idx) :
    (select (cmpi .slt w (constantI S_ 32 0#32)) (addi w (constantI S_ 32 (BitVec.ofNat 32 n))) w i).toInt = f := by
  have e : select (cmpi .slt w (constantI S_ 32 0#32)) (addi w (constantI S_ 32 (BitVec.ofNat 32 n))) w i = if IntOp.cmpi .slt (w i) 0#32 = 1#1 then w i + BitVec.ofNat 32 n else w i := rfl
  rw [e, hw, if_neg, toInt_nat f (by omega)]
  rw [Nms.slt_iff, toInt_nat f (by omega)]
  show ¬ (f : ℤ) < 0
  omega

theorem rowOf_at (R : FVec Ideal S2000x5 .f32) (w : IVec S_ 32) (f : Fin 2000) (hw : ∀ i, w i = BitVec.ofNat 32 f.val) (c : Fin 5) :
    rowOf R w (ValueIdx.ix2 0 c) = R (ValueIdx.ix2 f c) := by
  unfold rowOf
  rw [WordCmp.dynamicSlice_eq_extract S1x5 R _ sliceFits_S2000x5_S1x5 ![f.val, 0] ⟨rfl, fun a => by
      have := f.isLt
      match a with
      | ⟨0, _⟩ => show f.val + 1 ≤ 2000; omega
      | ⟨1, _⟩ => show 0 + 5 ≤ 5; omega⟩ fun a => by
    match a with
    | ⟨0, _⟩ => exact start_at w f.val 2000 f.isLt hw _
    | ⟨1, _⟩ => rfl]
  unfold extractStridedSlice
  refine congrArg R (funext fun a => Fin.ext ?_)
  match a with
  | ⟨0, _⟩ => rfl
  | ⟨1, _⟩ => exact Nat.zero_add _

theorem outOf_at (O : FVec Ideal S100x5 .f32) (r : FVec Ideal S1x5 .f32) (T : IVec S_ 32) (t : Fin 100) (hT : ∀ i, T i = BitVec.ofNat 32 t.val) (k : Fin 100) (c : Fin 5) :
    outOf O r T (ValueIdx.ix2 k c) = if k = t then r (ValueIdx.ix2 0 c) else O (ValueIdx.ix2 k c) := by
  unfold outOf
  rw [id_eq, WordCmp.dynamicUpdateSlice_eq_update O r _ updateFits_S100x5_S1x5 ![t.val, 0] ⟨rfl, fun a => by
      have := t.isLt
      match a with
      | ⟨0, _⟩ => show t.val + 1 ≤ 100; omega
      | ⟨1, _⟩ => show 0 + 5 ≤ 5; omega⟩ fun a => by
    match a with
    | ⟨0, _⟩ => exact start_at T t.val 100 (by omega) hT _
    | ⟨1, _⟩ => rfl]
  unfold updateSlice
  by_cases h : k = t
  · subst h
    rw [if_pos rfl, dif_pos fun a => by
      match a with
      | ⟨0, _⟩ => show k.val ≤ k.val ∧ k.val < k.val + 1; omega
      | ⟨1, _⟩ => show 0 ≤ c.val ∧ c.val < 0 + 5; omega]
    refine congrArg r (funext fun a => Fin.ext ?_)
    match a with
    | ⟨0, _⟩ => exact Nat.sub_self _
    | ⟨1, _⟩ => exact Nat.sub_zero _
  · rw [if_neg h, dif_neg fun h' => h (Fin.ext (by
      have h2 : t.val ≤ k.val ∧ k.val < t.val + 1 := h' (0 : Fin 2)
      omega))]

theorem brow_at (r : FVec Ideal S1x5 .f32) (c : Fin 5) (h : S1x5.Slices ![0, c.val] S1x1) (j : Fin 2000) :
    broadcastInDim S2000 ![0] bcast_S1_S2000_0 (shapeCast S1 (extractStridedSlice S1x1 ![0, c.val] r h) shapeCasts_S1x1_S1) (ValueIdx.ix1 j) = r (ValueIdx.ix2 0 c) := by
  pointwise
  rfl

theorem srow_at (r : FVec Ideal S1x5 .f32) (c : Fin 5) (h : S1x5.Slices ![0, c.val] S1x1) (i : S1.Idx) :
    shapeCast S1 (extractStridedSlice S1x1 ![0, c.val] r h) shapeCasts_S1x1_S1 i = r (ValueIdx.ix2 0 c) := by
  pointwise
  rfl

theorem bcol_at (C : FVec Ideal S2000x4 .f32) (c : Fin 4) (h : S2000x4.Slices ![0, c.val] S2000x1) (j : Fin 2000) :
    shapeCast S2000 (extractStridedSlice S2000x1 ![0, c.val] C h) shapeCasts_S2000x1_S2000 (ValueIdx.ix1 j) = C (ValueIdx.ix2 j c) := by
  pointwise
  rfl

theorem interOf_at (r : FVec Ideal S1x5 .f32) (C : FVec Ideal S2000x4 .f32) (j : Fin 2000) (a b : ℕ → EReal) (ha : ∀ c : Fin 5, r (ValueIdx.ix2 0 c) = a c.val)
    (hb : ∀ c : Fin 4, C (ValueIdx.ix2 j c) = b c.val) : (interOf r C (ValueIdx.ix1 j) : EReal) = inter a b := by
  have e0 := brow_at r 0 slices_S1x5_S1x1_0_0 j
  have e1 := brow_at r 1 slices_S1x5_S1x1_0_1 j
  have e2 := brow_at r 2 slices_S1x5_S1x1_0_2 j
  have e3 := brow_at r 3 slices_S1x5_S1x1_0_3 j
  have c0 := bcol_at C 0 slices_S2000x4_S2000x1_0_0 j
  have c1 := bcol_at C 1 slices_S2000x4_S2000x1_0_1 j
  have c2 := bcol_at C 2 slices_S2000x4_S2000x1_0_2 j
  have c3 := bcol_at C 3 slices_S2000x4_S2000x1_0_3 j
  rw [ha] at e0 e1 e2 e3
  rw [hb] at c0 c1 c2 c3
  unfold interOf mulf maximumf subf minimumf inter
  exact congrArg₂ (fun x y : EReal => x * y)
    (congrArg₂ (fun x y : EReal => max x y) (congrArg₂ (fun x y : EReal => x - y) (congrArg₂ (fun x y : EReal => min x y) e2 c2) (congrArg₂ (fun x y : EReal => max x y) e0 c0)) rfl)
    (congrArg₂ (fun x y : EReal => max x y) (congrArg₂ (fun x y : EReal => x - y) (congrArg₂ (fun x y : EReal => min x y) e3 c3) (congrArg₂ (fun x y : EReal => max x y) e1 c1)) rfl)

theorem ite_or (x y : EReal) (p q : BitVec 32) (u v : EReal) :
    (if IntOp.ori (Ideal.cmp .ogt x y) (IntOp.cmpi .eq p q) = 1#1 then u else v : EReal) = (open Classical in if y < x ∨ p = q then u else v) := by
  unfold IntOp.ori
  rw [if_congr ((Nms.or_iff _ _).trans (or_congr (cmp_ogt x y) (Nms.eq_iff p q))) rfl rfl]

open Classical in
theorem leftOf_at (r : FVec Ideal S1x5 .f32) (C : FVec Ideal S2000x4 .f32) (w : IVec S_ 32) (P : IVec S2000 32) (L : FVec Ideal S2000 .f32) (f j : Fin 2000) (a b : ℕ → EReal)
    (hw : ∀ i, w i = BitVec.ofNat 32 f.val) (hP : ∀ j : Fin 2000, P (ValueIdx.ix1 j) = BitVec.ofNat 32 j.val)
    (ha : ∀ c : Fin 5, r (ValueIdx.ix2 0 c) = a c.val) (hb : ∀ c : Fin 4, C (ValueIdx.ix2 j c) = b c.val) :
    (leftOf r C w P L (ValueIdx.ix1 j) : EReal) = if takes a b ∨ j = f then ⊥ else (L (ValueIdx.ix1 j) : EReal) := by
  have eI := interOf_at r C j a b ha hb
  have e0 := fun i => srow_at r 0 slices_S1x5_S1x1_0_0 i
  have e1 := fun i => srow_at r 1 slices_S1x5_S1x1_0_1 i
  have e2 := fun i => srow_at r 2 slices_S1x5_S1x1_0_2 i
  have e3 := fun i => srow_at r 3 slices_S1x5_S1x1_0_3 i
  have c0 := bcol_at C 0 slices_S2000x4_S2000x1_0_0 j
  have c1 := bcol_at C 1 slices_S2000x4_S2000x1_0_1 j
  have c2 := bcol_at C 2 slices_S2000x4_S2000x1_0_2 j
  have c3 := bcol_at C 3 slices_S2000x4_S2000x1_0_3 j
  simp only [ha] at e0 e1 e2 e3
  rw [hb] at c0 c1 c2 c3
  have hq : ∃ k : S1.Idx, (leftOf r C w P L (ValueIdx.ix1 j) : EReal) = if IntOp.ori (Ideal.cmp .ogt
      (Ideal.div (interOf r C (ValueIdx.ix1 j) : EReal) ((((
        ((shapeCast S1 (extractStridedSlice S1x1 ![0, 2] r slices_S1x5_S1x1_0_2) shapeCasts_S1x1_S1 k : EReal) - (shapeCast S1 (extractStridedSlice S1x1 ![0, 0] r slices_S1x5_S1x1_0_0) shapeCasts_S1x1_S1 k : EReal))
        * ((shapeCast S1 (extractStridedSlice S1x1 ![0, 3] r slices_S1x5_S1x1_0_3) shapeCasts_S1x1_S1 k : EReal) - (shapeCast S1 (extractStridedSlice S1x1 ![0, 1] r slices_S1x5_S1x1_0_1) shapeCasts_S1x1_S1 k : EReal)))
        + (((shapeCast S2000 (extractStridedSlice S2000x1 ![0, 2] C slices_S2000x4_S2000x1_0_2) shapeCasts_S2000x1_S2000 (ValueIdx.ix1 j) : EReal) - (shapeCast S2000 (extractStridedSlice S2000x1 ![0, 0] C slices_S2000x4_S2000x1_0_0) shapeCasts_S2000x1_S2000 (ValueIdx.ix1 j) : EReal))
          * ((shapeCast S2000 (extractStridedSlice S2000x1 ![0, 3] C slices_S2000x4_S2000x1_0_3) shapeCasts_S2000x1_S2000 (ValueIdx.ix1 j) : EReal) - (shapeCast S2000 (extractStridedSlice S2000x1 ![0, 1] C slices_S2000x4_S2000x1_0_1) shapeCasts_S2000x1_S2000 (ValueIdx.ix1 j) : EReal))))
        - (interOf r C (ValueIdx.ix1 j) : EReal)) + Ideal.ofBits .f32 0x322BCC77#32)) (Ideal.ofBits .f32 0x3F000000#32)) (IntOp.cmpi .eq (P (ValueIdx.ix1 j)) (w (fun a => a.elim0))) = 1#1
      then Ideal.ofBits .f32 0xFF800000#32 else (L (ValueIdx.ix1 j) : EReal) := ⟨_, by
    rw [Subsingleton.elim (fun a => a.elim0 : S_.Idx) _]; rfl⟩
  obtain ⟨k, hq⟩ := hq
  have e0 : (shapeCast S1 (extractStridedSlice S1x1 ![0, 0] r slices_S1x5_S1x1_0_0) shapeCasts_S1x1_S1 k : EReal) = a 0 := e0 k
  have e1 : (shapeCast S1 (extractStridedSlice S1x1 ![0, 1] r slices_S1x5_S1x1_0_1) shapeCasts_S1x1_S1 k : EReal) = a 1 := e1 k
  have e2 : (shapeCast S1 (extractStridedSlice S1x1 ![0, 2] r slices_S1x5_S1x1_0_2) shapeCasts_S1x1_S1 k : EReal) = a 2 := e2 k
  have e3 : (shapeCast S1 (extractStridedSlice S1x1 ![0, 3] r slices_S1x5_S1x1_0_3) shapeCasts_S1x1_S1 k : EReal) = a 3 := e3 k
  have c0 : (shapeCast S2000 (extractStridedSlice S2000x1 ![0, 0] C slices_S2000x4_S2000x1_0_0) shapeCasts_S2000x1_S2000 (ValueIdx.ix1 j) : EReal) = b 0 := c0
  have c1 : (shapeCast S2000 (extractStridedSlice S2000x1 ![0, 1] C slices_S2000x4_S2000x1_0_1) shapeCasts_S2000x1_S2000 (ValueIdx.ix1 j) : EReal) = b 1 := c1
  have c2 : (shapeCast S2000 (extractStridedSlice S2000x1 ![0, 2] C slices_S2000x4_S2000x1_0_2) shapeCasts_S2000x1_S2000 (ValueIdx.ix1 j) : EReal) = b 2 := c2
  have c3 : (shapeCast S2000 (extractStridedSlice S2000x1 ![0, 3] C slices_S2000x4_S2000x1_0_3) shapeCasts_S2000x1_S2000 (ValueIdx.ix1 j) : EReal) = b 3 := c3
  rw [hq, eI, e0, e1, e2, e3, c0, c1, c2, c3, hw, hP, ite_or, neg_inf]
  refine if_congr (or_congr Iff.rfl ⟨fun h => ?_, fun h => by rw [h]⟩) rfl rfl
  have h' := congrArg BitVec.toInt h
  rw [toInt_nat _ (by omega), toInt_nat _ (by omega)] at h'
  exact Fin.ext (by omega)

end Cert.Proof.Ref

end

end
-- ==== Proof.RefLoop.lean ====
/-
  The reference's hundred trips: which places are left, which is first, and the rows written.
-/
module

public import proofs.«01_k».proof.Proof.RefStep

@[expose] public section

noncomputable section

namespace Cert.Proof.Ref

open Cert.ReferenceIdeal Cert.ReferenceIdeal.Gen Cert.ReferenceIdeal.Value
open Idealize.ShloMosaic Idealize.ShloMosaic.StableHlo
open Cert.Proof.Nms (takes)

/-- What the loop starts with: the places, the rows with their boxes, no trip made, and every score. -/
structure Start (V : Valuation τ sig (Elt Ideal)) (row : ℕ → ℕ → EReal) : Prop where
  places : ∀ j : Fin 2000, (V (Proc.devRef .tc main_v12_0) : IVec S2000 32) (ValueIdx.ix1 j) = BitVec.ofNat 32 j.val
  rows : ∀ (j : Fin 2000) (c : Fin 5), ((V (Proc.devRef .tc main_v12_1) : FVec Ideal S2000x5 .f32) (ValueIdx.ix2 j c) : EReal) = row j.val c.val
  boxes : ∀ (j : Fin 2000) (c : Fin 4), ((V (Proc.devRef .tc main_v12_2) : FVec Ideal S2000x4 .f32) (ValueIdx.ix2 j c) : EReal) = row j.val c.val
  trips : ∀ i, (V (Proc.devRef .tc main_v12_4) : IVec S_ 32) i = 0#32
  scores : ∀ j : Fin 2000, ((V (Proc.devRef .tc main_v12_5) : FVec Ideal S2000 .f32) (ValueIdx.ix1 j) : EReal) = row j.val 4

section

variable (V : Valuation τ sig (Elt Ideal)) (row : ℕ → ℕ → EReal)

/-- The state after `t` trips. -/
def st (t : ℕ) : Valuation τ sig (Elt Ideal) := STEP^[t] V

theorem st_succ (t : ℕ) : st V (t + 1) = STEP (st V t) := Function.iterate_succ_apply' _ _ _

/-- The scores left after `t` trips. -/
def sc (t : ℕ) : FVec Ideal S2000 .f32 := st V t (Proc.devRef .tc main_v12_5)

theorem st0 (t : ℕ) : st V t (Proc.devRef .tc main_v12_0) = V (Proc.devRef .tc main_v12_0) := by
  induction t with
  | zero => rfl
  | succ t ih => rw [st_succ, STEP_main_v12_0, ih]

theorem st1 (t : ℕ) : st V t (Proc.devRef .tc main_v12_1) = V (Proc.devRef .tc main_v12_1) := by
  induction t with
  | zero => rfl
  | succ t ih => rw [st_succ, STEP_main_v12_1, ih]

theorem st2 (t : ℕ) : st V t (Proc.devRef .tc main_v12_2) = V (Proc.devRef .tc main_v12_2) := by
  induction t with
  | zero => rfl
  | succ t ih => rw [st_succ, STEP_main_v12_2, ih]

variable {V row} (S : Start V row)

include S

theorem st4 (t : ℕ) : ∀ i, (st V t (Proc.devRef .tc main_v12_4) : IVec S_ 32) i = BitVec.ofNat 32 t := by
  induction t with
  | zero => exact S.trips
  | succ t ih =>
    intro i
    rw [st_succ, STEP_main_v12_4]
    refine (congrArg (fun x : BitVec 32 => x + 1#32) (ih i)).trans ?_
    rw [BitVec.ofNat_add]

theorem places_at (t : ℕ) (j : Fin 2000) : (st V t (Proc.devRef .tc main_v12_0) : IVec S2000 32) (ValueIdx.ix1 j) = BitVec.ofNat 32 j.val := by
  rw [st0]; exact S.places j

theorem first_ex (t : ℕ) : ∃ f : Fin 2000, (∀ i, firstOf (sc V t) (st V t (Proc.devRef .tc main_v12_0)) i = BitVec.ofNat 32 f.val)
    ∧ (∀ j : Fin 2000, (sc V t (ValueIdx.ix1 j) : EReal) ≤ sc V t (ValueIdx.ix1 f))
      ∧ ∀ j : Fin 2000, j < f → (sc V t (ValueIdx.ix1 j) : EReal) < sc V t (ValueIdx.ix1 f) :=
  firstOf_spec _ _ (places_at S t)

/-- The first place of the `t`-th trip. -/
def fst (t : ℕ) : Fin 2000 := (first_ex S t).choose

theorem row_at (t : ℕ) (c : Fin 5) :
    (rowOf (F := Ideal) (st V t (Proc.devRef .tc main_v12_1)) (firstOf (sc V t) (st V t (Proc.devRef .tc main_v12_0))) (ValueIdx.ix2 0 c) : EReal) = row (fst S t).val c.val := by
  rw [rowOf_at _ _ _ (first_ex S t).choose_spec.1, st1]
  exact S.rows _ _

open Classical in
theorem sc_succ (t : ℕ) (j : Fin 2000) : (sc V (t + 1) (ValueIdx.ix1 j) : EReal) = if takes (row (fst S t).val) (row j.val) ∨ j = fst S t then ⊥ else (sc V t (ValueIdx.ix1 j) : EReal) := by
  unfold sc
  rw [st_succ, STEP_main_v12_5]
  exact leftOf_at _ _ _ _ _ (fst S t) j _ _ (first_ex S t).choose_spec.1 (places_at S t) (row_at S t) fun c => by rw [st2]; exact S.boxes j c

theorem out_succ (t : ℕ) (ht : t < 100) (k : Fin 100) (c : Fin 5) :
    ((st V (t + 1) (Proc.devRef .tc main_v12_6) : FVec Ideal S100x5 .f32) (ValueIdx.ix2 k c) : EReal)
      = if k.val = t then row (fst S t).val c.val else ((st V t (Proc.devRef .tc main_v12_6) : FVec Ideal S100x5 .f32) (ValueIdx.ix2 k c) : EReal) := by
  rw [st_succ, STEP_main_v12_6]
  refine (outOf_at (st V t (Proc.devRef .tc main_v12_6)) _ _ ⟨t, ht⟩ (st4 S t) k c).trans ?_
  by_cases h : k = ⟨t, ht⟩
  · rw [if_pos h, if_pos (congrArg Fin.val h)]
    exact row_at S t c
  · rw [if_neg h, if_neg fun h' => h (Fin.ext h')]

theorem out_upto (t : ℕ) (ht : t ≤ 100) (k : Fin 100) (hk : k.val < t) (c : Fin 5) :
    ((st V t (Proc.devRef .tc main_v12_6) : FVec Ideal S100x5 .f32) (ValueIdx.ix2 k c) : EReal) = row (fst S k.val).val c.val := by
  induction t with
  | zero => omega
  | succ t ih =>
    rw [out_succ S t (by omega)]
    by_cases h : k.val = t
    · rw [if_pos h, h]
    · rw [if_neg h, ih (by omega) (by omega)]

theorem sc_or (t : ℕ) (j : Fin 2000) : (sc V t (ValueIdx.ix1 j) : EReal) = ⊥ ∨ (sc V t (ValueIdx.ix1 j) : EReal) = row j.val 4 := by
  induction t with
  | zero => exact Or.inr (S.scores j)
  | succ t ih =>
    rw [sc_succ S]
    split
    · exact Or.inl rfl
    · exact ih

/-- The place `j` is left after `t` trips. -/
def here (V : Valuation τ sig (Elt Ideal)) (t j : ℕ) : Prop := ∃ h : j < 2000, (⊥ : EReal) < sc V t (ValueIdx.ix1 (⟨j, h⟩ : Fin 2000))

theorem here_zero (hb : ∀ j < 2000, ⊥ < row j 4) (j : ℕ) (hj : j < 2000) : here V 0 j := ⟨hj, (hb j hj).trans_eq (S.scores ⟨j, hj⟩).symm⟩

theorem here_succ (t j : ℕ) : here V (t + 1) j ↔ here V t j ∧ ¬(takes (row (fst S t).val) (row j) ∨ j = (fst S t).val) := by
  constructor
  · rintro ⟨hj, h⟩
    rw [sc_succ S] at h
    split at h
    · exact absurd h (lt_irrefl _)
    · rename_i h'
      exact ⟨⟨hj, h⟩, fun h'' => h' (h''.imp id fun e => Fin.ext e)⟩
  · rintro ⟨⟨hj, h⟩, h'⟩
    refine ⟨hj, ?_⟩
    rw [sc_succ S, if_neg fun h'' => h' (h''.imp id fun e => congrArg Fin.val e)]
    exact h

theorem fst_some (hm : ∀ i j, i < j → j < 2000 → row j 4 ≤ row i 4) (t : ℕ) (h : ∃ j, j < 2000 ∧ here V t j) :
    (fst S t).val < 2000 ∧ here V t (fst S t).val ∧ ∀ j, j < 2000 → here V t j → (fst S t).val ≤ j := by
  obtain ⟨j, -, hj, hs⟩ := h
  obtain ⟨-, h1, h2⟩ := (first_ex S t).choose_spec
  have hf : (⊥ : EReal) < sc V t (ValueIdx.ix1 (fst S t)) := hs.trans_le (h1 _)
  refine ⟨(fst S t).isLt, ⟨(fst S t).isLt, hf⟩, ?_⟩
  rintro j - ⟨hj, hs⟩
  by_contra hlt
  have h3 := h2 ⟨j, hj⟩ (Fin.lt_def.mpr (not_le.mp hlt))
  have h4 := hm j (fst S t).val (not_le.mp hlt) (fst S t).isLt
  rw [(sc_or S t ⟨j, hj⟩).resolve_left hs.ne'] at h3
  have h5 := (sc_or S t (fst S t)).resolve_left hf.ne'
  exact absurd (h3.trans_eq h5) (not_lt.mpr h4)

theorem fst_none (t : ℕ) (h : ¬∃ j, j < 2000 ∧ here V t j) : (fst S t).val = 0 := by
  by_contra h0
  obtain ⟨-, h1, h2⟩ := (first_ex S t).choose_spec
  have h3 := h2 ⟨0, by decide⟩ (Fin.lt_def.mpr (Nat.pos_of_ne_zero h0))
  exact h ⟨(fst S t).val, (fst S t).isLt, (fst S t).isLt, bot_le.trans_lt h3⟩

end

end Cert.Proof.Ref

end

end
-- ==== Proof.RefEntry.lean ====
/-
  What the reference's loop starts with: the rows of the two thousand best keys.
-/
module

public import proofs.«01_k».proof.Proof.TopK
public import proofs.«01_k».proof.Proof.RefLoop
public import proofs.«01_k».proof.Proof.Row
public import Idealize.ShloMosaic.Lib.StableHlo.ReadAt
public import Idealize.ShloMosaic.Lib.ValueIdxCore
public import Idealize.ShloMosaic.Lib.PointwiseCore
public import Idealize.ShloMosaic.Lib.Routing.Ops

@[expose] public section

noncomputable section

namespace Cert.Proof.Ref

open Cert.ReferenceIdeal Cert.ReferenceIdeal.Gen Cert.ReferenceIdeal.Value
open Idealize.ShloMosaic Idealize.ShloMosaic.StableHlo

section

variable (m : (ℓ : Loc nD τ sig) → Buf (Elt Ideal) ℓ) (c : Dev nD)

/-- The boxes. -/
abbrev arg0 : FVec Ideal S20000x4 .f32 := m ((c.tc : Thread nD τ).loc main_arg0)
/-- The keys. -/
abbrev arg1 : IVec S20000 32 := m ((c.tc : Thread nD τ).loc main_arg1)

/-- The best scores and their places. -/
def best2 : FVec Ideal S2000 .f32 × IVec S2000 32 := Host.topK S2000 0 (FloatOps.cmpfTotal .gt) (bitcastToFloat .f32 (arg1 m c)) sliceFits_S20000_S2000

/-- Their places as the gather takes them. -/
def where2 : IVec S2000x1 32 := broadcastInDim S2000x1 ![0] bcast_S2000_S2000x1_0 (select (cmpi .slt (best2 m c).2 (broadcastInDim S2000 ![] bcast_S_S2000 (constantI S_ 32 0#32)))
  (addi (best2 m c).2 (broadcastInDim S2000 ![] bcast_S_S2000 (constantI S_ 32 20000#32))) (best2 m c).2)

/-- Their boxes. -/
def boxes2 : FVec Ideal S2000x4 .f32 := Host.gather gather_S20000x4_S2000x1_S2000x4_1_0_n_n_0_1_14 (arg0 m c) (where2 m c)

theorem entry0 : (entryContents preI m c (Proc.devRef .tc main_v12_0) : IVec S2000 32) = iotaInDim S2000 32 0 := by
  simp only [entryContents, afterL_cons, afterL_nil]
  after_reads_simp
  rfl

theorem entry1 : (entryContents preI m c (Proc.devRef .tc main_v12_1) : FVec Ideal S2000x5 .f32)
    = concatenate S2000x5 1 [⟨S2000x4, boxes2 m c⟩, ⟨S2000x1, broadcastInDim S2000x1 ![0] bcast_S2000_S2000x1_0 (best2 m c).1⟩] concatenates_S2000x4_S2000x1_S2000x5_d1 := by
  simp only [entryContents, afterL_cons, afterL_nil]
  after_reads_simp
  have e7 : (upto hostOps0 (launchContents m c) 13 (Proc.devRef .tc main_v7) : FVec Ideal S2000x4 .f32) = boxes2 m c := by
    after_reads_simp
    rfl
  have e8 : (upto hostOps0 (launchContents m c) 13 (Proc.devRef .tc main_v8) : FVec Ideal S2000x1 .f32) = broadcastInDim S2000x1 ![0] bcast_S2000_S2000x1_0 (best2 m c).1 := by
    after_reads_simp
    rfl
  exact congrArg₂ (fun (a : FVec Ideal S2000x4 .f32) (b : FVec Ideal S2000x1 .f32) => concatenate S2000x5 1 [⟨S2000x4, a⟩, ⟨S2000x1, b⟩] concatenates_S2000x4_S2000x1_S2000x5_d1) e7 e8

theorem entry2 : (entryContents preI m c (Proc.devRef .tc main_v12_2) : FVec Ideal S2000x4 .f32) = boxes2 m c := by
  simp only [entryContents, afterL_cons, afterL_nil]
  after_reads_simp
  rfl

theorem entry4 : (entryContents preI m c (Proc.devRef .tc main_v12_4) : IVec S_ 32) = constantI S_ 32 0#32 := by
  simp only [entryContents, afterL_cons, afterL_nil]
  after_reads_simp
  rfl

theorem entry5 : (entryContents preI m c (Proc.devRef .tc main_v12_5) : FVec Ideal S2000 .f32) = (best2 m c).1 := by
  simp only [entryContents, afterL_cons, afterL_nil]
  after_reads_simp
  rfl

variable (hk : ∀ p : Fin 20000, 0 ≤ (arg1 m c (ValueIdx.ix1 p)).toInt ∧ (arg1 m c (ValueIdx.ix1 p)).toInt < 1065353216)

include hk

theorem best2_at (j : Fin 2000) : ∃ p : Fin 20000, p.val = rho 20000 (Nms.keys (arg1 m c)) j.val
    ∧ ((best2 m c).1 (ValueIdx.ix1 j) : EReal) = Ideal.ofBits .f32 (arg1 m c (ValueIdx.ix1 p)) ∧ (best2 m c).2 (ValueIdx.ix1 j) = BitVec.ofNat 32 p.val := by
  have h := topK_at 20000 (Nms.keys (arg1 m c)) (FloatOps.cmpfTotal (F := Ideal) (φ := .f32) .gt) (bitcastToFloat .f32 (arg1 m c)) sliceFits_S20000_S2000 (by omega) (fun i i' => by
    refine (Nms.cmp_ogt _ _).trans ?_
    rw [Nms.keys_at, Nms.keys_at]
    exact ofBits_lt (hk i').1 (hk i').2 (hk i).1 (hk i).2) j
  exact ⟨⟨_, rho_lt 20000 (Nms.keys (arg1 m c)) j.val (by omega)⟩, rfl, h.1, h.2⟩

theorem boxes2_at (j : Fin 2000) (p : Fin 20000) (hp : (best2 m c).2 (ValueIdx.ix1 j) = BitVec.ofNat 32 p.val) (i : Fin 4) :
    boxes2 m c (ValueIdx.ix2 j i) = arg0 m c (ValueIdx.ix2 p i) := by
  have hw : where2 m c (ValueIdx.ix2 j 0) = BitVec.ofNat 32 p.val := by
    have e : where2 m c (ValueIdx.ix2 j 0) = if IntOp.cmpi .slt ((best2 m c).2 (ValueIdx.ix1 j)) 0#32 = 1#1 then (best2 m c).2 (ValueIdx.ix1 j) + 20000#32 else (best2 m c).2 (ValueIdx.ix1 j) := by
      unfold where2
      pointwise
      rfl
    rw [e, hp, if_neg]
    rw [Nms.slt_iff, toInt_nat _ (by omega)]
    show ¬ (p.val : ℤ) < 0
    omega
  exact Routing.gather_row _ rfl rfl rfl rfl rfl (arg0 m c) (where2 m c) j i p hw (by decide)

theorem start_ok : Start (entryContents preI m c) (fun j => Nms.rowIn (arg0 m c) (arg1 m c) (rho 20000 (Nms.keys (arg1 m c)) j)) where
  places j := by rw [entry0]; rfl
  rows j i := by
    obtain ⟨p, hp, h1, h2⟩ := best2_at m c hk j
    rw [entry1, ← hp]
    unfold Nms.rowIn
    rw [dif_pos p.isLt]
    by_cases h : i.val < 4
    · rw [dif_pos h]
      refine Eq.trans ?_ (boxes2_at m c hk j p h2 ⟨i.val, h⟩)
      pointwise
      exact dif_pos h
    · rw [dif_neg h]
      refine Eq.trans ?_ h1
      pointwise
      exact dif_neg h
  boxes j i := by
    obtain ⟨p, hp, h1, h2⟩ := best2_at m c hk j
    rw [entry2, ← hp]
    unfold Nms.rowIn
    rw [dif_pos p.isLt, dif_pos i.isLt]
    exact boxes2_at m c hk j p h2 i
  trips i := by rw [entry4]; rfl
  scores j := by
    obtain ⟨p, hp, h1, h2⟩ := best2_at m c hk j
    rw [entry5, ← hp]
    unfold Nms.rowIn
    rw [dif_pos p.isLt, dif_neg (by decide)]
    exact h1

end

end Cert.Proof.Ref

end

end
-- ==== Proof.Final.lean ====
/-
  The tiles' picks are the reference's: the same rows, round by round.
-/
module

public import proofs.«01_k».proof.Proof.KerIn
public import proofs.«01_k».proof.Proof.Drawn
public import proofs.«01_k».proof.Proof.Overlap
public import proofs.«01_k».proof.Proof.RefEntry

@[expose] public section

noncomputable section

namespace Cert.Proof.Nms

open Cert.KernelIdeal Cert.KernelIdeal.Gen
open Idealize.ShloMosaic
open Cert.Proof.Ref (rho rho_lt rho_prec rho_onto Start)

theorem takes_congr {a a' b b' : ℕ → EReal} (ha : ∀ c, c < 4 → a c = a' c) (hb : ∀ c, c < 4 → b c = b' c) : takes a b ↔ takes a' b' := by
  unfold takes quot inter
  rw [ha 0 (by decide), ha 1 (by decide), ha 2 (by decide), ha 3 (by decide), hb 0 (by decide), hb 1 (by decide), hb 2 (by decide), hb 3 (by decide)]

section

variable (m : (ℓ : Loc nD τ sig) → Buf (Elt Ideal) ℓ) (d : Dev nD)

/-- What the tiles are given. -/
abbrev I₀ : Inp Ideal := jn (args m) d

/-- The places in the order of their keys. -/
abbrev rh (j : ℕ) : ℕ := rho 20000 (keys (kArg1 m d)) j

/-- Their rows. -/
abbrev rw₀ (j : ℕ) : ℕ → EReal := rowIn (kArg0 m d) (kArg1 m d) (rh m d j)

variable {m d} (R : Ranged (kArg0 m d) (kArg1 m d))

include R

theorem key_in (p : ℕ) (hp : p < 20000) : 0 ≤ kyi (I₀ m d) p ∧ kyi (I₀ m d) p < 1065353216 := by
  rw [kyi_keys m d p (by omega)]
  unfold keys
  rw [dif_pos hp]
  exact R.key ⟨p, hp⟩

omit R in
theorem key_out (p : ℕ) (hp : p < 20224) (h : 20000 ≤ p) : kyi (I₀ m d) p = -1 := by
  rw [kyi_keys m d p hp]
  unfold keys
  rw [dif_neg (by omega)]

theorem key_lt (p : ℕ) (hp : p < 20224) : -1 ≤ kyi (I₀ m d) p ∧ kyi (I₀ m d) p < 1065353216 := by
  rcases Nat.lt_or_ge p 20000 with h | h
  · have := key_in R p h
    omega
  · rw [key_out p hp h]
    omega

theorem enough : 2000 ≤ nGe (I₀ m d) 0 := by
  unfold nGe
  have h1 : Nat.count (fun q => 0 ≤ kyi (I₀ m d) q) 20000 = 20000 := Nat.count_iff_forall.mpr fun q hq => (key_in R q hq).1
  have h2 := Nat.count_monotone (fun q => 0 ≤ kyi (I₀ m d) q) (show 20000 ≤ 20224 by omega)
  omega

omit R in
theorem prec_keys (p q : ℕ) (hp : p < 20224) (hq : q < 20224) : Prec (kyi (I₀ m d)) p q ↔ Prec (keys (kArg1 m d)) p q := by
  unfold Prec
  rw [kyi_keys m d p hp, kyi_keys m d q hq]

omit R in
theorem rh_lt (j : ℕ) (hj : j < 20000) : rh m d j < 20000 := rho_lt _ _ j hj

omit R in
theorem rh_prec (i j : ℕ) (hij : i < j) (hj : j < 20000) : Prec (kyi (I₀ m d)) (rh m d i) (rh m d j) :=
  (prec_keys _ _ (by have := rh_lt (m := m) (d := d) i (by omega); omega) (by have := rh_lt (m := m) (d := d) j hj; omega)).mpr (rho_prec _ _ i j hij hj)

/-- The place `p` is left after `t` rounds. -/
def lft (m : (ℓ : Loc nD τ sig) → Buf (Elt Ideal) ℓ) (d : Dev nD) (t p : ℕ) : Prop := 0 ≤ ((at_ (kmT (I₀ m d) t) p : BitVec 32)).toInt

theorem kmT_zero (p : ℕ) (hp : p < 20224) : at_ (kmT (I₀ m d) 0) p = if rank (kyi (I₀ m d)) 20224 p < 2000 then ky (I₀ m d) p else 4294967295#32 :=
  km₀_at (I₀ m d) (fun q hq => (key_lt R q hq).2) (enough R) p hp

theorem rank_rh (p : ℕ) (hp : p < 20224) : rank (kyi (I₀ m d)) 20224 p < 2000 ↔ ∃ j, j < 2000 ∧ p = rh m d j :=
  rank_lt_iff (kyi (I₀ m d)) 20000 20224 2000 (by omega) (by omega) (rh m d) (fun i j hij hj => rh_prec i j hij hj) (fun j hj => rh_lt j hj)
    (fun p hp => rho_onto _ _ p hp) (fun p q hp hq hq' => by
      have h1 := key_in R p hp
      have h2 := key_out (m := m) (d := d) q hq' hq
      omega) p hp

theorem lft_zero (p : ℕ) (hp : p < 20224) : lft m d 0 p ↔ ∃ j, j < 2000 ∧ p = rh m d j := by
  unfold lft
  rw [kmT_zero R p hp, ← rank_rh R p hp]
  by_cases h : rank (kyi (I₀ m d)) 20224 p < 2000
  · rw [if_pos h]
    refine ⟨fun _ => h, fun _ => ?_⟩
    obtain ⟨j, hj, rfl⟩ := (rank_rh R p hp).mp h
    exact (key_in R _ (rh_lt j (by omega))).1
  · rw [if_neg h]
    exact ⟨fun h' => absurd h' (by decide), fun h' => absurd h' h⟩

/-- A word is its key or −1. -/
theorem kmT_or (t p : ℕ) (hp : p < 20224) : at_ (kmT (I₀ m d) t) p = ky (I₀ m d) p ∨ at_ (kmT (I₀ m d) t) p = 4294967295#32 := by
  induction t with
  | zero =>
    rw [kmT_zero R p hp]
    split
    · exact Or.inl rfl
    · exact Or.inr rfl
  | succ t ih =>
    rw [kmT_succ _ t p hp]
    split
    · exact Or.inr rfl
    · exact ih

theorem kmT_ge (t p : ℕ) (hp : p < 20224) : -1 ≤ ((at_ (kmT (I₀ m d) t) p : BitVec 32)).toInt := by
  rcases kmT_or R t p hp with h | h
  · rw [h]
    exact (key_lt R p hp).1
  · rw [h]
    decide

theorem lft_key (t p : ℕ) (hp : p < 20224) (h : lft m d t p) : ((at_ (kmT (I₀ m d) t) p : BitVec 32)).toInt = kyi (I₀ m d) p := by
  rcases kmT_or R t p hp with h' | h'
  · rw [h']
    rfl
  · unfold lft at h
    rw [h'] at h
    exact absurd h (by decide)

omit R in
theorem lft_succ (t p : ℕ) (hp : p < 20224) : lft m d (t + 1) p ↔ lft m d t p ∧ ¬ hits (I₀ m d) (gT (I₀ m d) t) p := by
  unfold lft
  rw [kmT_succ _ t p hp]
  split
  · rename_i h
    exact ⟨fun h' => absurd h' (by decide), fun h' => absurd h h'.2⟩
  · rename_i h
    exact ⟨fun h' => ⟨h', h⟩, fun h' => h'.1⟩

theorem best_iff (t : ℕ) : 0 ≤ (best (F := Ideal) (kmT (I₀ m d) t)).toInt ↔ ∃ p, p < 20224 ∧ lft m d t p := by
  obtain ⟨h1, h2, -⟩ := gpos_spec (F := Ideal) (kmT (I₀ m d) t) (kmT_ge R t)
  constructor
  · intro h
    refine ⟨gpos (F := Ideal) (kmT (I₀ m d) t), gpos_lt _, ?_⟩
    unfold lft
    rw [h1]
    exact h
  · rintro ⟨p, hp, h⟩
    exact le_trans h (h2 p hp)

theorem gT_spec (t : ℕ) (h : ∃ p, p < 20224 ∧ lft m d t p) :
    gT (I₀ m d) t < 20224 ∧ lft m d t (gT (I₀ m d) t) ∧ ∀ p, p < 20224 → lft m d t p → ¬ Prec (kyi (I₀ m d)) p (gT (I₀ m d) t) := by
  obtain ⟨h1, h2, h3⟩ := gpos_spec (F := Ideal) (kmT (I₀ m d) t) (kmT_ge R t)
  have hg : gT (I₀ m d) t < 20224 := gpos_lt _
  have hl : lft m d t (gT (I₀ m d) t) := by
    unfold lft gT
    rw [h1]
    exact (best_iff R t).mpr h
  have hb : (best (F := Ideal) (kmT (I₀ m d) t)).toInt = kyi (I₀ m d) (gT (I₀ m d) t) := by
    rw [← lft_key R t _ hg hl, ← h1]
    rfl
  refine ⟨hg, hl, fun p hp hA => ?_⟩
  have h4 := h2 p hp
  rw [lft_key R t p hp hA, hb] at h4
  rintro (h | ⟨h, h'⟩)
  · omega
  · have h5 := h3 p h'
    rw [lft_key R t p hp hA, hb] at h5
    omega

omit R in
theorem hits_rows (i j : ℕ) (hi : i < 2000) (hj : j < 2000) : hits (I₀ m d) (rh m d i) (rh m d j) ↔ takes (rw₀ m d i) (rw₀ m d j) :=
  (hits_iff _ _ _).trans (takes_congr (fun c hc => bx_row m d _ (rh_lt i (by omega)) c (by omega)) fun c hc => bx_row m d _ (rh_lt j (by omega)) c (by omega))

theorem hits_self (j : ℕ) (hj : j < 2000) : hits (I₀ m d) (rh m d j) (rh m d j) := by
  rw [hits_rows j j hj hj]
  have hp := rh_lt (m := m) (d := d) j (by omega)
  have e : ∀ (c : ℕ) (h : c < 4), rw₀ m d j c = kArg0 m d (ValueIdx.ix2 (⟨rh m d j, hp⟩ : Fin 20000) (⟨c, h⟩ : Fin 4)) := fun c h => by
    unfold rw₀ rowIn
    rw [dif_pos hp, dif_pos h]
  refine takes_self _ (fun c h => ?_) (fun c h => ?_) ?_ ?_
  · rw [e c h]; exact R.low _ _
  · rw [e c h]; exact R.high _ _
  · rw [e 2 (by decide), e 0 (by decide)]; exact R.wide _
  · rw [e 3 (by decide), e 1 (by decide)]; exact R.tall _

open Cert.Proof.Ref in
/-- The tiles' rows are the reference's. -/
theorem rows_match (V : Valuation Cert.ReferenceIdeal.τ Cert.ReferenceIdeal.sig (Elt Ideal)) (S : Start V (rw₀ m d)) (t : ℕ) (ht : t < 100) (c : ℕ) (hc : c < 5) (x : S500.Idx)
    (hx : (x 0).val = 5 * t + c) : (out (I₀ m d) x : EReal) = rw₀ m d (fst S t).val c := by
  have hsc : ∀ j, j < 2000 → rw₀ m d j 4 = Ideal.ofBits .f32 (ky (I₀ m d) (rh m d j)) ∧ kyi (I₀ m d) (rh m d j) = (ky (I₀ m d) (rh m d j)).toInt := fun j hj => by
    have hp := rh_lt (m := m) (d := d) j (by omega)
    unfold rw₀ rowIn
    rw [dif_pos hp, dif_neg (by decide), ky_in m d _ hp]
    exact ⟨rfl, by unfold kyi; rw [ky_in m d _ hp]⟩
  have hkr : ∀ j, j < 2000 → 0 ≤ (ky (I₀ m d) (rh m d j)).toInt ∧ (ky (I₀ m d) (rh m d j)).toInt < 1065353216 := fun j hj => key_in R _ (rh_lt j (by omega))
  have hb : ∀ j, j < 2000 → ⊥ < rw₀ m d j 4 := fun j hj => by
    rw [(hsc j hj).1]
    exact ofBits_ne_bot (hkr j hj).1 (hkr j hj).2
  have hm : ∀ i j, i < j → j < 2000 → rw₀ m d j 4 ≤ rw₀ m d i 4 := fun i j hij hj => by
    rw [(hsc j hj).1, (hsc i (by omega)).1, ← not_lt, ofBits_lt (hkr i (by omega)).1 (hkr i (by omega)).2 (hkr j hj).1 (hkr j hj).2]
    have h := rh_prec (m := m) (d := d) i j hij (by omega)
    unfold Prec at h
    rw [(hsc j hj).2, (hsc i (by omega)).2] at h
    omega
  have hM := rounds_match (kyi (I₀ m d)) 20224 2000 (by omega) (rh m d) (hits (I₀ m d)) (lft m d) (here V) (gT (I₀ m d)) (fun t => (fst S t).val)
    (fun i j hij hj => rh_prec i j hij (by omega)) (fun j hj => by have := rh_lt (m := m) (d := d) j (by omega); omega)
    (lft_zero R) (lft_succ) (gT_spec R) (here_zero S hb)
    (fun t j hj => (here_succ S t j).trans (and_congr Iff.rfl (not_congr (or_congr (hits_rows _ _ (fst S t).isLt hj).symm Iff.rfl))))
    (fst_some S hm) (fst_none S) (hits_self R) t
  have h0 : 0 ≤ (best (F := Ideal) (kmT (I₀ m d) 0)).toInt :=
    (best_iff R 0).mpr ⟨rh m d 0, by have := rh_lt (m := m) (d := d) 0 (by omega); omega, (lft_zero R _ (by have := rh_lt (m := m) (d := d) 0 (by omega); omega)).mpr ⟨0, by omega, rfl⟩⟩
  have hr : (bx (I₀ m d) c (rh m d (fst S t).val) : EReal) = rw₀ m d (fst S t).val c := bx_row m d _ (rh_lt _ (by have := (fst S t).isLt; omega)) c hc
  rw [out_at (I₀ m d) h0 t c ht hc x hx]
  by_cases h : ∃ p, p < 20224 ∧ lft m d t p
  · rw [if_neg (not_lt.mpr ((best_iff R t).mpr h)), hM.2.1 h, hr]
  · rw [if_pos (not_le.mp fun h' => h ((best_iff R t).mp h')), hM.2.2 h, hr]

end

theorem flat_at (f : FVec Ideal S500 .f32) (t : Fin 100) (c : Fin 5) : ∃ x : S500.Idx, (x 0).val = 5 * t.val + c.val ∧ shapeCast S100x5 f shapeCasts_S500_S100x5 (ValueIdx.ix2 t c) = f x := by
  have h : 5 * t.val + c.val < 500 := by omega
  refine ⟨ValueIdx.ix1 ⟨5 * t.val + c.val, h⟩, rfl, ?_⟩
  pointwise
  refine congrArg f (congrArg ValueIdx.ix1 (Fin.ext ?_))
  show t.val * 5 + c.val = 5 * t.val + c.val
  omega

end Cert.Proof.Nms

end

end
-- ==== Proof.RefRun.lean ====
/-
  The reference's program: it runs to its end from any memory, and has no semaphore to leave raised.
-/
module

public import proofs.«01_k».proof.Defs
public import proofs.«01_k».proof.Proof.Gen.ReferenceIdeal
public import proofs.«01_k».proof.Proof.Gen.ReferenceIdeal.Run

@[expose] public section

noncomputable section

namespace Cert.Proof.Ref

open Cert.ReferenceIdeal
open Idealize.ShloMosaic Idealize.SL.Sem

/-- There is no semaphore. -/
theorem no_sem (sm : SemLoc Cert.ReferenceIdeal.sig) : False := by
  cases sm with
  | reg i => exact i.elim0
  | dma i => exact i.elim0

theorem frame_ref : Cert.quiescent_ReferenceIdeal := fun m ρ _ =>
  (θ_run Cert.ReferenceIdeal.defs _ _).mono (fun _ h => ⟨fun c => (h c).2, funext fun g => (no_sem g.2).elim⟩) (Value.run (F := Ideal) m ρ)

end Cert.Proof.Ref

end

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Main
public import proofs.«01_k».proof.Proof.Final
public import proofs.«01_k».proof.Proof.RefRun
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => (h.1 c).2, h.2⟩) (Nms.run_main (F := Bits) m ρ)

theorem frame_kernelIdeal : Cert.quiescent_KernelIdeal := fun m ρ _ =>
  (θ_run Cert.KernelIdeal.defs _ _).mono (fun _ h => ⟨fun c => (h.1 c).2, h.2⟩) (Nms.run_main (F := Ideal) m ρ)

theorem frame_kernelIdeal_drawn [hPre_drawn : Cert.Pre_drawn.Facts] : Cert.quiescent_KernelIdeal_pre_drawn := fun m ρ _ => frame_kernelIdeal m ρ trivial

theorem frame_reference_drawn [hPre_drawn : Cert.Pre_drawn.Facts] : Cert.quiescent_ReferenceIdeal_pre_drawn := fun m ρ _ => Ref.frame_ref m ρ trivial

theorem values [hPre_drawn : Cert.Pre_drawn.Facts] : Cert.algebraic_KernelIdeal_ReferenceIdeal_pre_drawn := fun m ρ m' ρ' hpre hargs => by
  refine ⟨fun c => shapeCast Cert.KernelIdeal.S100x5 (Nms.out (Nms.jn (Nms.args m) c)) Cert.KernelIdeal.Gen.shapeCasts_S500_S100x5,
    (θ_run Cert.KernelIdeal.defs _ _).mono (fun _ h => h.1) (Nms.run_main (F := Ideal) m ρ),
    (θ_run Cert.ReferenceIdeal.defs _ _).mono (fun r h c => ⟨(h c).1.trans ?_, (h c).2⟩) (Cert.ReferenceIdeal.Value.run (F := Ideal) m' ρ')⟩
  have R : Nms.Ranged (Nms.kArg0 m c) (Nms.kArg1 m c) := Nms.ranged _ _ (hpre c)
  have e0 : Ref.arg0 m' c = Nms.kArg0 m c := (hargs c).1
  have e1 : Ref.arg1 m' c = Nms.kArg1 m c := (hargs c).2
  have S := Ref.start_ok m' c (by rw [e1]; exact R.key)
  rw [e0, e1] at S
  refine funext fun (i : Cert.ReferenceIdeal.S100x5.Idx) => ?_
  obtain ⟨s, k, rfl⟩ : ∃ (s : Fin 100) (k : Fin 5), i = ValueIdx.ix2 s k := ⟨i 0, i 1, ValueIdx.eq_ix2 i⟩
  obtain ⟨x, hx, e⟩ := Nms.flat_at (Nms.out (Nms.jn (Nms.args m) c)) s k
  exact (Ref.out_upto S 100 (le_refl _) s s.isLt k).trans ((Nms.rows_match R _ S s.val s.isLt k.val k.isLt x hx).symm.trans e.symm)

theorem claim : Cert.Claim := ⟨Cert.Kernel.Gen.facts, Cert.KernelIdeal.Gen.facts, Cert.ReferenceIdeal.Gen.facts, Nms.preFacts, frame_kernel, frame_kernelIdeal,
  frame_kernelIdeal_drawn (hPre_drawn := Nms.preFacts), Ref.frame_ref, frame_reference_drawn (hPre_drawn := Nms.preFacts), trivial, values (hPre_drawn := Nms.preFacts)⟩

end Cert.Proof

end
